-- ==== Defs.lean ====
def Pre_Moe (m : (ℓ : Loc Cert.Moe.nD Cert.Moe.τ Cert.Moe.sig) → Buf (Elt Bits) ℓ) : Prop :=
  True

def Pre_MoeIdeal (m : (ℓ : Loc Cert.MoeIdeal.nD Cert.MoeIdeal.τ Cert.MoeIdeal.sig) → Buf (Elt Ideal) ℓ) : Prop :=
  True

def Pre_MoeIdeal_gates_real [hPre_gates_real : Cert.Pre_gates_real.Facts] (m : (ℓ : Loc Cert.MoeIdeal.nD Cert.MoeIdeal.τ Cert.MoeIdeal.sig) → Buf (Elt Ideal) ℓ) : Prop :=
  ∀ c : Dev Cert.MoeIdeal.nD,
    (Cert.Pre_gates_real.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)) (m ((c.tc : Thread Cert.MoeIdeal.nD Cert.MoeIdeal.τ).loc Cert.MoeIdeal.main_arg8))) = (fun _ => 1#1)

def Pre_MoeReferenceIdeal (m : (ℓ : Loc Cert.MoeReferenceIdeal.nD Cert.MoeReferenceIdeal.τ Cert.MoeReferenceIdeal.sig) → Buf (Elt Ideal) ℓ) : Prop :=
  True

def Pre_MoeReferenceIdeal_gates_real [hPre_gates_real : Cert.Pre_gates_real.Facts] (m : (ℓ : Loc Cert.MoeReferenceIdeal.nD Cert.MoeReferenceIdeal.τ Cert.MoeReferenceIdeal.sig) → Buf (Elt Ideal) ℓ) : Prop :=
  ∀ c : Dev Cert.MoeReferenceIdeal.nD,
    (Cert.Pre_gates_real.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5)) (m ((c.tc : Thread Cert.MoeReferenceIdeal.nD Cert.MoeReferenceIdeal.τ).loc Cert.MoeReferenceIdeal.main_arg6)) (m ((c.tc : Thread Cert.MoeReferenceIdeal.nD Cert.MoeReferenceIdeal.τ).loc Cert.MoeReferenceIdeal.main_arg7)) (m ((c.tc : Thread Cert.MoeReferenceIdeal.nD Cert.MoeReferenceIdeal.τ).loc Cert.MoeReferenceIdeal.main_arg8))) = (fun _ => 1#1)

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_HyenaIn (m : (ℓ : Loc Cert.HyenaIn.nD Cert.HyenaIn.τ Cert.HyenaIn.sig) → Buf (Elt Bits) ℓ) : Prop :=
  True

def Pre_HyenaInIdeal (m : (ℓ : Loc Cert.HyenaInIdeal.nD Cert.HyenaInIdeal.τ Cert.HyenaInIdeal.sig) → Buf (Elt Ideal) ℓ) : Prop :=
  True

def Pre_HyenaInReferenceIdeal (m : (ℓ : Loc Cert.HyenaInReferenceIdeal.nD Cert.HyenaInReferenceIdeal.τ Cert.HyenaInReferenceIdeal.sig) → Buf (Elt Ideal) ℓ) : Prop :=
  True

def Pre_MixerConv (m : (ℓ : Loc Cert.MixerConv.nD Cert.MixerConv.τ Cert.MixerConv.sig) → Buf (Elt Bits) ℓ) : Prop :=
  True

def Pre_MixerConvIdeal (m : (ℓ : Loc Cert.MixerConvIdeal.nD Cert.MixerConvIdeal.τ Cert.MixerConvIdeal.sig) → Buf (Elt Ideal) ℓ) : Prop :=
  True

def Pre_MixerConvReferenceIdeal (m : (ℓ : Loc Cert.MixerConvReferenceIdeal.nD Cert.MixerConvReferenceIdeal.τ Cert.MixerConvReferenceIdeal.sig) → Buf (Elt Ideal) ℓ) : Prop :=
  True

def Pre_MixerIn (m : (ℓ : Loc Cert.MixerIn.nD Cert.MixerIn.τ Cert.MixerIn.sig) → Buf (Elt Bits) ℓ) : Prop :=
  True

def Pre_MixerInIdeal (m : (ℓ : Loc Cert.MixerInIdeal.nD Cert.MixerInIdeal.τ Cert.MixerInIdeal.sig) → Buf (Elt Ideal) ℓ) : Prop :=
  True

def Pre_MixerInReferenceIdeal (m : (ℓ : Loc Cert.MixerInReferenceIdeal.nD Cert.MixerInReferenceIdeal.τ Cert.MixerInReferenceIdeal.sig) → Buf (Elt Ideal) ℓ) : Prop :=
  True

def Pre_HyenaOut (m : (ℓ : Loc Cert.HyenaOut.nD Cert.HyenaOut.τ Cert.HyenaOut.sig) → Buf (Elt Bits) ℓ) : Prop :=
  True

def Pre_HyenaOutIdeal (m : (ℓ : Loc Cert.HyenaOutIdeal.nD Cert.HyenaOutIdeal.τ Cert.HyenaOutIdeal.sig) → Buf (Elt Ideal) ℓ) : Prop :=
  True

def Pre_HyenaOutReferenceIdeal (m : (ℓ : Loc Cert.HyenaOutReferenceIdeal.nD Cert.HyenaOutReferenceIdeal.τ Cert.HyenaOutReferenceIdeal.sig) → Buf (Elt Ideal) ℓ) : Prop :=
  True

def Pre_MixerOut (m : (ℓ : Loc Cert.MixerOut.nD Cert.MixerOut.τ Cert.MixerOut.sig) → Buf (Elt Bits) ℓ) : Prop :=
  True

def Pre_MixerOutIdeal (m : (ℓ : Loc Cert.MixerOutIdeal.nD Cert.MixerOutIdeal.τ Cert.MixerOutIdeal.sig) → Buf (Elt Ideal) ℓ) : Prop :=
  True

def Pre_MixerOutReferenceIdeal (m : (ℓ : Loc Cert.MixerOutReferenceIdeal.nD Cert.MixerOutReferenceIdeal.τ Cert.MixerOutReferenceIdeal.sig) → Buf (Elt Ideal) ℓ) : Prop :=
  True

def Pre_RopeQ (m : (ℓ : Loc Cert.RopeQ.nD Cert.RopeQ.τ Cert.RopeQ.sig) → Buf (Elt Bits) ℓ) : Prop :=
  True

def Pre_RopeQIdeal (m : (ℓ : Loc Cert.RopeQIdeal.nD Cert.RopeQIdeal.τ Cert.RopeQIdeal.sig) → Buf (Elt Ideal) ℓ) : Prop :=
  True

def Pre_RopeQIdeal_projected_finite [hPre_projected_finite : Cert.Pre_projected_finite.Facts] (m : (ℓ : Loc Cert.RopeQIdeal.nD Cert.RopeQIdeal.τ Cert.RopeQIdeal.sig) → Buf (Elt Ideal) ℓ) : Prop :=
  ∀ c : Dev Cert.RopeQIdeal.nD,
    (Cert.Pre_projected_finite.fn (F := Ideal) (m ((c.tc : Thread Cert.RopeQIdeal.nD Cert.RopeQIdeal.τ).loc Cert.RopeQIdeal.main_arg0)) (m ((c.tc : Thread Cert.RopeQIdeal.nD Cert.RopeQIdeal.τ).loc Cert.RopeQIdeal.main_arg1)) (m ((c.tc : Thread Cert.RopeQIdeal.nD Cert.RopeQIdeal.τ).loc Cert.RopeQIdeal.main_arg2)) (m ((c.tc : Thread Cert.RopeQIdeal.nD Cert.RopeQIdeal.τ).loc Cert.RopeQIdeal.main_arg3))) = (fun _ => 1#1)

def Pre_RopeQReferenceIdeal (m : (ℓ : Loc Cert.RopeQReferenceIdeal.nD Cert.RopeQReferenceIdeal.τ Cert.RopeQReferenceIdeal.sig) → Buf (Elt Ideal) ℓ) : Prop :=
  True

def Pre_RopeQReferenceIdeal_projected_finite [hPre_projected_finite : Cert.Pre_projected_finite.Facts] (m : (ℓ : Loc Cert.RopeQReferenceIdeal.nD Cert.RopeQReferenceIdeal.τ Cert.RopeQReferenceIdeal.sig) → Buf (Elt Ideal) ℓ) : Prop :=
  ∀ c : Dev Cert.RopeQReferenceIdeal.nD,
    (Cert.Pre_projected_finite.fn (F := Ideal) (m ((c.tc : Thread Cert.RopeQReferenceIdeal.nD Cert.RopeQReferenceIdeal.τ).loc Cert.RopeQReferenceIdeal.main_arg0)) (m ((c.tc : Thread Cert.RopeQReferenceIdeal.nD Cert.RopeQReferenceIdeal.τ).loc Cert.RopeQReferenceIdeal.main_arg1)) (m ((c.tc : Thread Cert.RopeQReferenceIdeal.nD Cert.RopeQReferenceIdeal.τ).loc Cert.RopeQReferenceIdeal.main_arg2)) (m ((c.tc : Thread Cert.RopeQReferenceIdeal.nD Cert.RopeQReferenceIdeal.τ).loc Cert.RopeQReferenceIdeal.main_arg3))) = (fun _ => 1#1)

def Pre_RopeK (m : (ℓ : Loc Cert.RopeK.nD Cert.RopeK.τ Cert.RopeK.sig) → Buf (Elt Bits) ℓ) : Prop :=
  True

def Pre_RopeKIdeal (m : (ℓ : Loc Cert.RopeKIdeal.nD Cert.RopeKIdeal.τ Cert.RopeKIdeal.sig) → Buf (Elt Ideal) ℓ) : Prop :=
  True

def Pre_RopeKIdeal_projected_finite [hPre_projected_finite : Cert.Pre_projected_finite.Facts] (m : (ℓ : Loc Cert.RopeKIdeal.nD Cert.RopeKIdeal.τ Cert.RopeKIdeal.sig) → Buf (Elt Ideal) ℓ) : Prop :=
  ∀ c : Dev Cert.RopeKIdeal.nD,
    (Cert.Pre_projected_finite.fn (F := Ideal) (m ((c.tc : Thread Cert.RopeKIdeal.nD Cert.RopeKIdeal.τ).loc Cert.RopeKIdeal.main_arg0)) (m ((c.tc : Thread Cert.RopeKIdeal.nD Cert.RopeKIdeal.τ).loc Cert.RopeKIdeal.main_arg1)) (m ((c.tc : Thread Cert.RopeKIdeal.nD Cert.RopeKIdeal.τ).loc Cert.RopeKIdeal.main_arg2)) (m ((c.tc : Thread Cert.RopeKIdeal.nD Cert.RopeKIdeal.τ).loc Cert.RopeKIdeal.main_arg3))) = (fun _ => 1#1)

def Pre_RopeKReferenceIdeal (m : (ℓ : Loc Cert.RopeKReferenceIdeal.nD Cert.RopeKReferenceIdeal.τ Cert.RopeKReferenceIdeal.sig) → Buf (Elt Ideal) ℓ) : Prop :=
  True

def Pre_RopeKReferenceIdeal_projected_finite [hPre_projected_finite : Cert.Pre_projected_finite.Facts] (m : (ℓ : Loc Cert.RopeKReferenceIdeal.nD Cert.RopeKReferenceIdeal.τ Cert.RopeKReferenceIdeal.sig) → Buf (Elt Ideal) ℓ) : Prop :=
  ∀ c : Dev Cert.RopeKReferenceIdeal.nD,
    (Cert.Pre_projected_finite.fn (F := Ideal) (m ((c.tc : Thread Cert.RopeKReferenceIdeal.nD Cert.RopeKReferenceIdeal.τ).loc Cert.RopeKReferenceIdeal.main_arg0)) (m ((c.tc : Thread Cert.RopeKReferenceIdeal.nD Cert.RopeKReferenceIdeal.τ).loc Cert.RopeKReferenceIdeal.main_arg1)) (m ((c.tc : Thread Cert.RopeKReferenceIdeal.nD Cert.RopeKReferenceIdeal.τ).loc Cert.RopeKReferenceIdeal.main_arg2)) (m ((c.tc : Thread Cert.RopeKReferenceIdeal.nD Cert.RopeKReferenceIdeal.τ).loc Cert.RopeKReferenceIdeal.main_arg3))) = (fun _ => 1#1)

def Pre_ContextIn (m : (ℓ : Loc Cert.ContextIn.nD Cert.ContextIn.τ Cert.ContextIn.sig) → Buf (Elt Bits) ℓ) : Prop :=
  True

def Pre_ContextInIdeal (m : (ℓ : Loc Cert.ContextInIdeal.nD Cert.ContextInIdeal.τ Cert.ContextInIdeal.sig) → Buf (Elt Ideal) ℓ) : Prop :=
  True

def Pre_ContextInReferenceIdeal (m : (ℓ : Loc Cert.ContextInReferenceIdeal.nD Cert.ContextInReferenceIdeal.τ Cert.ContextInReferenceIdeal.sig) → Buf (Elt Ideal) ℓ) : Prop :=
  True

def Pre_ContextConv (m : (ℓ : Loc Cert.ContextConv.nD Cert.ContextConv.τ Cert.ContextConv.sig) → Buf (Elt Bits) ℓ) : Prop :=
  True

def Pre_ContextConvIdeal (m : (ℓ : Loc Cert.ContextConvIdeal.nD Cert.ContextConvIdeal.τ Cert.ContextConvIdeal.sig) → Buf (Elt Ideal) ℓ) : Prop :=
  True

def Pre_ContextConvReferenceIdeal (m : (ℓ : Loc Cert.ContextConvReferenceIdeal.nD Cert.ContextConvReferenceIdeal.τ Cert.ContextConvReferenceIdeal.sig) → Buf (Elt Ideal) ℓ) : Prop :=
  True

def quiescent_Moe [hMoe : Cert.Moe.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7)
      ∧ r.2.mem ((c.tc : Thread Cert.Moe.nD Cert.Moe.τ).loc Cert.Moe.main_arg8) = m ((c.tc : Thread Cert.Moe.nD Cert.Moe.τ).loc Cert.Moe.main_arg8))
      ∧ r.2.sem = fun _ => 0)

def quiescent_MoeIdeal [hMoeIdeal : Cert.MoeIdeal.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8))
      ∧ r.2.sem = fun _ => 0)

def quiescent_MoeIdeal_pre_gates_real [hMoeIdeal : Cert.MoeIdeal.Facts] [hPre_gates_real : Cert.Pre_gates_real.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal_gates_real m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
      ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8))
      ∧ r.2.sem = fun _ => 0)

def quiescent_MoeReferenceIdeal [hMoeReferenceIdeal : Cert.MoeReferenceIdeal.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5)
      ∧ r.2.mem ((c.tc : Thread Cert.MoeReferenceIdeal.nD Cert.MoeReferenceIdeal.τ).loc Cert.MoeReferenceIdeal.main_arg6) = m ((c.tc : Thread Cert.MoeReferenceIdeal.nD Cert.MoeReferenceIdeal.τ).loc Cert.MoeReferenceIdeal.main_arg6)
      ∧ r.2.mem ((c.tc : Thread Cert.MoeReferenceIdeal.nD Cert.MoeReferenceIdeal.τ).loc Cert.MoeReferenceIdeal.main_arg7) = m ((c.tc : Thread Cert.MoeReferenceIdeal.nD Cert.MoeReferenceIdeal.τ).loc Cert.MoeReferenceIdeal.main_arg7)
      ∧ r.2.mem ((c.tc : Thread Cert.MoeReferenceIdeal.nD Cert.MoeReferenceIdeal.τ).loc Cert.MoeReferenceIdeal.main_arg8) = m ((c.tc : Thread Cert.MoeReferenceIdeal.nD Cert.MoeReferenceIdeal.τ).loc Cert.MoeReferenceIdeal.main_arg8))
      ∧ r.2.sem = fun _ => 0)

def quiescent_MoeReferenceIdeal_pre_gates_real [hMoeReferenceIdeal : Cert.MoeReferenceIdeal.Facts] [hPre_gates_real : Cert.Pre_gates_real.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal_gates_real m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5)
      ∧ r.2.mem ((c.tc : Thread Cert.MoeReferenceIdeal.nD Cert.MoeReferenceIdeal.τ).loc Cert.MoeReferenceIdeal.main_arg6) = m ((c.tc : Thread Cert.MoeReferenceIdeal.nD Cert.MoeReferenceIdeal.τ).loc Cert.MoeReferenceIdeal.main_arg6)
      ∧ r.2.mem ((c.tc : Thread Cert.MoeReferenceIdeal.nD Cert.MoeReferenceIdeal.τ).loc Cert.MoeReferenceIdeal.main_arg7) = m ((c.tc : Thread Cert.MoeReferenceIdeal.nD Cert.MoeReferenceIdeal.τ).loc Cert.MoeReferenceIdeal.main_arg7)
      ∧ r.2.mem ((c.tc : Thread Cert.MoeReferenceIdeal.nD Cert.MoeReferenceIdeal.τ).loc Cert.MoeReferenceIdeal.main_arg8) = m ((c.tc : Thread Cert.MoeReferenceIdeal.nD Cert.MoeReferenceIdeal.τ).loc Cert.MoeReferenceIdeal.main_arg8))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_HyenaIn [hHyenaIn : Cert.HyenaIn.Facts] : Prop :=
  ∀ (m : (ℓ : Loc Cert.HyenaIn.nD Cert.HyenaIn.τ Cert.HyenaIn.sig) → Buf (Elt Bits) ℓ) (g : Dev Cert.HyenaIn.nD → PrngReg), Pre_HyenaIn m →
    θ_run (Cert.HyenaIn.defs (F := Bits)) (onTc (τ := Cert.HyenaIn.τ) (Cert.HyenaIn.main (F := Bits))) ⟨m, fun _ => 0, g⟩ (fun r => (∀ c : Dev Cert.HyenaIn.nD,
      r.2.mem ((c.tc : Thread Cert.HyenaIn.nD Cert.HyenaIn.τ).loc Cert.HyenaIn.main_arg0) = m ((c.tc : Thread Cert.HyenaIn.nD Cert.HyenaIn.τ).loc Cert.HyenaIn.main_arg0)
      ∧ r.2.mem ((c.tc : Thread Cert.HyenaIn.nD Cert.HyenaIn.τ).loc Cert.HyenaIn.main_arg1) = m ((c.tc : Thread Cert.HyenaIn.nD Cert.HyenaIn.τ).loc Cert.HyenaIn.main_arg1)
      ∧ r.2.mem ((c.tc : Thread Cert.HyenaIn.nD Cert.HyenaIn.τ).loc Cert.HyenaIn.main_arg2) = m ((c.tc : Thread Cert.HyenaIn.nD Cert.HyenaIn.τ).loc Cert.HyenaIn.main_arg2)
      ∧ r.2.mem ((c.tc : Thread Cert.HyenaIn.nD Cert.HyenaIn.τ).loc Cert.HyenaIn.main_arg3) = m ((c.tc : Thread Cert.HyenaIn.nD Cert.HyenaIn.τ).loc Cert.HyenaIn.main_arg3))
      ∧ r.2.sem = fun _ => 0)

def quiescent_HyenaInIdeal [hHyenaInIdeal : Cert.HyenaInIdeal.Facts] : Prop :=
  ∀ (m : (ℓ : Loc Cert.HyenaInIdeal.nD Cert.HyenaInIdeal.τ Cert.HyenaInIdeal.sig) → Buf (Elt Ideal) ℓ) (g : Dev Cert.HyenaInIdeal.nD → PrngReg), Pre_HyenaInIdeal m →
    θ_run (Cert.HyenaInIdeal.defs (F := Ideal)) (onTc (τ := Cert.HyenaInIdeal.τ) (Cert.HyenaInIdeal.main (F := Ideal))) ⟨m, fun _ => 0, g⟩ (fun r => (∀ c : Dev Cert.HyenaInIdeal.nD,
      r.2.mem ((c.tc : Thread Cert.HyenaInIdeal.nD Cert.HyenaInIdeal.τ).loc Cert.HyenaInIdeal.main_arg0) = m ((c.tc : Thread Cert.HyenaInIdeal.nD Cert.HyenaInIdeal.τ).loc Cert.HyenaInIdeal.main_arg0)
      ∧ r.2.mem ((c.tc : Thread Cert.HyenaInIdeal.nD Cert.HyenaInIdeal.τ).loc Cert.HyenaInIdeal.main_arg1) = m ((c.tc : Thread Cert.HyenaInIdeal.nD Cert.HyenaInIdeal.τ).loc Cert.HyenaInIdeal.main_arg1)
      ∧ r.2.mem ((c.tc : Thread Cert.HyenaInIdeal.nD Cert.HyenaInIdeal.τ).loc Cert.HyenaInIdeal.main_arg2) = m ((c.tc : Thread Cert.HyenaInIdeal.nD Cert.HyenaInIdeal.τ).loc Cert.HyenaInIdeal.main_arg2)
      ∧ r.2.mem ((c.tc : Thread Cert.HyenaInIdeal.nD Cert.HyenaInIdeal.τ).loc Cert.HyenaInIdeal.main_arg3) = m ((c.tc : Thread Cert.HyenaInIdeal.nD Cert.HyenaInIdeal.τ).loc Cert.HyenaInIdeal.main_arg3))
      ∧ r.2.sem = fun _ => 0)

def quiescent_HyenaInReferenceIdeal [hHyenaInReferenceIdeal : Cert.HyenaInReferenceIdeal.Facts] : Prop :=
  ∀ (m : (ℓ : Loc Cert.HyenaInReferenceIdeal.nD Cert.HyenaInReferenceIdeal.τ Cert.HyenaInReferenceIdeal.sig) → Buf (Elt Ideal) ℓ) (g : Dev Cert.HyenaInReferenceIdeal.nD → PrngReg), Pre_HyenaInReferenceIdeal m →
    θ_run (Cert.HyenaInReferenceIdeal.defs (F := Ideal)) (onTc (τ := Cert.HyenaInReferenceIdeal.τ) (Cert.HyenaInReferenceIdeal.main (F := Ideal))) ⟨m, fun _ => 0, g⟩ (fun r => (∀ c : Dev Cert.HyenaInReferenceIdeal.nD,
      r.2.mem ((c.tc : Thread Cert.HyenaInReferenceIdeal.nD Cert.HyenaInReferenceIdeal.τ).loc Cert.HyenaInReferenceIdeal.main_arg0) = m ((c.tc : Thread Cert.HyenaInReferenceIdeal.nD Cert.HyenaInReferenceIdeal.τ).loc Cert.HyenaInReferenceIdeal.main_arg0)
      ∧ r.2.mem ((c.tc : Thread Cert.HyenaInReferenceIdeal.nD Cert.HyenaInReferenceIdeal.τ).loc Cert.HyenaInReferenceIdeal.main_arg1) = m ((c.tc : Thread Cert.HyenaInReferenceIdeal.nD Cert.HyenaInReferenceIdeal.τ).loc Cert.HyenaInReferenceIdeal.main_arg1)
      ∧ r.2.mem ((c.tc : Thread Cert.HyenaInReferenceIdeal.nD Cert.HyenaInReferenceIdeal.τ).loc Cert.HyenaInReferenceIdeal.main_arg2) = m ((c.tc : Thread Cert.HyenaInReferenceIdeal.nD Cert.HyenaInReferenceIdeal.τ).loc Cert.HyenaInReferenceIdeal.main_arg2)
      ∧ r.2.mem ((c.tc : Thread Cert.HyenaInReferenceIdeal.nD Cert.HyenaInReferenceIdeal.τ).loc Cert.HyenaInReferenceIdeal.main_arg3) = m ((c.tc : Thread Cert.HyenaInReferenceIdeal.nD Cert.HyenaInReferenceIdeal.τ).loc Cert.HyenaInReferenceIdeal.main_arg3))
      ∧ r.2.sem = fun _ => 0)

def quiescent_MixerConv [hMixerConv : Cert.MixerConv.Facts] : Prop :=
  ∀ (m : (ℓ : Loc Cert.MixerConv.nD Cert.MixerConv.τ Cert.MixerConv.sig) → Buf (Elt Bits) ℓ) (g : Dev Cert.MixerConv.nD → PrngReg), Pre_MixerConv m →
    θ_run (Cert.MixerConv.defs (F := Bits)) (onTc (τ := Cert.MixerConv.τ) (Cert.MixerConv.main (F := Bits))) ⟨m, fun _ => 0, g⟩ (fun r => (∀ c : Dev Cert.MixerConv.nD,
      r.2.mem ((c.tc : Thread Cert.MixerConv.nD Cert.MixerConv.τ).loc Cert.MixerConv.main_arg0) = m ((c.tc : Thread Cert.MixerConv.nD Cert.MixerConv.τ).loc Cert.MixerConv.main_arg0)
      ∧ r.2.mem ((c.tc : Thread Cert.MixerConv.nD Cert.MixerConv.τ).loc Cert.MixerConv.main_arg1) = m ((c.tc : Thread Cert.MixerConv.nD Cert.MixerConv.τ).loc Cert.MixerConv.main_arg1)
      ∧ r.2.mem ((c.tc : Thread Cert.MixerConv.nD Cert.MixerConv.τ).loc Cert.MixerConv.main_arg2) = m ((c.tc : Thread Cert.MixerConv.nD Cert.MixerConv.τ).loc Cert.MixerConv.main_arg2)
      ∧ r.2.mem ((c.tc : Thread Cert.MixerConv.nD Cert.MixerConv.τ).loc Cert.MixerConv.main_arg3) = m ((c.tc : Thread Cert.MixerConv.nD Cert.MixerConv.τ).loc Cert.MixerConv.main_arg3))
      ∧ r.2.sem = fun _ => 0)

def quiescent_MixerConvIdeal [hMixerConvIdeal : Cert.MixerConvIdeal.Facts] : Prop :=
  ∀ (m : (ℓ : Loc Cert.MixerConvIdeal.nD Cert.MixerConvIdeal.τ Cert.MixerConvIdeal.sig) → Buf (Elt Ideal) ℓ) (g : Dev Cert.MixerConvIdeal.nD → PrngReg), Pre_MixerConvIdeal m →
    θ_run (Cert.MixerConvIdeal.defs (F := Ideal)) (onTc (τ := Cert.MixerConvIdeal.τ) (Cert.MixerConvIdeal.main (F := Ideal))) ⟨m, fun _ => 0, g⟩ (fun r => (∀ c : Dev Cert.MixerConvIdeal.nD,
      r.2.mem ((c.tc : Thread Cert.MixerConvIdeal.nD Cert.MixerConvIdeal.τ).loc Cert.MixerConvIdeal.main_arg0) = m ((c.tc : Thread Cert.MixerConvIdeal.nD Cert.MixerConvIdeal.τ).loc Cert.MixerConvIdeal.main_arg0)
      ∧ r.2.mem ((c.tc : Thread Cert.MixerConvIdeal.nD Cert.MixerConvIdeal.τ).loc Cert.MixerConvIdeal.main_arg1) = m ((c.tc : Thread Cert.MixerConvIdeal.nD Cert.MixerConvIdeal.τ).loc Cert.MixerConvIdeal.main_arg1)
      ∧ r.2.mem ((c.tc : Thread Cert.MixerConvIdeal.nD Cert.MixerConvIdeal.τ).loc Cert.MixerConvIdeal.main_arg2) = m ((c.tc : Thread Cert.MixerConvIdeal.nD Cert.MixerConvIdeal.τ).loc Cert.MixerConvIdeal.main_arg2)
      ∧ r.2.mem ((c.tc : Thread Cert.MixerConvIdeal.nD Cert.MixerConvIdeal.τ).loc Cert.MixerConvIdeal.main_arg3) = m ((c.tc : Thread Cert.MixerConvIdeal.nD Cert.MixerConvIdeal.τ).loc Cert.MixerConvIdeal.main_arg3))
      ∧ r.2.sem = fun _ => 0)

def quiescent_MixerConvReferenceIdeal [hMixerConvReferenceIdeal : Cert.MixerConvReferenceIdeal.Facts] : Prop :=
  ∀ (m : (ℓ : Loc Cert.MixerConvReferenceIdeal.nD Cert.MixerConvReferenceIdeal.τ Cert.MixerConvReferenceIdeal.sig) → Buf (Elt Ideal) ℓ) (g : Dev Cert.MixerConvReferenceIdeal.nD → PrngReg), Pre_MixerConvReferenceIdeal m →
    θ_run (Cert.MixerConvReferenceIdeal.defs (F := Ideal)) (onTc (τ := Cert.MixerConvReferenceIdeal.τ) (Cert.MixerConvReferenceIdeal.main (F := Ideal))) ⟨m, fun _ => 0, g⟩ (fun r => (∀ c : Dev Cert.MixerConvReferenceIdeal.nD,
      r.2.mem ((c.tc : Thread Cert.MixerConvReferenceIdeal.nD Cert.MixerConvReferenceIdeal.τ).loc Cert.MixerConvReferenceIdeal.main_arg0) = m ((c.tc : Thread Cert.MixerConvReferenceIdeal.nD Cert.MixerConvReferenceIdeal.τ).loc Cert.MixerConvReferenceIdeal.main_arg0)
      ∧ r.2.mem ((c.tc : Thread Cert.MixerConvReferenceIdeal.nD Cert.MixerConvReferenceIdeal.τ).loc Cert.MixerConvReferenceIdeal.main_arg1) = m ((c.tc : Thread Cert.MixerConvReferenceIdeal.nD Cert.MixerConvReferenceIdeal.τ).loc Cert.MixerConvReferenceIdeal.main_arg1)
      ∧ r.2.mem ((c.tc : Thread Cert.MixerConvReferenceIdeal.nD Cert.MixerConvReferenceIdeal.τ).loc Cert.MixerConvReferenceIdeal.main_arg2) = m ((c.tc : Thread Cert.MixerConvReferenceIdeal.nD Cert.MixerConvReferenceIdeal.τ).loc Cert.MixerConvReferenceIdeal.main_arg2)
      ∧ r.2.mem ((c.tc : Thread Cert.MixerConvReferenceIdeal.nD Cert.MixerConvReferenceIdeal.τ).loc Cert.MixerConvReferenceIdeal.main_arg3) = m ((c.tc : Thread Cert.MixerConvReferenceIdeal.nD Cert.MixerConvReferenceIdeal.τ).loc Cert.MixerConvReferenceIdeal.main_arg3))
      ∧ r.2.sem = fun _ => 0)

def quiescent_MixerIn [hMixerIn : Cert.MixerIn.Facts] : Prop :=
  ∀ (m : (ℓ : Loc Cert.MixerIn.nD Cert.MixerIn.τ Cert.MixerIn.sig) → Buf (Elt Bits) ℓ) (g : Dev Cert.MixerIn.nD → PrngReg), Pre_MixerIn m →
    θ_run (Cert.MixerIn.defs (F := Bits)) (onTc (τ := Cert.MixerIn.τ) (Cert.MixerIn.main (F := Bits))) ⟨m, fun _ => 0, g⟩ (fun r => (∀ c : Dev Cert.MixerIn.nD,
      r.2.mem ((c.tc : Thread Cert.MixerIn.nD Cert.MixerIn.τ).loc Cert.MixerIn.main_arg0) = m ((c.tc : Thread Cert.MixerIn.nD Cert.MixerIn.τ).loc Cert.MixerIn.main_arg0)
      ∧ r.2.mem ((c.tc : Thread Cert.MixerIn.nD Cert.MixerIn.τ).loc Cert.MixerIn.main_arg1) = m ((c.tc : Thread Cert.MixerIn.nD Cert.MixerIn.τ).loc Cert.MixerIn.main_arg1))
      ∧ r.2.sem = fun _ => 0)

def quiescent_MixerInIdeal [hMixerInIdeal : Cert.MixerInIdeal.Facts] : Prop :=
  ∀ (m : (ℓ : Loc Cert.MixerInIdeal.nD Cert.MixerInIdeal.τ Cert.MixerInIdeal.sig) → Buf (Elt Ideal) ℓ) (g : Dev Cert.MixerInIdeal.nD → PrngReg), Pre_MixerInIdeal m →
    θ_run (Cert.MixerInIdeal.defs (F := Ideal)) (onTc (τ := Cert.MixerInIdeal.τ) (Cert.MixerInIdeal.main (F := Ideal))) ⟨m, fun _ => 0, g⟩ (fun r => (∀ c : Dev Cert.MixerInIdeal.nD,
      r.2.mem ((c.tc : Thread Cert.MixerInIdeal.nD Cert.MixerInIdeal.τ).loc Cert.MixerInIdeal.main_arg0) = m ((c.tc : Thread Cert.MixerInIdeal.nD Cert.MixerInIdeal.τ).loc Cert.MixerInIdeal.main_arg0)
      ∧ r.2.mem ((c.tc : Thread Cert.MixerInIdeal.nD Cert.MixerInIdeal.τ).loc Cert.MixerInIdeal.main_arg1) = m ((c.tc : Thread Cert.MixerInIdeal.nD Cert.MixerInIdeal.τ).loc Cert.MixerInIdeal.main_arg1))
      ∧ r.2.sem = fun _ => 0)

def quiescent_MixerInReferenceIdeal [hMixerInReferenceIdeal : Cert.MixerInReferenceIdeal.Facts] : Prop :=
  ∀ (m : (ℓ : Loc Cert.MixerInReferenceIdeal.nD Cert.MixerInReferenceIdeal.τ Cert.MixerInReferenceIdeal.sig) → Buf (Elt Ideal) ℓ) (g : Dev Cert.MixerInReferenceIdeal.nD → PrngReg), Pre_MixerInReferenceIdeal m →
    θ_run (Cert.MixerInReferenceIdeal.defs (F := Ideal)) (onTc (τ := Cert.MixerInReferenceIdeal.τ) (Cert.MixerInReferenceIdeal.main (F := Ideal))) ⟨m, fun _ => 0, g⟩ (fun r => (∀ c : Dev Cert.MixerInReferenceIdeal.nD,
      r.2.mem ((c.tc : Thread Cert.MixerInReferenceIdeal.nD Cert.MixerInReferenceIdeal.τ).loc Cert.MixerInReferenceIdeal.main_arg0) = m ((c.tc : Thread Cert.MixerInReferenceIdeal.nD Cert.MixerInReferenceIdeal.τ).loc Cert.MixerInReferenceIdeal.main_arg0)
      ∧ r.2.mem ((c.tc : Thread Cert.MixerInReferenceIdeal.nD Cert.MixerInReferenceIdeal.τ).loc Cert.MixerInReferenceIdeal.main_arg1) = m ((c.tc : Thread Cert.MixerInReferenceIdeal.nD Cert.MixerInReferenceIdeal.τ).loc Cert.MixerInReferenceIdeal.main_arg1))
      ∧ r.2.sem = fun _ => 0)

def quiescent_HyenaOut [hHyenaOut : Cert.HyenaOut.Facts] : Prop :=
  ∀ (m : (ℓ : Loc Cert.HyenaOut.nD Cert.HyenaOut.τ Cert.HyenaOut.sig) → Buf (Elt Bits) ℓ) (g : Dev Cert.HyenaOut.nD → PrngReg), Pre_HyenaOut m →
    θ_run (Cert.HyenaOut.defs (F := Bits)) (onTc (τ := Cert.HyenaOut.τ) (Cert.HyenaOut.main (F := Bits))) ⟨m, fun _ => 0, g⟩ (fun r => (∀ c : Dev Cert.HyenaOut.nD,
      r.2.mem ((c.tc : Thread Cert.HyenaOut.nD Cert.HyenaOut.τ).loc Cert.HyenaOut.main_arg0) = m ((c.tc : Thread Cert.HyenaOut.nD Cert.HyenaOut.τ).loc Cert.HyenaOut.main_arg0)
      ∧ r.2.mem ((c.tc : Thread Cert.HyenaOut.nD Cert.HyenaOut.τ).loc Cert.HyenaOut.main_arg1) = m ((c.tc : Thread Cert.HyenaOut.nD Cert.HyenaOut.τ).loc Cert.HyenaOut.main_arg1)
      ∧ r.2.mem ((c.tc : Thread Cert.HyenaOut.nD Cert.HyenaOut.τ).loc Cert.HyenaOut.main_arg2) = m ((c.tc : Thread Cert.HyenaOut.nD Cert.HyenaOut.τ).loc Cert.HyenaOut.main_arg2)
      ∧ r.2.mem ((c.tc : Thread Cert.HyenaOut.nD Cert.HyenaOut.τ).loc Cert.HyenaOut.main_arg3) = m ((c.tc : Thread Cert.HyenaOut.nD Cert.HyenaOut.τ).loc Cert.HyenaOut.main_arg3)
      ∧ r.2.mem ((c.tc : Thread Cert.HyenaOut.nD Cert.HyenaOut.τ).loc Cert.HyenaOut.main_arg4) = m ((c.tc : Thread Cert.HyenaOut.nD Cert.HyenaOut.τ).loc Cert.HyenaOut.main_arg4))
      ∧ r.2.sem = fun _ => 0)

def quiescent_HyenaOutIdeal [hHyenaOutIdeal : Cert.HyenaOutIdeal.Facts] : Prop :=
  ∀ (m : (ℓ : Loc Cert.HyenaOutIdeal.nD Cert.HyenaOutIdeal.τ Cert.HyenaOutIdeal.sig) → Buf (Elt Ideal) ℓ) (g : Dev Cert.HyenaOutIdeal.nD → PrngReg), Pre_HyenaOutIdeal m →
    θ_run (Cert.HyenaOutIdeal.defs (F := Ideal)) (onTc (τ := Cert.HyenaOutIdeal.τ) (Cert.HyenaOutIdeal.main (F := Ideal))) ⟨m, fun _ => 0, g⟩ (fun r => (∀ c : Dev Cert.HyenaOutIdeal.nD,
      r.2.mem ((c.tc : Thread Cert.HyenaOutIdeal.nD Cert.HyenaOutIdeal.τ).loc Cert.HyenaOutIdeal.main_arg0) = m ((c.tc : Thread Cert.HyenaOutIdeal.nD Cert.HyenaOutIdeal.τ).loc Cert.HyenaOutIdeal.main_arg0)
      ∧ r.2.mem ((c.tc : Thread Cert.HyenaOutIdeal.nD Cert.HyenaOutIdeal.τ).loc Cert.HyenaOutIdeal.main_arg1) = m ((c.tc : Thread Cert.HyenaOutIdeal.nD Cert.HyenaOutIdeal.τ).loc Cert.HyenaOutIdeal.main_arg1)
      ∧ r.2.mem ((c.tc : Thread Cert.HyenaOutIdeal.nD Cert.HyenaOutIdeal.τ).loc Cert.HyenaOutIdeal.main_arg2) = m ((c.tc : Thread Cert.HyenaOutIdeal.nD Cert.HyenaOutIdeal.τ).loc Cert.HyenaOutIdeal.main_arg2)
      ∧ r.2.mem ((c.tc : Thread Cert.HyenaOutIdeal.nD Cert.HyenaOutIdeal.τ).loc Cert.HyenaOutIdeal.main_arg3) = m ((c.tc : Thread Cert.HyenaOutIdeal.nD Cert.HyenaOutIdeal.τ).loc Cert.HyenaOutIdeal.main_arg3)
      ∧ r.2.mem ((c.tc : Thread Cert.HyenaOutIdeal.nD Cert.HyenaOutIdeal.τ).loc Cert.HyenaOutIdeal.main_arg4) = m ((c.tc : Thread Cert.HyenaOutIdeal.nD Cert.HyenaOutIdeal.τ).loc Cert.HyenaOutIdeal.main_arg4))
      ∧ r.2.sem = fun _ => 0)

def quiescent_HyenaOutReferenceIdeal [hHyenaOutReferenceIdeal : Cert.HyenaOutReferenceIdeal.Facts] : Prop :=
  ∀ (m : (ℓ : Loc Cert.HyenaOutReferenceIdeal.nD Cert.HyenaOutReferenceIdeal.τ Cert.HyenaOutReferenceIdeal.sig) → Buf (Elt Ideal) ℓ) (g : Dev Cert.HyenaOutReferenceIdeal.nD → PrngReg), Pre_HyenaOutReferenceIdeal m →
    θ_run (Cert.HyenaOutReferenceIdeal.defs (F := Ideal)) (onTc (τ := Cert.HyenaOutReferenceIdeal.τ) (Cert.HyenaOutReferenceIdeal.main (F := Ideal))) ⟨m, fun _ => 0, g⟩ (fun r => (∀ c : Dev Cert.HyenaOutReferenceIdeal.nD,
      r.2.mem ((c.tc : Thread Cert.HyenaOutReferenceIdeal.nD Cert.HyenaOutReferenceIdeal.τ).loc Cert.HyenaOutReferenceIdeal.main_arg0) = m ((c.tc : Thread Cert.HyenaOutReferenceIdeal.nD Cert.HyenaOutReferenceIdeal.τ).loc Cert.HyenaOutReferenceIdeal.main_arg0)
      ∧ r.2.mem ((c.tc : Thread Cert.HyenaOutReferenceIdeal.nD Cert.HyenaOutReferenceIdeal.τ).loc Cert.HyenaOutReferenceIdeal.main_arg1) = m ((c.tc : Thread Cert.HyenaOutReferenceIdeal.nD Cert.HyenaOutReferenceIdeal.τ).loc Cert.HyenaOutReferenceIdeal.main_arg1)
      ∧ r.2.mem ((c.tc : Thread Cert.HyenaOutReferenceIdeal.nD Cert.HyenaOutReferenceIdeal.τ).loc Cert.HyenaOutReferenceIdeal.main_arg2) = m ((c.tc : Thread Cert.HyenaOutReferenceIdeal.nD Cert.HyenaOutReferenceIdeal.τ).loc Cert.HyenaOutReferenceIdeal.main_arg2)
      ∧ r.2.mem ((c.tc : Thread Cert.HyenaOutReferenceIdeal.nD Cert.HyenaOutReferenceIdeal.τ).loc Cert.HyenaOutReferenceIdeal.main_arg3) = m ((c.tc : Thread Cert.HyenaOutReferenceIdeal.nD Cert.HyenaOutReferenceIdeal.τ).loc Cert.HyenaOutReferenceIdeal.main_arg3)
      ∧ r.2.mem ((c.tc : Thread Cert.HyenaOutReferenceIdeal.nD Cert.HyenaOutReferenceIdeal.τ).loc Cert.HyenaOutReferenceIdeal.main_arg4) = m ((c.tc : Thread Cert.HyenaOutReferenceIdeal.nD Cert.HyenaOutReferenceIdeal.τ).loc Cert.HyenaOutReferenceIdeal.main_arg4))
      ∧ r.2.sem = fun _ => 0)

def quiescent_MixerOut [hMixerOut : Cert.MixerOut.Facts] : Prop :=
  ∀ (m : (ℓ : Loc Cert.MixerOut.nD Cert.MixerOut.τ Cert.MixerOut.sig) → Buf (Elt Bits) ℓ) (g : Dev Cert.MixerOut.nD → PrngReg), Pre_MixerOut m →
    θ_run (Cert.MixerOut.defs (F := Bits)) (onTc (τ := Cert.MixerOut.τ) (Cert.MixerOut.main (F := Bits))) ⟨m, fun _ => 0, g⟩ (fun r => (∀ c : Dev Cert.MixerOut.nD,
      r.2.mem ((c.tc : Thread Cert.MixerOut.nD Cert.MixerOut.τ).loc Cert.MixerOut.main_arg0) = m ((c.tc : Thread Cert.MixerOut.nD Cert.MixerOut.τ).loc Cert.MixerOut.main_arg0)
      ∧ r.2.mem ((c.tc : Thread Cert.MixerOut.nD Cert.MixerOut.τ).loc Cert.MixerOut.main_arg1) = m ((c.tc : Thread Cert.MixerOut.nD Cert.MixerOut.τ).loc Cert.MixerOut.main_arg1)
      ∧ r.2.mem ((c.tc : Thread Cert.MixerOut.nD Cert.MixerOut.τ).loc Cert.MixerOut.main_arg2) = m ((c.tc : Thread Cert.MixerOut.nD Cert.MixerOut.τ).loc Cert.MixerOut.main_arg2)
      ∧ r.2.mem ((c.tc : Thread Cert.MixerOut.nD Cert.MixerOut.τ).loc Cert.MixerOut.main_arg3) = m ((c.tc : Thread Cert.MixerOut.nD Cert.MixerOut.τ).loc Cert.MixerOut.main_arg3)
      ∧ r.2.mem ((c.tc : Thread Cert.MixerOut.nD Cert.MixerOut.τ).loc Cert.MixerOut.main_arg4) = m ((c.tc : Thread Cert.MixerOut.nD Cert.MixerOut.τ).loc Cert.MixerOut.main_arg4)
      ∧ r.2.mem ((c.tc : Thread Cert.MixerOut.nD Cert.MixerOut.τ).loc Cert.MixerOut.main_arg5) = m ((c.tc : Thread Cert.MixerOut.nD Cert.MixerOut.τ).loc Cert.MixerOut.main_arg5))
      ∧ r.2.sem = fun _ => 0)

def quiescent_MixerOutIdeal [hMixerOutIdeal : Cert.MixerOutIdeal.Facts] : Prop :=
  ∀ (m : (ℓ : Loc Cert.MixerOutIdeal.nD Cert.MixerOutIdeal.τ Cert.MixerOutIdeal.sig) → Buf (Elt Ideal) ℓ) (g : Dev Cert.MixerOutIdeal.nD → PrngReg), Pre_MixerOutIdeal m →
    θ_run (Cert.MixerOutIdeal.defs (F := Ideal)) (onTc (τ := Cert.MixerOutIdeal.τ) (Cert.MixerOutIdeal.main (F := Ideal))) ⟨m, fun _ => 0, g⟩ (fun r => (∀ c : Dev Cert.MixerOutIdeal.nD,
      r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
      ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1)
      ∧ r.2.mem ((c.tc : Thread Cert.MixerOutIdeal.nD Cert.MixerOutIdeal.τ).loc Cert.MixerOutIdeal.main_arg2) = m ((c.tc : Thread Cert.MixerOutIdeal.nD Cert.MixerOutIdeal.τ).loc Cert.MixerOutIdeal.main_arg2)
      ∧ r.2.mem ((c.tc : Thread Cert.MixerOutIdeal.nD Cert.MixerOutIdeal.τ).loc Cert.MixerOutIdeal.main_arg3) = m ((c.tc : Thread Cert.MixerOutIdeal.nD Cert.MixerOutIdeal.τ).loc Cert.MixerOutIdeal.main_arg3)
      ∧ r.2.mem ((c.tc : Thread Cert.MixerOutIdeal.nD Cert.MixerOutIdeal.τ).loc Cert.MixerOutIdeal.main_arg4) = m ((c.tc : Thread Cert.MixerOutIdeal.nD Cert.MixerOutIdeal.τ).loc Cert.MixerOutIdeal.main_arg4)
      ∧ r.2.mem ((c.tc : Thread Cert.MixerOutIdeal.nD Cert.MixerOutIdeal.τ).loc Cert.MixerOutIdeal.main_arg5) = m ((c.tc : Thread Cert.MixerOutIdeal.nD Cert.MixerOutIdeal.τ).loc Cert.MixerOutIdeal.main_arg5))
      ∧ r.2.sem = fun _ => 0)

def quiescent_MixerOutReferenceIdeal [hMixerOutReferenceIdeal : Cert.MixerOutReferenceIdeal.Facts] : Prop :=
  ∀ (m : (ℓ : Loc Cert.MixerOutReferenceIdeal.nD Cert.MixerOutReferenceIdeal.τ Cert.MixerOutReferenceIdeal.sig) → Buf (Elt Ideal) ℓ) (g : Dev Cert.MixerOutReferenceIdeal.nD → PrngReg), Pre_MixerOutReferenceIdeal m →
    θ_run (Cert.MixerOutReferenceIdeal.defs (F := Ideal)) (onTc (τ := Cert.MixerOutReferenceIdeal.τ) (Cert.MixerOutReferenceIdeal.main (F := Ideal))) ⟨m, fun _ => 0, g⟩ (fun r => (∀ c : Dev Cert.MixerOutReferenceIdeal.nD,
      r.2.mem ((c.tc : Thread Cert.MixerOutReferenceIdeal.nD Cert.MixerOutReferenceIdeal.τ).loc Cert.MixerOutReferenceIdeal.main_arg0) = m ((c.tc : Thread Cert.MixerOutReferenceIdeal.nD Cert.MixerOutReferenceIdeal.τ).loc Cert.MixerOutReferenceIdeal.main_arg0)
      ∧ r.2.mem ((c.tc : Thread Cert.MixerOutReferenceIdeal.nD Cert.MixerOutReferenceIdeal.τ).loc Cert.MixerOutReferenceIdeal.main_arg1) = m ((c.tc : Thread Cert.MixerOutReferenceIdeal.nD Cert.MixerOutReferenceIdeal.τ).loc Cert.MixerOutReferenceIdeal.main_arg1)
      ∧ r.2.mem ((c.tc : Thread Cert.MixerOutReferenceIdeal.nD Cert.MixerOutReferenceIdeal.τ).loc Cert.MixerOutReferenceIdeal.main_arg2) = m ((c.tc : Thread Cert.MixerOutReferenceIdeal.nD Cert.MixerOutReferenceIdeal.τ).loc Cert.MixerOutReferenceIdeal.main_arg2)
      ∧ r.2.mem ((c.tc : Thread Cert.MixerOutReferenceIdeal.nD Cert.MixerOutReferenceIdeal.τ).loc Cert.MixerOutReferenceIdeal.main_arg3) = m ((c.tc : Thread Cert.MixerOutReferenceIdeal.nD Cert.MixerOutReferenceIdeal.τ).loc Cert.MixerOutReferenceIdeal.main_arg3)
      ∧ r.2.mem ((c.tc : Thread Cert.MixerOutReferenceIdeal.nD Cert.MixerOutReferenceIdeal.τ).loc Cert.MixerOutReferenceIdeal.main_arg4) = m ((c.tc : Thread Cert.MixerOutReferenceIdeal.nD Cert.MixerOutReferenceIdeal.τ).loc Cert.MixerOutReferenceIdeal.main_arg4)
      ∧ r.2.mem ((c.tc : Thread Cert.MixerOutReferenceIdeal.nD Cert.MixerOutReferenceIdeal.τ).loc Cert.MixerOutReferenceIdeal.main_arg5) = m ((c.tc : Thread Cert.MixerOutReferenceIdeal.nD Cert.MixerOutReferenceIdeal.τ).loc Cert.MixerOutReferenceIdeal.main_arg5))
      ∧ r.2.sem = fun _ => 0)

def quiescent_RopeQ [hRopeQ : Cert.RopeQ.Facts] : Prop :=
  ∀ (m : (ℓ : Loc Cert.RopeQ.nD Cert.RopeQ.τ Cert.RopeQ.sig) → Buf (Elt Bits) ℓ) (g : Dev Cert.RopeQ.nD → PrngReg), Pre_RopeQ m →
    θ_run (Cert.RopeQ.defs (F := Bits)) (onTc (τ := Cert.RopeQ.τ) (Cert.RopeQ.main (F := Bits))) ⟨m, fun _ => 0, g⟩ (fun r => (∀ c : Dev Cert.RopeQ.nD,
      r.2.mem ((c.tc : Thread Cert.RopeQ.nD Cert.RopeQ.τ).loc Cert.RopeQ.main_arg0) = m ((c.tc : Thread Cert.RopeQ.nD Cert.RopeQ.τ).loc Cert.RopeQ.main_arg0)
      ∧ r.2.mem ((c.tc : Thread Cert.RopeQ.nD Cert.RopeQ.τ).loc Cert.RopeQ.main_arg1) = m ((c.tc : Thread Cert.RopeQ.nD Cert.RopeQ.τ).loc Cert.RopeQ.main_arg1)
      ∧ r.2.mem ((c.tc : Thread Cert.RopeQ.nD Cert.RopeQ.τ).loc Cert.RopeQ.main_arg2) = m ((c.tc : Thread Cert.RopeQ.nD Cert.RopeQ.τ).loc Cert.RopeQ.main_arg2)
      ∧ r.2.mem ((c.tc : Thread Cert.RopeQ.nD Cert.RopeQ.τ).loc Cert.RopeQ.main_arg3) = m ((c.tc : Thread Cert.RopeQ.nD Cert.RopeQ.τ).loc Cert.RopeQ.main_arg3))
      ∧ r.2.sem = fun _ => 0)

def quiescent_RopeQIdeal [hRopeQIdeal : Cert.RopeQIdeal.Facts] : Prop :=
  ∀ (m : (ℓ : Loc Cert.RopeQIdeal.nD Cert.RopeQIdeal.τ Cert.RopeQIdeal.sig) → Buf (Elt Ideal) ℓ) (g : Dev Cert.RopeQIdeal.nD → PrngReg), Pre_RopeQIdeal m →
    θ_run (Cert.RopeQIdeal.defs (F := Ideal)) (onTc (τ := Cert.RopeQIdeal.τ) (Cert.RopeQIdeal.main (F := Ideal))) ⟨m, fun _ => 0, g⟩ (fun r => (∀ c : Dev Cert.RopeQIdeal.nD,
      r.2.mem ((c.tc : Thread Cert.RopeQIdeal.nD Cert.RopeQIdeal.τ).loc Cert.RopeQIdeal.main_arg0) = m ((c.tc : Thread Cert.RopeQIdeal.nD Cert.RopeQIdeal.τ).loc Cert.RopeQIdeal.main_arg0)
      ∧ r.2.mem ((c.tc : Thread Cert.RopeQIdeal.nD Cert.RopeQIdeal.τ).loc Cert.RopeQIdeal.main_arg1) = m ((c.tc : Thread Cert.RopeQIdeal.nD Cert.RopeQIdeal.τ).loc Cert.RopeQIdeal.main_arg1)
      ∧ r.2.mem ((c.tc : Thread Cert.RopeQIdeal.nD Cert.RopeQIdeal.τ).loc Cert.RopeQIdeal.main_arg2) = m ((c.tc : Thread Cert.RopeQIdeal.nD Cert.RopeQIdeal.τ).loc Cert.RopeQIdeal.main_arg2)
      ∧ r.2.mem ((c.tc : Thread Cert.RopeQIdeal.nD Cert.RopeQIdeal.τ).loc Cert.RopeQIdeal.main_arg3) = m ((c.tc : Thread Cert.RopeQIdeal.nD Cert.RopeQIdeal.τ).loc Cert.RopeQIdeal.main_arg3))
      ∧ r.2.sem = fun _ => 0)

def quiescent_RopeQIdeal_pre_projected_finite [hRopeQIdeal : Cert.RopeQIdeal.Facts] [hPre_projected_finite : Cert.Pre_projected_finite.Facts] : Prop :=
  ∀ (m : (ℓ : Loc Cert.RopeQIdeal.nD Cert.RopeQIdeal.τ Cert.RopeQIdeal.sig) → Buf (Elt Ideal) ℓ) (g : Dev Cert.RopeQIdeal.nD → PrngReg), Pre_RopeQIdeal_projected_finite m →
    θ_run (Cert.RopeQIdeal.defs (F := Ideal)) (onTc (τ := Cert.RopeQIdeal.τ) (Cert.RopeQIdeal.main (F := Ideal))) ⟨m, fun _ => 0, g⟩ (fun r => (∀ c : Dev Cert.RopeQIdeal.nD,
      r.2.mem ((c.tc : Thread Cert.RopeQIdeal.nD Cert.RopeQIdeal.τ).loc Cert.RopeQIdeal.main_arg0) = m ((c.tc : Thread Cert.RopeQIdeal.nD Cert.RopeQIdeal.τ).loc Cert.RopeQIdeal.main_arg0)
      ∧ r.2.mem ((c.tc : Thread Cert.RopeQIdeal.nD Cert.RopeQIdeal.τ).loc Cert.RopeQIdeal.main_arg1) = m ((c.tc : Thread Cert.RopeQIdeal.nD Cert.RopeQIdeal.τ).loc Cert.RopeQIdeal.main_arg1)
      ∧ r.2.mem ((c.tc : Thread Cert.RopeQIdeal.nD Cert.RopeQIdeal.τ).loc Cert.RopeQIdeal.main_arg2) = m ((c.tc : Thread Cert.RopeQIdeal.nD Cert.RopeQIdeal.τ).loc Cert.RopeQIdeal.main_arg2)
      ∧ r.2.mem ((c.tc : Thread Cert.RopeQIdeal.nD Cert.RopeQIdeal.τ).loc Cert.RopeQIdeal.main_arg3) = m ((c.tc : Thread Cert.RopeQIdeal.nD Cert.RopeQIdeal.τ).loc Cert.RopeQIdeal.main_arg3))
      ∧ r.2.sem = fun _ => 0)

def quiescent_RopeQReferenceIdeal [hRopeQReferenceIdeal : Cert.RopeQReferenceIdeal.Facts] : Prop :=
  ∀ (m : (ℓ : Loc Cert.RopeQReferenceIdeal.nD Cert.RopeQReferenceIdeal.τ Cert.RopeQReferenceIdeal.sig) → Buf (Elt Ideal) ℓ) (g : Dev Cert.RopeQReferenceIdeal.nD → PrngReg), Pre_RopeQReferenceIdeal m →
    θ_run (Cert.RopeQReferenceIdeal.defs (F := Ideal)) (onTc (τ := Cert.RopeQReferenceIdeal.τ) (Cert.RopeQReferenceIdeal.main (F := Ideal))) ⟨m, fun _ => 0, g⟩ (fun r => (∀ c : Dev Cert.RopeQReferenceIdeal.nD,
      r.2.mem ((c.tc : Thread Cert.RopeQReferenceIdeal.nD Cert.RopeQReferenceIdeal.τ).loc Cert.RopeQReferenceIdeal.main_arg0) = m ((c.tc : Thread Cert.RopeQReferenceIdeal.nD Cert.RopeQReferenceIdeal.τ).loc Cert.RopeQReferenceIdeal.main_arg0)
      ∧ r.2.mem ((c.tc : Thread Cert.RopeQReferenceIdeal.nD Cert.RopeQReferenceIdeal.τ).loc Cert.RopeQReferenceIdeal.main_arg1) = m ((c.tc : Thread Cert.RopeQReferenceIdeal.nD Cert.RopeQReferenceIdeal.τ).loc Cert.RopeQReferenceIdeal.main_arg1)
      ∧ r.2.mem ((c.tc : Thread Cert.RopeQReferenceIdeal.nD Cert.RopeQReferenceIdeal.τ).loc Cert.RopeQReferenceIdeal.main_arg2) = m ((c.tc : Thread Cert.RopeQReferenceIdeal.nD Cert.RopeQReferenceIdeal.τ).loc Cert.RopeQReferenceIdeal.main_arg2)
      ∧ r.2.mem ((c.tc : Thread Cert.RopeQReferenceIdeal.nD Cert.RopeQReferenceIdeal.τ).loc Cert.RopeQReferenceIdeal.main_arg3) = m ((c.tc : Thread Cert.RopeQReferenceIdeal.nD Cert.RopeQReferenceIdeal.τ).loc Cert.RopeQReferenceIdeal.main_arg3))
      ∧ r.2.sem = fun _ => 0)

def quiescent_RopeQReferenceIdeal_pre_projected_finite [hRopeQReferenceIdeal : Cert.RopeQReferenceIdeal.Facts] [hPre_projected_finite : Cert.Pre_projected_finite.Facts] : Prop :=
  ∀ (m : (ℓ : Loc Cert.RopeQReferenceIdeal.nD Cert.RopeQReferenceIdeal.τ Cert.RopeQReferenceIdeal.sig) → Buf (Elt Ideal) ℓ) (g : Dev Cert.RopeQReferenceIdeal.nD → PrngReg), Pre_RopeQReferenceIdeal_projected_finite m →
    θ_run (Cert.RopeQReferenceIdeal.defs (F := Ideal)) (onTc (τ := Cert.RopeQReferenceIdeal.τ) (Cert.RopeQReferenceIdeal.main (F := Ideal))) ⟨m, fun _ => 0, g⟩ (fun r => (∀ c : Dev Cert.RopeQReferenceIdeal.nD,
      r.2.mem ((c.tc : Thread Cert.RopeQReferenceIdeal.nD Cert.RopeQReferenceIdeal.τ).loc Cert.RopeQReferenceIdeal.main_arg0) = m ((c.tc : Thread Cert.RopeQReferenceIdeal.nD Cert.RopeQReferenceIdeal.τ).loc Cert.RopeQReferenceIdeal.main_arg0)
      ∧ r.2.mem ((c.tc : Thread Cert.RopeQReferenceIdeal.nD Cert.RopeQReferenceIdeal.τ).loc Cert.RopeQReferenceIdeal.main_arg1) = m ((c.tc : Thread Cert.RopeQReferenceIdeal.nD Cert.RopeQReferenceIdeal.τ).loc Cert.RopeQReferenceIdeal.main_arg1)
      ∧ r.2.mem ((c.tc : Thread Cert.RopeQReferenceIdeal.nD Cert.RopeQReferenceIdeal.τ).loc Cert.RopeQReferenceIdeal.main_arg2) = m ((c.tc : Thread Cert.RopeQReferenceIdeal.nD Cert.RopeQReferenceIdeal.τ).loc Cert.RopeQReferenceIdeal.main_arg2)
      ∧ r.2.mem ((c.tc : Thread Cert.RopeQReferenceIdeal.nD Cert.RopeQReferenceIdeal.τ).loc Cert.RopeQReferenceIdeal.main_arg3) = m ((c.tc : Thread Cert.RopeQReferenceIdeal.nD Cert.RopeQReferenceIdeal.τ).loc Cert.RopeQReferenceIdeal.main_arg3))
      ∧ r.2.sem = fun _ => 0)

def quiescent_RopeK [hRopeK : Cert.RopeK.Facts] : Prop :=
  ∀ (m : (ℓ : Loc Cert.RopeK.nD Cert.RopeK.τ Cert.RopeK.sig) → Buf (Elt Bits) ℓ) (g : Dev Cert.RopeK.nD → PrngReg), Pre_RopeK m →
    θ_run (Cert.RopeK.defs (F := Bits)) (onTc (τ := Cert.RopeK.τ) (Cert.RopeK.main (F := Bits))) ⟨m, fun _ => 0, g⟩ (fun r => (∀ c : Dev Cert.RopeK.nD,
      r.2.mem ((c.tc : Thread Cert.RopeK.nD Cert.RopeK.τ).loc Cert.RopeK.main_arg0) = m ((c.tc : Thread Cert.RopeK.nD Cert.RopeK.τ).loc Cert.RopeK.main_arg0)
      ∧ r.2.mem ((c.tc : Thread Cert.RopeK.nD Cert.RopeK.τ).loc Cert.RopeK.main_arg1) = m ((c.tc : Thread Cert.RopeK.nD Cert.RopeK.τ).loc Cert.RopeK.main_arg1)
      ∧ r.2.mem ((c.tc : Thread Cert.RopeK.nD Cert.RopeK.τ).loc Cert.RopeK.main_arg2) = m ((c.tc : Thread Cert.RopeK.nD Cert.RopeK.τ).loc Cert.RopeK.main_arg2)
      ∧ r.2.mem ((c.tc : Thread Cert.RopeK.nD Cert.RopeK.τ).loc Cert.RopeK.main_arg3) = m ((c.tc : Thread Cert.RopeK.nD Cert.RopeK.τ).loc Cert.RopeK.main_arg3))
      ∧ r.2.sem = fun _ => 0)

def quiescent_RopeKIdeal [hRopeKIdeal : Cert.RopeKIdeal.Facts] : Prop :=
  ∀ (m : (ℓ : Loc Cert.RopeKIdeal.nD Cert.RopeKIdeal.τ Cert.RopeKIdeal.sig) → Buf (Elt Ideal) ℓ) (g : Dev Cert.RopeKIdeal.nD → PrngReg), Pre_RopeKIdeal m →
    θ_run (Cert.RopeKIdeal.defs (F := Ideal)) (onTc (τ := Cert.RopeKIdeal.τ) (Cert.RopeKIdeal.main (F := Ideal))) ⟨m, fun _ => 0, g⟩ (fun r => (∀ c : Dev Cert.RopeKIdeal.nD,
      r.2.mem ((c.tc : Thread Cert.RopeKIdeal.nD Cert.RopeKIdeal.τ).loc Cert.RopeKIdeal.main_arg0) = m ((c.tc : Thread Cert.RopeKIdeal.nD Cert.RopeKIdeal.τ).loc Cert.RopeKIdeal.main_arg0)
      ∧ r.2.mem ((c.tc : Thread Cert.RopeKIdeal.nD Cert.RopeKIdeal.τ).loc Cert.RopeKIdeal.main_arg1) = m ((c.tc : Thread Cert.RopeKIdeal.nD Cert.RopeKIdeal.τ).loc Cert.RopeKIdeal.main_arg1)
      ∧ r.2.mem ((c.tc : Thread Cert.RopeKIdeal.nD Cert.RopeKIdeal.τ).loc Cert.RopeKIdeal.main_arg2) = m ((c.tc : Thread Cert.RopeKIdeal.nD Cert.RopeKIdeal.τ).loc Cert.RopeKIdeal.main_arg2)
      ∧ r.2.mem ((c.tc : Thread Cert.RopeKIdeal.nD Cert.RopeKIdeal.τ).loc Cert.RopeKIdeal.main_arg3) = m ((c.tc : Thread Cert.RopeKIdeal.nD Cert.RopeKIdeal.τ).loc Cert.RopeKIdeal.main_arg3))
      ∧ r.2.sem = fun _ => 0)

def quiescent_RopeKIdeal_pre_projected_finite [hRopeKIdeal : Cert.RopeKIdeal.Facts] [hPre_projected_finite : Cert.Pre_projected_finite.Facts] : Prop :=
  ∀ (m : (ℓ : Loc Cert.RopeKIdeal.nD Cert.RopeKIdeal.τ Cert.RopeKIdeal.sig) → Buf (Elt Ideal) ℓ) (g : Dev Cert.RopeKIdeal.nD → PrngReg), Pre_RopeKIdeal_projected_finite m →
    θ_run (Cert.RopeKIdeal.defs (F := Ideal)) (onTc (τ := Cert.RopeKIdeal.τ) (Cert.RopeKIdeal.main (F := Ideal))) ⟨m, fun _ => 0, g⟩ (fun r => (∀ c : Dev Cert.RopeKIdeal.nD,
      r.2.mem ((c.tc : Thread Cert.RopeKIdeal.nD Cert.RopeKIdeal.τ).loc Cert.RopeKIdeal.main_arg0) = m ((c.tc : Thread Cert.RopeKIdeal.nD Cert.RopeKIdeal.τ).loc Cert.RopeKIdeal.main_arg0)
      ∧ r.2.mem ((c.tc : Thread Cert.RopeKIdeal.nD Cert.RopeKIdeal.τ).loc Cert.RopeKIdeal.main_arg1) = m ((c.tc : Thread Cert.RopeKIdeal.nD Cert.RopeKIdeal.τ).loc Cert.RopeKIdeal.main_arg1)
      ∧ r.2.mem ((c.tc : Thread Cert.RopeKIdeal.nD Cert.RopeKIdeal.τ).loc Cert.RopeKIdeal.main_arg2) = m ((c.tc : Thread Cert.RopeKIdeal.nD Cert.RopeKIdeal.τ).loc Cert.RopeKIdeal.main_arg2)
      ∧ r.2.mem ((c.tc : Thread Cert.RopeKIdeal.nD Cert.RopeKIdeal.τ).loc Cert.RopeKIdeal.main_arg3) = m ((c.tc : Thread Cert.RopeKIdeal.nD Cert.RopeKIdeal.τ).loc Cert.RopeKIdeal.main_arg3))
      ∧ r.2.sem = fun _ => 0)

def quiescent_RopeKReferenceIdeal [hRopeKReferenceIdeal : Cert.RopeKReferenceIdeal.Facts] : Prop :=
  ∀ (m : (ℓ : Loc Cert.RopeKReferenceIdeal.nD Cert.RopeKReferenceIdeal.τ Cert.RopeKReferenceIdeal.sig) → Buf (Elt Ideal) ℓ) (g : Dev Cert.RopeKReferenceIdeal.nD → PrngReg), Pre_RopeKReferenceIdeal m →
    θ_run (Cert.RopeKReferenceIdeal.defs (F := Ideal)) (onTc (τ := Cert.RopeKReferenceIdeal.τ) (Cert.RopeKReferenceIdeal.main (F := Ideal))) ⟨m, fun _ => 0, g⟩ (fun r => (∀ c : Dev Cert.RopeKReferenceIdeal.nD,
      r.2.mem ((c.tc : Thread Cert.RopeKReferenceIdeal.nD Cert.RopeKReferenceIdeal.τ).loc Cert.RopeKReferenceIdeal.main_arg0) = m ((c.tc : Thread Cert.RopeKReferenceIdeal.nD Cert.RopeKReferenceIdeal.τ).loc Cert.RopeKReferenceIdeal.main_arg0)
      ∧ r.2.mem ((c.tc : Thread Cert.RopeKReferenceIdeal.nD Cert.RopeKReferenceIdeal.τ).loc Cert.RopeKReferenceIdeal.main_arg1) = m ((c.tc : Thread Cert.RopeKReferenceIdeal.nD Cert.RopeKReferenceIdeal.τ).loc Cert.RopeKReferenceIdeal.main_arg1)
      ∧ r.2.mem ((c.tc : Thread Cert.RopeKReferenceIdeal.nD Cert.RopeKReferenceIdeal.τ).loc Cert.RopeKReferenceIdeal.main_arg2) = m ((c.tc : Thread Cert.RopeKReferenceIdeal.nD Cert.RopeKReferenceIdeal.τ).loc Cert.RopeKReferenceIdeal.main_arg2)
      ∧ r.2.mem ((c.tc : Thread Cert.RopeKReferenceIdeal.nD Cert.RopeKReferenceIdeal.τ).loc Cert.RopeKReferenceIdeal.main_arg3) = m ((c.tc : Thread Cert.RopeKReferenceIdeal.nD Cert.RopeKReferenceIdeal.τ).loc Cert.RopeKReferenceIdeal.main_arg3))
      ∧ r.2.sem = fun _ => 0)

def quiescent_RopeKReferenceIdeal_pre_projected_finite [hRopeKReferenceIdeal : Cert.RopeKReferenceIdeal.Facts] [hPre_projected_finite : Cert.Pre_projected_finite.Facts] : Prop :=
  ∀ (m : (ℓ : Loc Cert.RopeKReferenceIdeal.nD Cert.RopeKReferenceIdeal.τ Cert.RopeKReferenceIdeal.sig) → Buf (Elt Ideal) ℓ) (g : Dev Cert.RopeKReferenceIdeal.nD → PrngReg), Pre_RopeKReferenceIdeal_projected_finite m →
    θ_run (Cert.RopeKReferenceIdeal.defs (F := Ideal)) (onTc (τ := Cert.RopeKReferenceIdeal.τ) (Cert.RopeKReferenceIdeal.main (F := Ideal))) ⟨m, fun _ => 0, g⟩ (fun r => (∀ c : Dev Cert.RopeKReferenceIdeal.nD,
      r.2.mem ((c.tc : Thread Cert.RopeKReferenceIdeal.nD Cert.RopeKReferenceIdeal.τ).loc Cert.RopeKReferenceIdeal.main_arg0) = m ((c.tc : Thread Cert.RopeKReferenceIdeal.nD Cert.RopeKReferenceIdeal.τ).loc Cert.RopeKReferenceIdeal.main_arg0)
      ∧ r.2.mem ((c.tc : Thread Cert.RopeKReferenceIdeal.nD Cert.RopeKReferenceIdeal.τ).loc Cert.RopeKReferenceIdeal.main_arg1) = m ((c.tc : Thread Cert.RopeKReferenceIdeal.nD Cert.RopeKReferenceIdeal.τ).loc Cert.RopeKReferenceIdeal.main_arg1)
      ∧ r.2.mem ((c.tc : Thread Cert.RopeKReferenceIdeal.nD Cert.RopeKReferenceIdeal.τ).loc Cert.RopeKReferenceIdeal.main_arg2) = m ((c.tc : Thread Cert.RopeKReferenceIdeal.nD Cert.RopeKReferenceIdeal.τ).loc Cert.RopeKReferenceIdeal.main_arg2)
      ∧ r.2.mem ((c.tc : Thread Cert.RopeKReferenceIdeal.nD Cert.RopeKReferenceIdeal.τ).loc Cert.RopeKReferenceIdeal.main_arg3) = m ((c.tc : Thread Cert.RopeKReferenceIdeal.nD Cert.RopeKReferenceIdeal.τ).loc Cert.RopeKReferenceIdeal.main_arg3))
      ∧ r.2.sem = fun _ => 0)

def quiescent_ContextIn [hContextIn : Cert.ContextIn.Facts] : Prop :=
  ∀ (m : (ℓ : Loc Cert.ContextIn.nD Cert.ContextIn.τ Cert.ContextIn.sig) → Buf (Elt Bits) ℓ) (g : Dev Cert.ContextIn.nD → PrngReg), Pre_ContextIn m →
    θ_run (Cert.ContextIn.defs (F := Bits)) (onTc (τ := Cert.ContextIn.τ) (Cert.ContextIn.main (F := Bits))) ⟨m, fun _ => 0, g⟩ (fun r => (∀ c : Dev Cert.ContextIn.nD,
      r.2.mem ((c.tc : Thread Cert.ContextIn.nD Cert.ContextIn.τ).loc Cert.ContextIn.main_arg0) = m ((c.tc : Thread Cert.ContextIn.nD Cert.ContextIn.τ).loc Cert.ContextIn.main_arg0)
      ∧ r.2.mem ((c.tc : Thread Cert.ContextIn.nD Cert.ContextIn.τ).loc Cert.ContextIn.main_arg1) = m ((c.tc : Thread Cert.ContextIn.nD Cert.ContextIn.τ).loc Cert.ContextIn.main_arg1))
      ∧ r.2.sem = fun _ => 0)

def quiescent_ContextInIdeal [hContextInIdeal : Cert.ContextInIdeal.Facts] : Prop :=
  ∀ (m : (ℓ : Loc Cert.ContextInIdeal.nD Cert.ContextInIdeal.τ Cert.ContextInIdeal.sig) → Buf (Elt Ideal) ℓ) (g : Dev Cert.ContextInIdeal.nD → PrngReg), Pre_ContextInIdeal m →
    θ_run (Cert.ContextInIdeal.defs (F := Ideal)) (onTc (τ := Cert.ContextInIdeal.τ) (Cert.ContextInIdeal.main (F := Ideal))) ⟨m, fun _ => 0, g⟩ (fun r => (∀ c : Dev Cert.ContextInIdeal.nD,
      r.2.mem ((c.tc : Thread Cert.ContextInIdeal.nD Cert.ContextInIdeal.τ).loc Cert.ContextInIdeal.main_arg0) = m ((c.tc : Thread Cert.ContextInIdeal.nD Cert.ContextInIdeal.τ).loc Cert.ContextInIdeal.main_arg0)
      ∧ r.2.mem ((c.tc : Thread Cert.ContextInIdeal.nD Cert.ContextInIdeal.τ).loc Cert.ContextInIdeal.main_arg1) = m ((c.tc : Thread Cert.ContextInIdeal.nD Cert.ContextInIdeal.τ).loc Cert.ContextInIdeal.main_arg1))
      ∧ r.2.sem = fun _ => 0)

def quiescent_ContextInReferenceIdeal [hContextInReferenceIdeal : Cert.ContextInReferenceIdeal.Facts] : Prop :=
  ∀ (m : (ℓ : Loc Cert.ContextInReferenceIdeal.nD Cert.ContextInReferenceIdeal.τ Cert.ContextInReferenceIdeal.sig) → Buf (Elt Ideal) ℓ) (g : Dev Cert.ContextInReferenceIdeal.nD → PrngReg), Pre_ContextInReferenceIdeal m →
    θ_run (Cert.ContextInReferenceIdeal.defs (F := Ideal)) (onTc (τ := Cert.ContextInReferenceIdeal.τ) (Cert.ContextInReferenceIdeal.main (F := Ideal))) ⟨m, fun _ => 0, g⟩ (fun r => (∀ c : Dev Cert.ContextInReferenceIdeal.nD,
      r.2.mem ((c.tc : Thread Cert.ContextInReferenceIdeal.nD Cert.ContextInReferenceIdeal.τ).loc Cert.ContextInReferenceIdeal.main_arg0) = m ((c.tc : Thread Cert.ContextInReferenceIdeal.nD Cert.ContextInReferenceIdeal.τ).loc Cert.ContextInReferenceIdeal.main_arg0)
      ∧ r.2.mem ((c.tc : Thread Cert.ContextInReferenceIdeal.nD Cert.ContextInReferenceIdeal.τ).loc Cert.ContextInReferenceIdeal.main_arg1) = m ((c.tc : Thread Cert.ContextInReferenceIdeal.nD Cert.ContextInReferenceIdeal.τ).loc Cert.ContextInReferenceIdeal.main_arg1))
      ∧ r.2.sem = fun _ => 0)

def quiescent_ContextConv [hContextConv : Cert.ContextConv.Facts] : Prop :=
  ∀ (m : (ℓ : Loc Cert.ContextConv.nD Cert.ContextConv.τ Cert.ContextConv.sig) → Buf (Elt Bits) ℓ) (g : Dev Cert.ContextConv.nD → PrngReg), Pre_ContextConv m →
    θ_run (Cert.ContextConv.defs (F := Bits)) (onTc (τ := Cert.ContextConv.τ) (Cert.ContextConv.main (F := Bits))) ⟨m, fun _ => 0, g⟩ (fun r => (∀ c : Dev Cert.ContextConv.nD,
      r.2.mem ((c.tc : Thread Cert.ContextConv.nD Cert.ContextConv.τ).loc Cert.ContextConv.main_arg0) = m ((c.tc : Thread Cert.ContextConv.nD Cert.ContextConv.τ).loc Cert.ContextConv.main_arg0)
      ∧ r.2.mem ((c.tc : Thread Cert.ContextConv.nD Cert.ContextConv.τ).loc Cert.ContextConv.main_arg1) = m ((c.tc : Thread Cert.ContextConv.nD Cert.ContextConv.τ).loc Cert.ContextConv.main_arg1)
      ∧ r.2.mem ((c.tc : Thread Cert.ContextConv.nD Cert.ContextConv.τ).loc Cert.ContextConv.main_arg2) = m ((c.tc : Thread Cert.ContextConv.nD Cert.ContextConv.τ).loc Cert.ContextConv.main_arg2)
      ∧ r.2.mem ((c.tc : Thread Cert.ContextConv.nD Cert.ContextConv.τ).loc Cert.ContextConv.main_arg3) = m ((c.tc : Thread Cert.ContextConv.nD Cert.ContextConv.τ).loc Cert.ContextConv.main_arg3))
      ∧ r.2.sem = fun _ => 0)

def quiescent_ContextConvIdeal [hContextConvIdeal : Cert.ContextConvIdeal.Facts] : Prop :=
  ∀ (m : (ℓ : Loc Cert.ContextConvIdeal.nD Cert.ContextConvIdeal.τ Cert.ContextConvIdeal.sig) → Buf (Elt Ideal) ℓ) (g : Dev Cert.ContextConvIdeal.nD → PrngReg), Pre_ContextConvIdeal m →
    θ_run (Cert.ContextConvIdeal.defs (F := Ideal)) (onTc (τ := Cert.ContextConvIdeal.τ) (Cert.ContextConvIdeal.main (F := Ideal))) ⟨m, fun _ => 0, g⟩ (fun r => (∀ c : Dev Cert.ContextConvIdeal.nD,
      r.2.mem ((c.tc : Thread Cert.ContextConvIdeal.nD Cert.ContextConvIdeal.τ).loc Cert.ContextConvIdeal.main_arg0) = m ((c.tc : Thread Cert.ContextConvIdeal.nD Cert.ContextConvIdeal.τ).loc Cert.ContextConvIdeal.main_arg0)
      ∧ r.2.mem ((c.tc : Thread Cert.ContextConvIdeal.nD Cert.ContextConvIdeal.τ).loc Cert.ContextConvIdeal.main_arg1) = m ((c.tc : Thread Cert.ContextConvIdeal.nD Cert.ContextConvIdeal.τ).loc Cert.ContextConvIdeal.main_arg1)
      ∧ r.2.mem ((c.tc : Thread Cert.ContextConvIdeal.nD Cert.ContextConvIdeal.τ).loc Cert.ContextConvIdeal.main_arg2) = m ((c.tc : Thread Cert.ContextConvIdeal.nD Cert.ContextConvIdeal.τ).loc Cert.ContextConvIdeal.main_arg2)
      ∧ r.2.mem ((c.tc : Thread Cert.ContextConvIdeal.nD Cert.ContextConvIdeal.τ).loc Cert.ContextConvIdeal.main_arg3) = m ((c.tc : Thread Cert.ContextConvIdeal.nD Cert.ContextConvIdeal.τ).loc Cert.ContextConvIdeal.main_arg3))
      ∧ r.2.sem = fun _ => 0)

def quiescent_ContextConvReferenceIdeal [hContextConvReferenceIdeal : Cert.ContextConvReferenceIdeal.Facts] : Prop :=
  ∀ (m : (ℓ : Loc Cert.ContextConvReferenceIdeal.nD Cert.ContextConvReferenceIdeal.τ Cert.ContextConvReferenceIdeal.sig) → Buf (Elt Ideal) ℓ) (g : Dev Cert.ContextConvReferenceIdeal.nD → PrngReg), Pre_ContextConvReferenceIdeal m →
    θ_run (Cert.ContextConvReferenceIdeal.defs (F := Ideal)) (onTc (τ := Cert.ContextConvReferenceIdeal.τ) (Cert.ContextConvReferenceIdeal.main (F := Ideal))) ⟨m, fun _ => 0, g⟩ (fun r => (∀ c : Dev Cert.ContextConvReferenceIdeal.nD,
      r.2.mem ((c.tc : Thread Cert.ContextConvReferenceIdeal.nD Cert.ContextConvReferenceIdeal.τ).loc Cert.ContextConvReferenceIdeal.main_arg0) = m ((c.tc : Thread Cert.ContextConvReferenceIdeal.nD Cert.ContextConvReferenceIdeal.τ).loc Cert.ContextConvReferenceIdeal.main_arg0)
      ∧ r.2.mem ((c.tc : Thread Cert.ContextConvReferenceIdeal.nD Cert.ContextConvReferenceIdeal.τ).loc Cert.ContextConvReferenceIdeal.main_arg1) = m ((c.tc : Thread Cert.ContextConvReferenceIdeal.nD Cert.ContextConvReferenceIdeal.τ).loc Cert.ContextConvReferenceIdeal.main_arg1)
      ∧ r.2.mem ((c.tc : Thread Cert.ContextConvReferenceIdeal.nD Cert.ContextConvReferenceIdeal.τ).loc Cert.ContextConvReferenceIdeal.main_arg2) = m ((c.tc : Thread Cert.ContextConvReferenceIdeal.nD Cert.ContextConvReferenceIdeal.τ).loc Cert.ContextConvReferenceIdeal.main_arg2)
      ∧ r.2.mem ((c.tc : Thread Cert.ContextConvReferenceIdeal.nD Cert.ContextConvReferenceIdeal.τ).loc Cert.ContextConvReferenceIdeal.main_arg3) = m ((c.tc : Thread Cert.ContextConvReferenceIdeal.nD Cert.ContextConvReferenceIdeal.τ).loc Cert.ContextConvReferenceIdeal.main_arg3))
      ∧ r.2.sem = fun _ => 0)

def preserves_Moe_MoeIdeal : Prop :=
  True

def algebraic_MoeIdeal_MoeReferenceIdeal_pre_gates_real [hMoeIdeal : Cert.MoeIdeal.Facts] [hMoeReferenceIdeal : Cert.MoeReferenceIdeal.Facts] [hPre_gates_real : Cert.Pre_gates_real.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeIdeal_gates_real m →
    (∀ c : Dev Cert.MoeIdeal.nD,
      m' ((c.tc : Thread Cert.MoeReferenceIdeal.nD Cert.MoeReferenceIdeal.τ).loc Cert.MoeReferenceIdeal.main_arg0) = m ((c.tc : Thread Cert.MoeIdeal.nD Cert.MoeIdeal.τ).loc Cert.MoeIdeal.main_arg0)
      ∧ m' ((c.tc : Thread Cert.MoeReferenceIdeal.nD Cert.MoeReferenceIdeal.τ).loc Cert.MoeReferenceIdeal.main_arg1) = m ((c.tc : Thread Cert.MoeIdeal.nD Cert.MoeIdeal.τ).loc Cert.MoeIdeal.main_arg1)
      ∧ m' ((c.tc : Thread Cert.MoeReferenceIdeal.nD Cert.MoeReferenceIdeal.τ).loc Cert.MoeReferenceIdeal.main_arg2) = m ((c.tc : Thread Cert.MoeIdeal.nD Cert.MoeIdeal.τ).loc Cert.MoeIdeal.main_arg2)
      ∧ m' ((c.tc : Thread Cert.MoeReferenceIdeal.nD Cert.MoeReferenceIdeal.τ).loc Cert.MoeReferenceIdeal.main_arg3) = m ((c.tc : Thread Cert.MoeIdeal.nD Cert.MoeIdeal.τ).loc Cert.MoeIdeal.main_arg3)
      ∧ m' ((c.tc : Thread Cert.MoeReferenceIdeal.nD Cert.MoeReferenceIdeal.τ).loc Cert.MoeReferenceIdeal.main_arg4) = m ((c.tc : Thread Cert.MoeIdeal.nD Cert.MoeIdeal.τ).loc Cert.MoeIdeal.main_arg4)
      ∧ m' ((c.tc : Thread Cert.MoeReferenceIdeal.nD Cert.MoeReferenceIdeal.τ).loc Cert.MoeReferenceIdeal.main_arg5) = m ((c.tc : Thread Cert.MoeIdeal.nD Cert.MoeIdeal.τ).loc Cert.MoeIdeal.main_arg5)
      ∧ m' ((c.tc : Thread Cert.MoeReferenceIdeal.nD Cert.MoeReferenceIdeal.τ).loc Cert.MoeReferenceIdeal.main_arg6) = m ((c.tc : Thread Cert.MoeIdeal.nD Cert.MoeIdeal.τ).loc Cert.MoeIdeal.main_arg6)
      ∧ m' ((c.tc : Thread Cert.MoeReferenceIdeal.nD Cert.MoeReferenceIdeal.τ).loc Cert.MoeReferenceIdeal.main_arg7) = m ((c.tc : Thread Cert.MoeIdeal.nD Cert.MoeIdeal.τ).loc Cert.MoeIdeal.main_arg7)
      ∧ m' ((c.tc : Thread Cert.MoeReferenceIdeal.nD Cert.MoeReferenceIdeal.τ).loc Cert.MoeReferenceIdeal.main_arg8) = m ((c.tc : Thread Cert.MoeIdeal.nD Cert.MoeIdeal.τ).loc Cert.MoeIdeal.main_arg8)) →
    ∃ (v0 : (c : Dev Cert.MoeIdeal.nD) → Buf (Elt Ideal) ((c.tc : Thread Cert.MoeIdeal.nD Cert.MoeIdeal.τ).loc Cert.MoeIdeal.main_v1)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v1) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)
          ∧ r.2.mem ((c.tc : Thread Cert.MoeIdeal.nD Cert.MoeIdeal.τ).loc Cert.MoeIdeal.main_arg8) = m ((c.tc : Thread Cert.MoeIdeal.nD Cert.MoeIdeal.τ).loc Cert.MoeIdeal.main_arg8))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          r.2.mem ((c.tc : Thread Cert.MoeReferenceIdeal.nD Cert.MoeReferenceIdeal.τ).loc Cert.MoeReferenceIdeal.main_v40) = v0 c
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4)
          ∧ r.2.mem ((c.tc : Thread Cert.MoeReferenceIdeal.nD Cert.MoeReferenceIdeal.τ).loc Cert.MoeReferenceIdeal.main_arg5) = m' ((c.tc : Thread Cert.MoeReferenceIdeal.nD Cert.MoeReferenceIdeal.τ).loc Cert.MoeReferenceIdeal.main_arg5)
          ∧ r.2.mem ((c.tc : Thread Cert.MoeReferenceIdeal.nD Cert.MoeReferenceIdeal.τ).loc Cert.MoeReferenceIdeal.main_arg6) = m' ((c.tc : Thread Cert.MoeReferenceIdeal.nD Cert.MoeReferenceIdeal.τ).loc Cert.MoeReferenceIdeal.main_arg6)
          ∧ r.2.mem ((c.tc : Thread Cert.MoeReferenceIdeal.nD Cert.MoeReferenceIdeal.τ).loc Cert.MoeReferenceIdeal.main_arg7) = m' ((c.tc : Thread Cert.MoeReferenceIdeal.nD Cert.MoeReferenceIdeal.τ).loc Cert.MoeReferenceIdeal.main_arg7)
          ∧ r.2.mem ((c.tc : Thread Cert.MoeReferenceIdeal.nD Cert.MoeReferenceIdeal.τ).loc Cert.MoeReferenceIdeal.main_arg8) = m' ((c.tc : Thread Cert.MoeReferenceIdeal.nD Cert.MoeReferenceIdeal.τ).loc Cert.MoeReferenceIdeal.main_arg8))

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_HyenaIn_HyenaInIdeal : Prop :=
  True

def algebraic_HyenaInIdeal_HyenaInReferenceIdeal [hHyenaInIdeal : Cert.HyenaInIdeal.Facts] [hHyenaInReferenceIdeal : Cert.HyenaInReferenceIdeal.Facts] : Prop :=
  ∀ (m : (ℓ : Loc Cert.HyenaInIdeal.nD Cert.HyenaInIdeal.τ Cert.HyenaInIdeal.sig) → Buf (Elt Ideal) ℓ) (g : Dev Cert.HyenaInIdeal.nD → PrngReg)
    (m' : (ℓ : Loc Cert.HyenaInReferenceIdeal.nD Cert.HyenaInReferenceIdeal.τ Cert.HyenaInReferenceIdeal.sig) → Buf (Elt Ideal) ℓ) (g' : Dev Cert.HyenaInReferenceIdeal.nD → PrngReg), Pre_HyenaInIdeal m →
    (∀ c : Dev Cert.HyenaInIdeal.nD,
      m' ((c.tc : Thread Cert.HyenaInReferenceIdeal.nD Cert.HyenaInReferenceIdeal.τ).loc Cert.HyenaInReferenceIdeal.main_arg0) = m ((c.tc : Thread Cert.HyenaInIdeal.nD Cert.HyenaInIdeal.τ).loc Cert.HyenaInIdeal.main_arg0)
      ∧ m' ((c.tc : Thread Cert.HyenaInReferenceIdeal.nD Cert.HyenaInReferenceIdeal.τ).loc Cert.HyenaInReferenceIdeal.main_arg1) = m ((c.tc : Thread Cert.HyenaInIdeal.nD Cert.HyenaInIdeal.τ).loc Cert.HyenaInIdeal.main_arg1)
      ∧ m' ((c.tc : Thread Cert.HyenaInReferenceIdeal.nD Cert.HyenaInReferenceIdeal.τ).loc Cert.HyenaInReferenceIdeal.main_arg2) = m ((c.tc : Thread Cert.HyenaInIdeal.nD Cert.HyenaInIdeal.τ).loc Cert.HyenaInIdeal.main_arg2)
      ∧ m' ((c.tc : Thread Cert.HyenaInReferenceIdeal.nD Cert.HyenaInReferenceIdeal.τ).loc Cert.HyenaInReferenceIdeal.main_arg3) = m ((c.tc : Thread Cert.HyenaInIdeal.nD Cert.HyenaInIdeal.τ).loc Cert.HyenaInIdeal.main_arg3)) →
    ∃ (v0 : (c : Dev Cert.HyenaInIdeal.nD) → Buf (Elt Ideal) ((c.tc : Thread Cert.HyenaInIdeal.nD Cert.HyenaInIdeal.τ).loc Cert.HyenaInIdeal.main_v1)),
      θ_run (Cert.HyenaInIdeal.defs (F := Ideal)) (onTc (τ := Cert.HyenaInIdeal.τ) (Cert.HyenaInIdeal.main (F := Ideal))) ⟨m, fun _ => 0, g⟩ (fun r => ∀ c : Dev Cert.HyenaInIdeal.nD,
          r.2.mem ((c.tc : Thread Cert.HyenaInIdeal.nD Cert.HyenaInIdeal.τ).loc Cert.HyenaInIdeal.main_v1) = v0 c
          ∧ r.2.mem ((c.tc : Thread Cert.HyenaInIdeal.nD Cert.HyenaInIdeal.τ).loc Cert.HyenaInIdeal.main_arg0) = m ((c.tc : Thread Cert.HyenaInIdeal.nD Cert.HyenaInIdeal.τ).loc Cert.HyenaInIdeal.main_arg0)
          ∧ r.2.mem ((c.tc : Thread Cert.HyenaInIdeal.nD Cert.HyenaInIdeal.τ).loc Cert.HyenaInIdeal.main_arg1) = m ((c.tc : Thread Cert.HyenaInIdeal.nD Cert.HyenaInIdeal.τ).loc Cert.HyenaInIdeal.main_arg1)
          ∧ r.2.mem ((c.tc : Thread Cert.HyenaInIdeal.nD Cert.HyenaInIdeal.τ).loc Cert.HyenaInIdeal.main_arg2) = m ((c.tc : Thread Cert.HyenaInIdeal.nD Cert.HyenaInIdeal.τ).loc Cert.HyenaInIdeal.main_arg2)
          ∧ r.2.mem ((c.tc : Thread Cert.HyenaInIdeal.nD Cert.HyenaInIdeal.τ).loc Cert.HyenaInIdeal.main_arg3) = m ((c.tc : Thread Cert.HyenaInIdeal.nD Cert.HyenaInIdeal.τ).loc Cert.HyenaInIdeal.main_arg3))
      ∧ θ_run (Cert.HyenaInReferenceIdeal.defs (F := Ideal)) (onTc (τ := Cert.HyenaInReferenceIdeal.τ) (Cert.HyenaInReferenceIdeal.main (F := Ideal))) ⟨m', fun _ => 0, g'⟩ (fun r => ∀ c : Dev Cert.HyenaInReferenceIdeal.nD,
          r.2.mem ((c.tc : Thread Cert.HyenaInReferenceIdeal.nD Cert.HyenaInReferenceIdeal.τ).loc Cert.HyenaInReferenceIdeal.main_v29) = v0 c
          ∧ r.2.mem ((c.tc : Thread Cert.HyenaInReferenceIdeal.nD Cert.HyenaInReferenceIdeal.τ).loc Cert.HyenaInReferenceIdeal.main_arg0) = m' ((c.tc : Thread Cert.HyenaInReferenceIdeal.nD Cert.HyenaInReferenceIdeal.τ).loc Cert.HyenaInReferenceIdeal.main_arg0)
          ∧ r.2.mem ((c.tc : Thread Cert.HyenaInReferenceIdeal.nD Cert.HyenaInReferenceIdeal.τ).loc Cert.HyenaInReferenceIdeal.main_arg1) = m' ((c.tc : Thread Cert.HyenaInReferenceIdeal.nD Cert.HyenaInReferenceIdeal.τ).loc Cert.HyenaInReferenceIdeal.main_arg1)
          ∧ r.2.mem ((c.tc : Thread Cert.HyenaInReferenceIdeal.nD Cert.HyenaInReferenceIdeal.τ).loc Cert.HyenaInReferenceIdeal.main_arg2) = m' ((c.tc : Thread Cert.HyenaInReferenceIdeal.nD Cert.HyenaInReferenceIdeal.τ).loc Cert.HyenaInReferenceIdeal.main_arg2)
          ∧ r.2.mem ((c.tc : Thread Cert.HyenaInReferenceIdeal.nD Cert.HyenaInReferenceIdeal.τ).loc Cert.HyenaInReferenceIdeal.main_arg3) = m' ((c.tc : Thread Cert.HyenaInReferenceIdeal.nD Cert.HyenaInReferenceIdeal.τ).loc Cert.HyenaInReferenceIdeal.main_arg3))

def preserves_MixerConv_MixerConvIdeal : Prop :=
  True

def algebraic_MixerConvIdeal_MixerConvReferenceIdeal [hMixerConvIdeal : Cert.MixerConvIdeal.Facts] [hMixerConvReferenceIdeal : Cert.MixerConvReferenceIdeal.Facts] : Prop :=
  ∀ (m : (ℓ : Loc Cert.MixerConvIdeal.nD Cert.MixerConvIdeal.τ Cert.MixerConvIdeal.sig) → Buf (Elt Ideal) ℓ) (g : Dev Cert.MixerConvIdeal.nD → PrngReg)
    (m' : (ℓ : Loc Cert.MixerConvReferenceIdeal.nD Cert.MixerConvReferenceIdeal.τ Cert.MixerConvReferenceIdeal.sig) → Buf (Elt Ideal) ℓ) (g' : Dev Cert.MixerConvReferenceIdeal.nD → PrngReg), Pre_MixerConvIdeal m →
    (∀ c : Dev Cert.MixerConvIdeal.nD,
      m' ((c.tc : Thread Cert.MixerConvReferenceIdeal.nD Cert.MixerConvReferenceIdeal.τ).loc Cert.MixerConvReferenceIdeal.main_arg0) = m ((c.tc : Thread Cert.MixerConvIdeal.nD Cert.MixerConvIdeal.τ).loc Cert.MixerConvIdeal.main_arg0)
      ∧ m' ((c.tc : Thread Cert.MixerConvReferenceIdeal.nD Cert.MixerConvReferenceIdeal.τ).loc Cert.MixerConvReferenceIdeal.main_arg1) = m ((c.tc : Thread Cert.MixerConvIdeal.nD Cert.MixerConvIdeal.τ).loc Cert.MixerConvIdeal.main_arg1)
      ∧ m' ((c.tc : Thread Cert.MixerConvReferenceIdeal.nD Cert.MixerConvReferenceIdeal.τ).loc Cert.MixerConvReferenceIdeal.main_arg2) = m ((c.tc : Thread Cert.MixerConvIdeal.nD Cert.MixerConvIdeal.τ).loc Cert.MixerConvIdeal.main_arg2)
      ∧ m' ((c.tc : Thread Cert.MixerConvReferenceIdeal.nD Cert.MixerConvReferenceIdeal.τ).loc Cert.MixerConvReferenceIdeal.main_arg3) = m ((c.tc : Thread Cert.MixerConvIdeal.nD Cert.MixerConvIdeal.τ).loc Cert.MixerConvIdeal.main_arg3)) →
    ∃ (v0 : (c : Dev Cert.MixerConvIdeal.nD) → Buf (Elt Ideal) ((c.tc : Thread Cert.MixerConvIdeal.nD Cert.MixerConvIdeal.τ).loc Cert.MixerConvIdeal.main_v1)),
      θ_run (Cert.MixerConvIdeal.defs (F := Ideal)) (onTc (τ := Cert.MixerConvIdeal.τ) (Cert.MixerConvIdeal.main (F := Ideal))) ⟨m, fun _ => 0, g⟩ (fun r => ∀ c : Dev Cert.MixerConvIdeal.nD,
          r.2.mem ((c.tc : Thread Cert.MixerConvIdeal.nD Cert.MixerConvIdeal.τ).loc Cert.MixerConvIdeal.main_v1) = v0 c
          ∧ r.2.mem ((c.tc : Thread Cert.MixerConvIdeal.nD Cert.MixerConvIdeal.τ).loc Cert.MixerConvIdeal.main_arg0) = m ((c.tc : Thread Cert.MixerConvIdeal.nD Cert.MixerConvIdeal.τ).loc Cert.MixerConvIdeal.main_arg0)
          ∧ r.2.mem ((c.tc : Thread Cert.MixerConvIdeal.nD Cert.MixerConvIdeal.τ).loc Cert.MixerConvIdeal.main_arg1) = m ((c.tc : Thread Cert.MixerConvIdeal.nD Cert.MixerConvIdeal.τ).loc Cert.MixerConvIdeal.main_arg1)
          ∧ r.2.mem ((c.tc : Thread Cert.MixerConvIdeal.nD Cert.MixerConvIdeal.τ).loc Cert.MixerConvIdeal.main_arg2) = m ((c.tc : Thread Cert.MixerConvIdeal.nD Cert.MixerConvIdeal.τ).loc Cert.MixerConvIdeal.main_arg2)
          ∧ r.2.mem ((c.tc : Thread Cert.MixerConvIdeal.nD Cert.MixerConvIdeal.τ).loc Cert.MixerConvIdeal.main_arg3) = m ((c.tc : Thread Cert.MixerConvIdeal.nD Cert.MixerConvIdeal.τ).loc Cert.MixerConvIdeal.main_arg3))
      ∧ θ_run (Cert.MixerConvReferenceIdeal.defs (F := Ideal)) (onTc (τ := Cert.MixerConvReferenceIdeal.τ) (Cert.MixerConvReferenceIdeal.main (F := Ideal))) ⟨m', fun _ => 0, g'⟩ (fun r => ∀ c : Dev Cert.MixerConvReferenceIdeal.nD,
          r.2.mem ((c.tc : Thread Cert.MixerConvReferenceIdeal.nD Cert.MixerConvReferenceIdeal.τ).loc Cert.MixerConvReferenceIdeal.main_v30) = v0 c
          ∧ r.2.mem ((c.tc : Thread Cert.MixerConvReferenceIdeal.nD Cert.MixerConvReferenceIdeal.τ).loc Cert.MixerConvReferenceIdeal.main_arg0) = m' ((c.tc : Thread Cert.MixerConvReferenceIdeal.nD Cert.MixerConvReferenceIdeal.τ).loc Cert.MixerConvReferenceIdeal.main_arg0)
          ∧ r.2.mem ((c.tc : Thread Cert.MixerConvReferenceIdeal.nD Cert.MixerConvReferenceIdeal.τ).loc Cert.MixerConvReferenceIdeal.main_arg1) = m' ((c.tc : Thread Cert.MixerConvReferenceIdeal.nD Cert.MixerConvReferenceIdeal.τ).loc Cert.MixerConvReferenceIdeal.main_arg1)
          ∧ r.2.mem ((c.tc : Thread Cert.MixerConvReferenceIdeal.nD Cert.MixerConvReferenceIdeal.τ).loc Cert.MixerConvReferenceIdeal.main_arg2) = m' ((c.tc : Thread Cert.MixerConvReferenceIdeal.nD Cert.MixerConvReferenceIdeal.τ).loc Cert.MixerConvReferenceIdeal.main_arg2)
          ∧ r.2.mem ((c.tc : Thread Cert.MixerConvReferenceIdeal.nD Cert.MixerConvReferenceIdeal.τ).loc Cert.MixerConvReferenceIdeal.main_arg3) = m' ((c.tc : Thread Cert.MixerConvReferenceIdeal.nD Cert.MixerConvReferenceIdeal.τ).loc Cert.MixerConvReferenceIdeal.main_arg3))

def preserves_MixerIn_MixerInIdeal : Prop :=
  True

def algebraic_MixerInIdeal_MixerInReferenceIdeal [hMixerInIdeal : Cert.MixerInIdeal.Facts] [hMixerInReferenceIdeal : Cert.MixerInReferenceIdeal.Facts] : Prop :=
  ∀ (m : (ℓ : Loc Cert.MixerInIdeal.nD Cert.MixerInIdeal.τ Cert.MixerInIdeal.sig) → Buf (Elt Ideal) ℓ) (g : Dev Cert.MixerInIdeal.nD → PrngReg)
    (m' : (ℓ : Loc Cert.MixerInReferenceIdeal.nD Cert.MixerInReferenceIdeal.τ Cert.MixerInReferenceIdeal.sig) → Buf (Elt Ideal) ℓ) (g' : Dev Cert.MixerInReferenceIdeal.nD → PrngReg), Pre_MixerInIdeal m →
    (∀ c : Dev Cert.MixerInIdeal.nD,
      m' ((c.tc : Thread Cert.MixerInReferenceIdeal.nD Cert.MixerInReferenceIdeal.τ).loc Cert.MixerInReferenceIdeal.main_arg0) = m ((c.tc : Thread Cert.MixerInIdeal.nD Cert.MixerInIdeal.τ).loc Cert.MixerInIdeal.main_arg0)
      ∧ m' ((c.tc : Thread Cert.MixerInReferenceIdeal.nD Cert.MixerInReferenceIdeal.τ).loc Cert.MixerInReferenceIdeal.main_arg1) = m ((c.tc : Thread Cert.MixerInIdeal.nD Cert.MixerInIdeal.τ).loc Cert.MixerInIdeal.main_arg1)) →
    ∃ (v0 : (c : Dev Cert.MixerInIdeal.nD) → Buf (Elt Ideal) ((c.tc : Thread Cert.MixerInIdeal.nD Cert.MixerInIdeal.τ).loc Cert.MixerInIdeal.main_v2)),
      θ_run (Cert.MixerInIdeal.defs (F := Ideal)) (onTc (τ := Cert.MixerInIdeal.τ) (Cert.MixerInIdeal.main (F := Ideal))) ⟨m, fun _ => 0, g⟩ (fun r => ∀ c : Dev Cert.MixerInIdeal.nD,
          r.2.mem ((c.tc : Thread Cert.MixerInIdeal.nD Cert.MixerInIdeal.τ).loc Cert.MixerInIdeal.main_v2) = v0 c
          ∧ r.2.mem ((c.tc : Thread Cert.MixerInIdeal.nD Cert.MixerInIdeal.τ).loc Cert.MixerInIdeal.main_arg0) = m ((c.tc : Thread Cert.MixerInIdeal.nD Cert.MixerInIdeal.τ).loc Cert.MixerInIdeal.main_arg0)
          ∧ r.2.mem ((c.tc : Thread Cert.MixerInIdeal.nD Cert.MixerInIdeal.τ).loc Cert.MixerInIdeal.main_arg1) = m ((c.tc : Thread Cert.MixerInIdeal.nD Cert.MixerInIdeal.τ).loc Cert.MixerInIdeal.main_arg1))
      ∧ θ_run (Cert.MixerInReferenceIdeal.defs (F := Ideal)) (onTc (τ := Cert.MixerInReferenceIdeal.τ) (Cert.MixerInReferenceIdeal.main (F := Ideal))) ⟨m', fun _ => 0, g'⟩ (fun r => ∀ c : Dev Cert.MixerInReferenceIdeal.nD,
          r.2.mem ((c.tc : Thread Cert.MixerInReferenceIdeal.nD Cert.MixerInReferenceIdeal.τ).loc Cert.MixerInReferenceIdeal.main_v3) = v0 c
          ∧ r.2.mem ((c.tc : Thread Cert.MixerInReferenceIdeal.nD Cert.MixerInReferenceIdeal.τ).loc Cert.MixerInReferenceIdeal.main_arg0) = m' ((c.tc : Thread Cert.MixerInReferenceIdeal.nD Cert.MixerInReferenceIdeal.τ).loc Cert.MixerInReferenceIdeal.main_arg0)
          ∧ r.2.mem ((c.tc : Thread Cert.MixerInReferenceIdeal.nD Cert.MixerInReferenceIdeal.τ).loc Cert.MixerInReferenceIdeal.main_arg1) = m' ((c.tc : Thread Cert.MixerInReferenceIdeal.nD Cert.MixerInReferenceIdeal.τ).loc Cert.MixerInReferenceIdeal.main_arg1))

def preserves_HyenaOut_HyenaOutIdeal : Prop :=
  True

def algebraic_HyenaOutIdeal_HyenaOutReferenceIdeal [hHyenaOutIdeal : Cert.HyenaOutIdeal.Facts] [hHyenaOutReferenceIdeal : Cert.HyenaOutReferenceIdeal.Facts] : Prop :=
  ∀ (m : (ℓ : Loc Cert.HyenaOutIdeal.nD Cert.HyenaOutIdeal.τ Cert.HyenaOutIdeal.sig) → Buf (Elt Ideal) ℓ) (g : Dev Cert.HyenaOutIdeal.nD → PrngReg)
    (m' : (ℓ : Loc Cert.HyenaOutReferenceIdeal.nD Cert.HyenaOutReferenceIdeal.τ Cert.HyenaOutReferenceIdeal.sig) → Buf (Elt Ideal) ℓ) (g' : Dev Cert.HyenaOutReferenceIdeal.nD → PrngReg), Pre_HyenaOutIdeal m →
    (∀ c : Dev Cert.HyenaOutIdeal.nD,
      m' ((c.tc : Thread Cert.HyenaOutReferenceIdeal.nD Cert.HyenaOutReferenceIdeal.τ).loc Cert.HyenaOutReferenceIdeal.main_arg0) = m ((c.tc : Thread Cert.HyenaOutIdeal.nD Cert.HyenaOutIdeal.τ).loc Cert.HyenaOutIdeal.main_arg0)
      ∧ m' ((c.tc : Thread Cert.HyenaOutReferenceIdeal.nD Cert.HyenaOutReferenceIdeal.τ).loc Cert.HyenaOutReferenceIdeal.main_arg1) = m ((c.tc : Thread Cert.HyenaOutIdeal.nD Cert.HyenaOutIdeal.τ).loc Cert.HyenaOutIdeal.main_arg1)
      ∧ m' ((c.tc : Thread Cert.HyenaOutReferenceIdeal.nD Cert.HyenaOutReferenceIdeal.τ).loc Cert.HyenaOutReferenceIdeal.main_arg2) = m ((c.tc : Thread Cert.HyenaOutIdeal.nD Cert.HyenaOutIdeal.τ).loc Cert.HyenaOutIdeal.main_arg2)
      ∧ m' ((c.tc : Thread Cert.HyenaOutReferenceIdeal.nD Cert.HyenaOutReferenceIdeal.τ).loc Cert.HyenaOutReferenceIdeal.main_arg3) = m ((c.tc : Thread Cert.HyenaOutIdeal.nD Cert.HyenaOutIdeal.τ).loc Cert.HyenaOutIdeal.main_arg3)
      ∧ m' ((c.tc : Thread Cert.HyenaOutReferenceIdeal.nD Cert.HyenaOutReferenceIdeal.τ).loc Cert.HyenaOutReferenceIdeal.main_arg4) = m ((c.tc : Thread Cert.HyenaOutIdeal.nD Cert.HyenaOutIdeal.τ).loc Cert.HyenaOutIdeal.main_arg4)) →
    ∃ (v0 : (c : Dev Cert.HyenaOutIdeal.nD) → Buf (Elt Ideal) ((c.tc : Thread Cert.HyenaOutIdeal.nD Cert.HyenaOutIdeal.τ).loc Cert.HyenaOutIdeal.main_v1)),
      θ_run (Cert.HyenaOutIdeal.defs (F := Ideal)) (onTc (τ := Cert.HyenaOutIdeal.τ) (Cert.HyenaOutIdeal.main (F := Ideal))) ⟨m, fun _ => 0, g⟩ (fun r => ∀ c : Dev Cert.HyenaOutIdeal.nD,
          r.2.mem ((c.tc : Thread Cert.HyenaOutIdeal.nD Cert.HyenaOutIdeal.τ).loc Cert.HyenaOutIdeal.main_v1) = v0 c
          ∧ r.2.mem ((c.tc : Thread Cert.HyenaOutIdeal.nD Cert.HyenaOutIdeal.τ).loc Cert.HyenaOutIdeal.main_arg0) = m ((c.tc : Thread Cert.HyenaOutIdeal.nD Cert.HyenaOutIdeal.τ).loc Cert.HyenaOutIdeal.main_arg0)
          ∧ r.2.mem ((c.tc : Thread Cert.HyenaOutIdeal.nD Cert.HyenaOutIdeal.τ).loc Cert.HyenaOutIdeal.main_arg1) = m ((c.tc : Thread Cert.HyenaOutIdeal.nD Cert.HyenaOutIdeal.τ).loc Cert.HyenaOutIdeal.main_arg1)
          ∧ r.2.mem ((c.tc : Thread Cert.HyenaOutIdeal.nD Cert.HyenaOutIdeal.τ).loc Cert.HyenaOutIdeal.main_arg2) = m ((c.tc : Thread Cert.HyenaOutIdeal.nD Cert.HyenaOutIdeal.τ).loc Cert.HyenaOutIdeal.main_arg2)
          ∧ r.2.mem ((c.tc : Thread Cert.HyenaOutIdeal.nD Cert.HyenaOutIdeal.τ).loc Cert.HyenaOutIdeal.main_arg3) = m ((c.tc : Thread Cert.HyenaOutIdeal.nD Cert.HyenaOutIdeal.τ).loc Cert.HyenaOutIdeal.main_arg3)
          ∧ r.2.mem ((c.tc : Thread Cert.HyenaOutIdeal.nD Cert.HyenaOutIdeal.τ).loc Cert.HyenaOutIdeal.main_arg4) = m ((c.tc : Thread Cert.HyenaOutIdeal.nD Cert.HyenaOutIdeal.τ).loc Cert.HyenaOutIdeal.main_arg4))
      ∧ θ_run (Cert.HyenaOutReferenceIdeal.defs (F := Ideal)) (onTc (τ := Cert.HyenaOutReferenceIdeal.τ) (Cert.HyenaOutReferenceIdeal.main (F := Ideal))) ⟨m', fun _ => 0, g'⟩ (fun r => ∀ c : Dev Cert.HyenaOutReferenceIdeal.nD,
          r.2.mem ((c.tc : Thread Cert.HyenaOutReferenceIdeal.nD Cert.HyenaOutReferenceIdeal.τ).loc Cert.HyenaOutReferenceIdeal.main_v18) = v0 c
          ∧ r.2.mem ((c.tc : Thread Cert.HyenaOutReferenceIdeal.nD Cert.HyenaOutReferenceIdeal.τ).loc Cert.HyenaOutReferenceIdeal.main_arg0) = m' ((c.tc : Thread Cert.HyenaOutReferenceIdeal.nD Cert.HyenaOutReferenceIdeal.τ).loc Cert.HyenaOutReferenceIdeal.main_arg0)
          ∧ r.2.mem ((c.tc : Thread Cert.HyenaOutReferenceIdeal.nD Cert.HyenaOutReferenceIdeal.τ).loc Cert.HyenaOutReferenceIdeal.main_arg1) = m' ((c.tc : Thread Cert.HyenaOutReferenceIdeal.nD Cert.HyenaOutReferenceIdeal.τ).loc Cert.HyenaOutReferenceIdeal.main_arg1)
          ∧ r.2.mem ((c.tc : Thread Cert.HyenaOutReferenceIdeal.nD Cert.HyenaOutReferenceIdeal.τ).loc Cert.HyenaOutReferenceIdeal.main_arg2) = m' ((c.tc : Thread Cert.HyenaOutReferenceIdeal.nD Cert.HyenaOutReferenceIdeal.τ).loc Cert.HyenaOutReferenceIdeal.main_arg2)
          ∧ r.2.mem ((c.tc : Thread Cert.HyenaOutReferenceIdeal.nD Cert.HyenaOutReferenceIdeal.τ).loc Cert.HyenaOutReferenceIdeal.main_arg3) = m' ((c.tc : Thread Cert.HyenaOutReferenceIdeal.nD Cert.HyenaOutReferenceIdeal.τ).loc Cert.HyenaOutReferenceIdeal.main_arg3)
          ∧ r.2.mem ((c.tc : Thread Cert.HyenaOutReferenceIdeal.nD Cert.HyenaOutReferenceIdeal.τ).loc Cert.HyenaOutReferenceIdeal.main_arg4) = m' ((c.tc : Thread Cert.HyenaOutReferenceIdeal.nD Cert.HyenaOutReferenceIdeal.τ).loc Cert.HyenaOutReferenceIdeal.main_arg4))

def preserves_MixerOut_MixerOutIdeal : Prop :=
  True

def algebraic_MixerOutIdeal_MixerOutReferenceIdeal [hMixerOutIdeal : Cert.MixerOutIdeal.Facts] [hMixerOutReferenceIdeal : Cert.MixerOutReferenceIdeal.Facts] : Prop :=
  ∀ (m : (ℓ : Loc Cert.MixerOutIdeal.nD Cert.MixerOutIdeal.τ Cert.MixerOutIdeal.sig) → Buf (Elt Ideal) ℓ) (g : Dev Cert.MixerOutIdeal.nD → PrngReg)
    (m' : (ℓ : Loc Cert.MixerOutReferenceIdeal.nD Cert.MixerOutReferenceIdeal.τ Cert.MixerOutReferenceIdeal.sig) → Buf (Elt Ideal) ℓ) (g' : Dev Cert.MixerOutReferenceIdeal.nD → PrngReg), Pre_MixerOutIdeal m →
    (∀ c : Dev Cert.MixerOutIdeal.nD,
      m' ((c.tc : Thread Cert.MixerOutReferenceIdeal.nD Cert.MixerOutReferenceIdeal.τ).loc Cert.MixerOutReferenceIdeal.main_arg0) = m ((c.tc : Thread Cert.MixerOutIdeal.nD Cert.MixerOutIdeal.τ).loc Cert.MixerOutIdeal.main_arg0)
      ∧ m' ((c.tc : Thread Cert.MixerOutReferenceIdeal.nD Cert.MixerOutReferenceIdeal.τ).loc Cert.MixerOutReferenceIdeal.main_arg1) = m ((c.tc : Thread Cert.MixerOutIdeal.nD Cert.MixerOutIdeal.τ).loc Cert.MixerOutIdeal.main_arg1)
      ∧ m' ((c.tc : Thread Cert.MixerOutReferenceIdeal.nD Cert.MixerOutReferenceIdeal.τ).loc Cert.MixerOutReferenceIdeal.main_arg2) = m ((c.tc : Thread Cert.MixerOutIdeal.nD Cert.MixerOutIdeal.τ).loc Cert.MixerOutIdeal.main_arg2)
      ∧ m' ((c.tc : Thread Cert.MixerOutReferenceIdeal.nD Cert.MixerOutReferenceIdeal.τ).loc Cert.MixerOutReferenceIdeal.main_arg3) = m ((c.tc : Thread Cert.MixerOutIdeal.nD Cert.MixerOutIdeal.τ).loc Cert.MixerOutIdeal.main_arg3)
      ∧ m' ((c.tc : Thread Cert.MixerOutReferenceIdeal.nD Cert.MixerOutReferenceIdeal.τ).loc Cert.MixerOutReferenceIdeal.main_arg4) = m ((c.tc : Thread Cert.MixerOutIdeal.nD Cert.MixerOutIdeal.τ).loc Cert.MixerOutIdeal.main_arg4)
      ∧ m' ((c.tc : Thread Cert.MixerOutReferenceIdeal.nD Cert.MixerOutReferenceIdeal.τ).loc Cert.MixerOutReferenceIdeal.main_arg5) = m ((c.tc : Thread Cert.MixerOutIdeal.nD Cert.MixerOutIdeal.τ).loc Cert.MixerOutIdeal.main_arg5)) →
    ∃ (v0 : (c : Dev Cert.MixerOutIdeal.nD) → Buf (Elt Ideal) ((c.tc : Thread Cert.MixerOutIdeal.nD Cert.MixerOutIdeal.τ).loc Cert.MixerOutIdeal.main_v3)),
      θ_run (Cert.MixerOutIdeal.defs (F := Ideal)) (onTc (τ := Cert.MixerOutIdeal.τ) (Cert.MixerOutIdeal.main (F := Ideal))) ⟨m, fun _ => 0, g⟩ (fun r => ∀ c : Dev Cert.MixerOutIdeal.nD,
          r.2.mem ((c.tc : Thread Cert.MixerOutIdeal.nD Cert.MixerOutIdeal.τ).loc Cert.MixerOutIdeal.main_v3) = v0 c
          ∧ r.2.mem ((c.tc : Thread Cert.MixerOutIdeal.nD Cert.MixerOutIdeal.τ).loc Cert.MixerOutIdeal.main_arg0) = m ((c.tc : Thread Cert.MixerOutIdeal.nD Cert.MixerOutIdeal.τ).loc Cert.MixerOutIdeal.main_arg0)
          ∧ r.2.mem ((c.tc : Thread Cert.MixerOutIdeal.nD Cert.MixerOutIdeal.τ).loc Cert.MixerOutIdeal.main_arg1) = m ((c.tc : Thread Cert.MixerOutIdeal.nD Cert.MixerOutIdeal.τ).loc Cert.MixerOutIdeal.main_arg1)
          ∧ r.2.mem ((c.tc : Thread Cert.MixerOutIdeal.nD Cert.MixerOutIdeal.τ).loc Cert.MixerOutIdeal.main_arg2) = m ((c.tc : Thread Cert.MixerOutIdeal.nD Cert.MixerOutIdeal.τ).loc Cert.MixerOutIdeal.main_arg2)
          ∧ r.2.mem ((c.tc : Thread Cert.MixerOutIdeal.nD Cert.MixerOutIdeal.τ).loc Cert.MixerOutIdeal.main_arg3) = m ((c.tc : Thread Cert.MixerOutIdeal.nD Cert.MixerOutIdeal.τ).loc Cert.MixerOutIdeal.main_arg3)
          ∧ r.2.mem ((c.tc : Thread Cert.MixerOutIdeal.nD Cert.MixerOutIdeal.τ).loc Cert.MixerOutIdeal.main_arg4) = m ((c.tc : Thread Cert.MixerOutIdeal.nD Cert.MixerOutIdeal.τ).loc Cert.MixerOutIdeal.main_arg4)
          ∧ r.2.mem ((c.tc : Thread Cert.MixerOutIdeal.nD Cert.MixerOutIdeal.τ).loc Cert.MixerOutIdeal.main_arg5) = m ((c.tc : Thread Cert.MixerOutIdeal.nD Cert.MixerOutIdeal.τ).loc Cert.MixerOutIdeal.main_arg5))
      ∧ θ_run (Cert.MixerOutReferenceIdeal.defs (F := Ideal)) (onTc (τ := Cert.MixerOutReferenceIdeal.τ) (Cert.MixerOutReferenceIdeal.main (F := Ideal))) ⟨m', fun _ => 0, g'⟩ (fun r => ∀ c : Dev Cert.MixerOutReferenceIdeal.nD,
          r.2.mem ((c.tc : Thread Cert.MixerOutReferenceIdeal.nD Cert.MixerOutReferenceIdeal.τ).loc Cert.MixerOutReferenceIdeal.main_v20) = v0 c
          ∧ r.2.mem ((c.tc : Thread Cert.MixerOutReferenceIdeal.nD Cert.MixerOutReferenceIdeal.τ).loc Cert.MixerOutReferenceIdeal.main_arg0) = m' ((c.tc : Thread Cert.MixerOutReferenceIdeal.nD Cert.MixerOutReferenceIdeal.τ).loc Cert.MixerOutReferenceIdeal.main_arg0)
          ∧ r.2.mem ((c.tc : Thread Cert.MixerOutReferenceIdeal.nD Cert.MixerOutReferenceIdeal.τ).loc Cert.MixerOutReferenceIdeal.main_arg1) = m' ((c.tc : Thread Cert.MixerOutReferenceIdeal.nD Cert.MixerOutReferenceIdeal.τ).loc Cert.MixerOutReferenceIdeal.main_arg1)
          ∧ r.2.mem ((c.tc : Thread Cert.MixerOutReferenceIdeal.nD Cert.MixerOutReferenceIdeal.τ).loc Cert.MixerOutReferenceIdeal.main_arg2) = m' ((c.tc : Thread Cert.MixerOutReferenceIdeal.nD Cert.MixerOutReferenceIdeal.τ).loc Cert.MixerOutReferenceIdeal.main_arg2)
          ∧ r.2.mem ((c.tc : Thread Cert.MixerOutReferenceIdeal.nD Cert.MixerOutReferenceIdeal.τ).loc Cert.MixerOutReferenceIdeal.main_arg3) = m' ((c.tc : Thread Cert.MixerOutReferenceIdeal.nD Cert.MixerOutReferenceIdeal.τ).loc Cert.MixerOutReferenceIdeal.main_arg3)
          ∧ r.2.mem ((c.tc : Thread Cert.MixerOutReferenceIdeal.nD Cert.MixerOutReferenceIdeal.τ).loc Cert.MixerOutReferenceIdeal.main_arg4) = m' ((c.tc : Thread Cert.MixerOutReferenceIdeal.nD Cert.MixerOutReferenceIdeal.τ).loc Cert.MixerOutReferenceIdeal.main_arg4)
          ∧ r.2.mem ((c.tc : Thread Cert.MixerOutReferenceIdeal.nD Cert.MixerOutReferenceIdeal.τ).loc Cert.MixerOutReferenceIdeal.main_arg5) = m' ((c.tc : Thread Cert.MixerOutReferenceIdeal.nD Cert.MixerOutReferenceIdeal.τ).loc Cert.MixerOutReferenceIdeal.main_arg5))

def preserves_RopeQ_RopeQIdeal : Prop :=
  True

def algebraic_RopeQIdeal_RopeQReferenceIdeal_pre_projected_finite [hRopeQIdeal : Cert.RopeQIdeal.Facts] [hRopeQReferenceIdeal : Cert.RopeQReferenceIdeal.Facts] [hPre_projected_finite : Cert.Pre_projected_finite.Facts] : Prop :=
  ∀ (m : (ℓ : Loc Cert.RopeQIdeal.nD Cert.RopeQIdeal.τ Cert.RopeQIdeal.sig) → Buf (Elt Ideal) ℓ) (g : Dev Cert.RopeQIdeal.nD → PrngReg)
    (m' : (ℓ : Loc Cert.RopeQReferenceIdeal.nD Cert.RopeQReferenceIdeal.τ Cert.RopeQReferenceIdeal.sig) → Buf (Elt Ideal) ℓ) (g' : Dev Cert.RopeQReferenceIdeal.nD → PrngReg), Pre_RopeQIdeal_projected_finite m →
    (∀ c : Dev Cert.RopeQIdeal.nD,
      m' ((c.tc : Thread Cert.RopeQReferenceIdeal.nD Cert.RopeQReferenceIdeal.τ).loc Cert.RopeQReferenceIdeal.main_arg0) = m ((c.tc : Thread Cert.RopeQIdeal.nD Cert.RopeQIdeal.τ).loc Cert.RopeQIdeal.main_arg0)
      ∧ m' ((c.tc : Thread Cert.RopeQReferenceIdeal.nD Cert.RopeQReferenceIdeal.τ).loc Cert.RopeQReferenceIdeal.main_arg1) = m ((c.tc : Thread Cert.RopeQIdeal.nD Cert.RopeQIdeal.τ).loc Cert.RopeQIdeal.main_arg1)
      ∧ m' ((c.tc : Thread Cert.RopeQReferenceIdeal.nD Cert.RopeQReferenceIdeal.τ).loc Cert.RopeQReferenceIdeal.main_arg2) = m ((c.tc : Thread Cert.RopeQIdeal.nD Cert.RopeQIdeal.τ).loc Cert.RopeQIdeal.main_arg2)
      ∧ m' ((c.tc : Thread Cert.RopeQReferenceIdeal.nD Cert.RopeQReferenceIdeal.τ).loc Cert.RopeQReferenceIdeal.main_arg3) = m ((c.tc : Thread Cert.RopeQIdeal.nD Cert.RopeQIdeal.τ).loc Cert.RopeQIdeal.main_arg3)) →
    ∃ (v0 : (c : Dev Cert.RopeQIdeal.nD) → Buf (Elt Ideal) ((c.tc : Thread Cert.RopeQIdeal.nD Cert.RopeQIdeal.τ).loc Cert.RopeQIdeal.main_v16)),
      θ_run (Cert.RopeQIdeal.defs (F := Ideal)) (onTc (τ := Cert.RopeQIdeal.τ) (Cert.RopeQIdeal.main (F := Ideal))) ⟨m, fun _ => 0, g⟩ (fun r => ∀ c : Dev Cert.RopeQIdeal.nD,
          r.2.mem ((c.tc : Thread Cert.RopeQIdeal.nD Cert.RopeQIdeal.τ).loc Cert.RopeQIdeal.main_v16) = v0 c
          ∧ r.2.mem ((c.tc : Thread Cert.RopeQIdeal.nD Cert.RopeQIdeal.τ).loc Cert.RopeQIdeal.main_arg0) = m ((c.tc : Thread Cert.RopeQIdeal.nD Cert.RopeQIdeal.τ).loc Cert.RopeQIdeal.main_arg0)
          ∧ r.2.mem ((c.tc : Thread Cert.RopeQIdeal.nD Cert.RopeQIdeal.τ).loc Cert.RopeQIdeal.main_arg1) = m ((c.tc : Thread Cert.RopeQIdeal.nD Cert.RopeQIdeal.τ).loc Cert.RopeQIdeal.main_arg1)
          ∧ r.2.mem ((c.tc : Thread Cert.RopeQIdeal.nD Cert.RopeQIdeal.τ).loc Cert.RopeQIdeal.main_arg2) = m ((c.tc : Thread Cert.RopeQIdeal.nD Cert.RopeQIdeal.τ).loc Cert.RopeQIdeal.main_arg2)
          ∧ r.2.mem ((c.tc : Thread Cert.RopeQIdeal.nD Cert.RopeQIdeal.τ).loc Cert.RopeQIdeal.main_arg3) = m ((c.tc : Thread Cert.RopeQIdeal.nD Cert.RopeQIdeal.τ).loc Cert.RopeQIdeal.main_arg3))
      ∧ θ_run (Cert.RopeQReferenceIdeal.defs (F := Ideal)) (onTc (τ := Cert.RopeQReferenceIdeal.τ) (Cert.RopeQReferenceIdeal.main (F := Ideal))) ⟨m', fun _ => 0, g'⟩ (fun r => ∀ c : Dev Cert.RopeQReferenceIdeal.nD,
          r.2.mem ((c.tc : Thread Cert.RopeQReferenceIdeal.nD Cert.RopeQReferenceIdeal.τ).loc Cert.RopeQReferenceIdeal.main_v19) = v0 c
          ∧ r.2.mem ((c.tc : Thread Cert.RopeQReferenceIdeal.nD Cert.RopeQReferenceIdeal.τ).loc Cert.RopeQReferenceIdeal.main_arg0) = m' ((c.tc : Thread Cert.RopeQReferenceIdeal.nD Cert.RopeQReferenceIdeal.τ).loc Cert.RopeQReferenceIdeal.main_arg0)
          ∧ r.2.mem ((c.tc : Thread Cert.RopeQReferenceIdeal.nD Cert.RopeQReferenceIdeal.τ).loc Cert.RopeQReferenceIdeal.main_arg1) = m' ((c.tc : Thread Cert.RopeQReferenceIdeal.nD Cert.RopeQReferenceIdeal.τ).loc Cert.RopeQReferenceIdeal.main_arg1)
          ∧ r.2.mem ((c.tc : Thread Cert.RopeQReferenceIdeal.nD Cert.RopeQReferenceIdeal.τ).loc Cert.RopeQReferenceIdeal.main_arg2) = m' ((c.tc : Thread Cert.RopeQReferenceIdeal.nD Cert.RopeQReferenceIdeal.τ).loc Cert.RopeQReferenceIdeal.main_arg2)
          ∧ r.2.mem ((c.tc : Thread Cert.RopeQReferenceIdeal.nD Cert.RopeQReferenceIdeal.τ).loc Cert.RopeQReferenceIdeal.main_arg3) = m' ((c.tc : Thread Cert.RopeQReferenceIdeal.nD Cert.RopeQReferenceIdeal.τ).loc Cert.RopeQReferenceIdeal.main_arg3))

def preserves_RopeK_RopeKIdeal : Prop :=
  True

def algebraic_RopeKIdeal_RopeKReferenceIdeal_pre_projected_finite [hRopeKIdeal : Cert.RopeKIdeal.Facts] [hRopeKReferenceIdeal : Cert.RopeKReferenceIdeal.Facts] [hPre_projected_finite : Cert.Pre_projected_finite.Facts] : Prop :=
  ∀ (m : (ℓ : Loc Cert.RopeKIdeal.nD Cert.RopeKIdeal.τ Cert.RopeKIdeal.sig) → Buf (Elt Ideal) ℓ) (g : Dev Cert.RopeKIdeal.nD → PrngReg)
    (m' : (ℓ : Loc Cert.RopeKReferenceIdeal.nD Cert.RopeKReferenceIdeal.τ Cert.RopeKReferenceIdeal.sig) → Buf (Elt Ideal) ℓ) (g' : Dev Cert.RopeKReferenceIdeal.nD → PrngReg), Pre_RopeKIdeal_projected_finite m →
    (∀ c : Dev Cert.RopeKIdeal.nD,
      m' ((c.tc : Thread Cert.RopeKReferenceIdeal.nD Cert.RopeKReferenceIdeal.τ).loc Cert.RopeKReferenceIdeal.main_arg0) = m ((c.tc : Thread Cert.RopeKIdeal.nD Cert.RopeKIdeal.τ).loc Cert.RopeKIdeal.main_arg0)
      ∧ m' ((c.tc : Thread Cert.RopeKReferenceIdeal.nD Cert.RopeKReferenceIdeal.τ).loc Cert.RopeKReferenceIdeal.main_arg1) = m ((c.tc : Thread Cert.RopeKIdeal.nD Cert.RopeKIdeal.τ).loc Cert.RopeKIdeal.main_arg1)
      ∧ m' ((c.tc : Thread Cert.RopeKReferenceIdeal.nD Cert.RopeKReferenceIdeal.τ).loc Cert.RopeKReferenceIdeal.main_arg2) = m ((c.tc : Thread Cert.RopeKIdeal.nD Cert.RopeKIdeal.τ).loc Cert.RopeKIdeal.main_arg2)
      ∧ m' ((c.tc : Thread Cert.RopeKReferenceIdeal.nD Cert.RopeKReferenceIdeal.τ).loc Cert.RopeKReferenceIdeal.main_arg3) = m ((c.tc : Thread Cert.RopeKIdeal.nD Cert.RopeKIdeal.τ).loc Cert.RopeKIdeal.main_arg3)) →
    ∃ (v0 : (c : Dev Cert.RopeKIdeal.nD) → Buf (Elt Ideal) ((c.tc : Thread Cert.RopeKIdeal.nD Cert.RopeKIdeal.τ).loc Cert.RopeKIdeal.main_v16)),
      θ_run (Cert.RopeKIdeal.defs (F := Ideal)) (onTc (τ := Cert.RopeKIdeal.τ) (Cert.RopeKIdeal.main (F := Ideal))) ⟨m, fun _ => 0, g⟩ (fun r => ∀ c : Dev Cert.RopeKIdeal.nD,
          r.2.mem ((c.tc : Thread Cert.RopeKIdeal.nD Cert.RopeKIdeal.τ).loc Cert.RopeKIdeal.main_v16) = v0 c
          ∧ r.2.mem ((c.tc : Thread Cert.RopeKIdeal.nD Cert.RopeKIdeal.τ).loc Cert.RopeKIdeal.main_arg0) = m ((c.tc : Thread Cert.RopeKIdeal.nD Cert.RopeKIdeal.τ).loc Cert.RopeKIdeal.main_arg0)
          ∧ r.2.mem ((c.tc : Thread Cert.RopeKIdeal.nD Cert.RopeKIdeal.τ).loc Cert.RopeKIdeal.main_arg1) = m ((c.tc : Thread Cert.RopeKIdeal.nD Cert.RopeKIdeal.τ).loc Cert.RopeKIdeal.main_arg1)
          ∧ r.2.mem ((c.tc : Thread Cert.RopeKIdeal.nD Cert.RopeKIdeal.τ).loc Cert.RopeKIdeal.main_arg2) = m ((c.tc : Thread Cert.RopeKIdeal.nD Cert.RopeKIdeal.τ).loc Cert.RopeKIdeal.main_arg2)
          ∧ r.2.mem ((c.tc : Thread Cert.RopeKIdeal.nD Cert.RopeKIdeal.τ).loc Cert.RopeKIdeal.main_arg3) = m ((c.tc : Thread Cert.RopeKIdeal.nD Cert.RopeKIdeal.τ).loc Cert.RopeKIdeal.main_arg3))
      ∧ θ_run (Cert.RopeKReferenceIdeal.defs (F := Ideal)) (onTc (τ := Cert.RopeKReferenceIdeal.τ) (Cert.RopeKReferenceIdeal.main (F := Ideal))) ⟨m', fun _ => 0, g'⟩ (fun r => ∀ c : Dev Cert.RopeKReferenceIdeal.nD,
          r.2.mem ((c.tc : Thread Cert.RopeKReferenceIdeal.nD Cert.RopeKReferenceIdeal.τ).loc Cert.RopeKReferenceIdeal.main_v17) = v0 c
          ∧ r.2.mem ((c.tc : Thread Cert.RopeKReferenceIdeal.nD Cert.RopeKReferenceIdeal.τ).loc Cert.RopeKReferenceIdeal.main_arg0) = m' ((c.tc : Thread Cert.RopeKReferenceIdeal.nD Cert.RopeKReferenceIdeal.τ).loc Cert.RopeKReferenceIdeal.main_arg0)
          ∧ r.2.mem ((c.tc : Thread Cert.RopeKReferenceIdeal.nD Cert.RopeKReferenceIdeal.τ).loc Cert.RopeKReferenceIdeal.main_arg1) = m' ((c.tc : Thread Cert.RopeKReferenceIdeal.nD Cert.RopeKReferenceIdeal.τ).loc Cert.RopeKReferenceIdeal.main_arg1)
          ∧ r.2.mem ((c.tc : Thread Cert.RopeKReferenceIdeal.nD Cert.RopeKReferenceIdeal.τ).loc Cert.RopeKReferenceIdeal.main_arg2) = m' ((c.tc : Thread Cert.RopeKReferenceIdeal.nD Cert.RopeKReferenceIdeal.τ).loc Cert.RopeKReferenceIdeal.main_arg2)
          ∧ r.2.mem ((c.tc : Thread Cert.RopeKReferenceIdeal.nD Cert.RopeKReferenceIdeal.τ).loc Cert.RopeKReferenceIdeal.main_arg3) = m' ((c.tc : Thread Cert.RopeKReferenceIdeal.nD Cert.RopeKReferenceIdeal.τ).loc Cert.RopeKReferenceIdeal.main_arg3))

def preserves_ContextIn_ContextInIdeal : Prop :=
  True

def algebraic_ContextInIdeal_ContextInReferenceIdeal [hContextInIdeal : Cert.ContextInIdeal.Facts] [hContextInReferenceIdeal : Cert.ContextInReferenceIdeal.Facts] : Prop :=
  ∀ (m : (ℓ : Loc Cert.ContextInIdeal.nD Cert.ContextInIdeal.τ Cert.ContextInIdeal.sig) → Buf (Elt Ideal) ℓ) (g : Dev Cert.ContextInIdeal.nD → PrngReg)
    (m' : (ℓ : Loc Cert.ContextInReferenceIdeal.nD Cert.ContextInReferenceIdeal.τ Cert.ContextInReferenceIdeal.sig) → Buf (Elt Ideal) ℓ) (g' : Dev Cert.ContextInReferenceIdeal.nD → PrngReg), Pre_ContextInIdeal m →
    (∀ c : Dev Cert.ContextInIdeal.nD,
      m' ((c.tc : Thread Cert.ContextInReferenceIdeal.nD Cert.ContextInReferenceIdeal.τ).loc Cert.ContextInReferenceIdeal.main_arg0) = m ((c.tc : Thread Cert.ContextInIdeal.nD Cert.ContextInIdeal.τ).loc Cert.ContextInIdeal.main_arg0)
      ∧ m' ((c.tc : Thread Cert.ContextInReferenceIdeal.nD Cert.ContextInReferenceIdeal.τ).loc Cert.ContextInReferenceIdeal.main_arg1) = m ((c.tc : Thread Cert.ContextInIdeal.nD Cert.ContextInIdeal.τ).loc Cert.ContextInIdeal.main_arg1)) →
    ∃ (v0 : (c : Dev Cert.ContextInIdeal.nD) → Buf (Elt Ideal) ((c.tc : Thread Cert.ContextInIdeal.nD Cert.ContextInIdeal.τ).loc Cert.ContextInIdeal.main_v2)),
      θ_run (Cert.ContextInIdeal.defs (F := Ideal)) (onTc (τ := Cert.ContextInIdeal.τ) (Cert.ContextInIdeal.main (F := Ideal))) ⟨m, fun _ => 0, g⟩ (fun r => ∀ c : Dev Cert.ContextInIdeal.nD,
          r.2.mem ((c.tc : Thread Cert.ContextInIdeal.nD Cert.ContextInIdeal.τ).loc Cert.ContextInIdeal.main_v2) = v0 c
          ∧ r.2.mem ((c.tc : Thread Cert.ContextInIdeal.nD Cert.ContextInIdeal.τ).loc Cert.ContextInIdeal.main_arg0) = m ((c.tc : Thread Cert.ContextInIdeal.nD Cert.ContextInIdeal.τ).loc Cert.ContextInIdeal.main_arg0)
          ∧ r.2.mem ((c.tc : Thread Cert.ContextInIdeal.nD Cert.ContextInIdeal.τ).loc Cert.ContextInIdeal.main_arg1) = m ((c.tc : Thread Cert.ContextInIdeal.nD Cert.ContextInIdeal.τ).loc Cert.ContextInIdeal.main_arg1))
      ∧ θ_run (Cert.ContextInReferenceIdeal.defs (F := Ideal)) (onTc (τ := Cert.ContextInReferenceIdeal.τ) (Cert.ContextInReferenceIdeal.main (F := Ideal))) ⟨m', fun _ => 0, g'⟩ (fun r => ∀ c : Dev Cert.ContextInReferenceIdeal.nD,
          r.2.mem ((c.tc : Thread Cert.ContextInReferenceIdeal.nD Cert.ContextInReferenceIdeal.τ).loc Cert.ContextInReferenceIdeal.main_v3) = v0 c
          ∧ r.2.mem ((c.tc : Thread Cert.ContextInReferenceIdeal.nD Cert.ContextInReferenceIdeal.τ).loc Cert.ContextInReferenceIdeal.main_arg0) = m' ((c.tc : Thread Cert.ContextInReferenceIdeal.nD Cert.ContextInReferenceIdeal.τ).loc Cert.ContextInReferenceIdeal.main_arg0)
          ∧ r.2.mem ((c.tc : Thread Cert.ContextInReferenceIdeal.nD Cert.ContextInReferenceIdeal.τ).loc Cert.ContextInReferenceIdeal.main_arg1) = m' ((c.tc : Thread Cert.ContextInReferenceIdeal.nD Cert.ContextInReferenceIdeal.τ).loc Cert.ContextInReferenceIdeal.main_arg1))

def preserves_ContextConv_ContextConvIdeal : Prop :=
  True

def algebraic_ContextConvIdeal_ContextConvReferenceIdeal [hContextConvIdeal : Cert.ContextConvIdeal.Facts] [hContextConvReferenceIdeal : Cert.ContextConvReferenceIdeal.Facts] : Prop :=
  ∀ (m : (ℓ : Loc Cert.ContextConvIdeal.nD Cert.ContextConvIdeal.τ Cert.ContextConvIdeal.sig) → Buf (Elt Ideal) ℓ) (g : Dev Cert.ContextConvIdeal.nD → PrngReg)
    (m' : (ℓ : Loc Cert.ContextConvReferenceIdeal.nD Cert.ContextConvReferenceIdeal.τ Cert.ContextConvReferenceIdeal.sig) → Buf (Elt Ideal) ℓ) (g' : Dev Cert.ContextConvReferenceIdeal.nD → PrngReg), Pre_ContextConvIdeal m →
    (∀ c : Dev Cert.ContextConvIdeal.nD,
      m' ((c.tc : Thread Cert.ContextConvReferenceIdeal.nD Cert.ContextConvReferenceIdeal.τ).loc Cert.ContextConvReferenceIdeal.main_arg0) = m ((c.tc : Thread Cert.ContextConvIdeal.nD Cert.ContextConvIdeal.τ).loc Cert.ContextConvIdeal.main_arg0)
      ∧ m' ((c.tc : Thread Cert.ContextConvReferenceIdeal.nD Cert.ContextConvReferenceIdeal.τ).loc Cert.ContextConvReferenceIdeal.main_arg1) = m ((c.tc : Thread Cert.ContextConvIdeal.nD Cert.ContextConvIdeal.τ).loc Cert.ContextConvIdeal.main_arg1)
      ∧ m' ((c.tc : Thread Cert.ContextConvReferenceIdeal.nD Cert.ContextConvReferenceIdeal.τ).loc Cert.ContextConvReferenceIdeal.main_arg2) = m ((c.tc : Thread Cert.ContextConvIdeal.nD Cert.ContextConvIdeal.τ).loc Cert.ContextConvIdeal.main_arg2)
      ∧ m' ((c.tc : Thread Cert.ContextConvReferenceIdeal.nD Cert.ContextConvReferenceIdeal.τ).loc Cert.ContextConvReferenceIdeal.main_arg3) = m ((c.tc : Thread Cert.ContextConvIdeal.nD Cert.ContextConvIdeal.τ).loc Cert.ContextConvIdeal.main_arg3)) →
    ∃ (v0 : (c : Dev Cert.ContextConvIdeal.nD) → Buf (Elt Ideal) ((c.tc : Thread Cert.ContextConvIdeal.nD Cert.ContextConvIdeal.τ).loc Cert.ContextConvIdeal.main_v1)),
      θ_run (Cert.ContextConvIdeal.defs (F := Ideal)) (onTc (τ := Cert.ContextConvIdeal.τ) (Cert.ContextConvIdeal.main (F := Ideal))) ⟨m, fun _ => 0, g⟩ (fun r => ∀ c : Dev Cert.ContextConvIdeal.nD,
          r.2.mem ((c.tc : Thread Cert.ContextConvIdeal.nD Cert.ContextConvIdeal.τ).loc Cert.ContextConvIdeal.main_v1) = v0 c
          ∧ r.2.mem ((c.tc : Thread Cert.ContextConvIdeal.nD Cert.ContextConvIdeal.τ).loc Cert.ContextConvIdeal.main_arg0) = m ((c.tc : Thread Cert.ContextConvIdeal.nD Cert.ContextConvIdeal.τ).loc Cert.ContextConvIdeal.main_arg0)
          ∧ r.2.mem ((c.tc : Thread Cert.ContextConvIdeal.nD Cert.ContextConvIdeal.τ).loc Cert.ContextConvIdeal.main_arg1) = m ((c.tc : Thread Cert.ContextConvIdeal.nD Cert.ContextConvIdeal.τ).loc Cert.ContextConvIdeal.main_arg1)
          ∧ r.2.mem ((c.tc : Thread Cert.ContextConvIdeal.nD Cert.ContextConvIdeal.τ).loc Cert.ContextConvIdeal.main_arg2) = m ((c.tc : Thread Cert.ContextConvIdeal.nD Cert.ContextConvIdeal.τ).loc Cert.ContextConvIdeal.main_arg2)
          ∧ r.2.mem ((c.tc : Thread Cert.ContextConvIdeal.nD Cert.ContextConvIdeal.τ).loc Cert.ContextConvIdeal.main_arg3) = m ((c.tc : Thread Cert.ContextConvIdeal.nD Cert.ContextConvIdeal.τ).loc Cert.ContextConvIdeal.main_arg3))
      ∧ θ_run (Cert.ContextConvReferenceIdeal.defs (F := Ideal)) (onTc (τ := Cert.ContextConvReferenceIdeal.τ) (Cert.ContextConvReferenceIdeal.main (F := Ideal))) ⟨m', fun _ => 0, g'⟩ (fun r => ∀ c : Dev Cert.ContextConvReferenceIdeal.nD,
          r.2.mem ((c.tc : Thread Cert.ContextConvReferenceIdeal.nD Cert.ContextConvReferenceIdeal.τ).loc Cert.ContextConvReferenceIdeal.main_v30) = v0 c
          ∧ r.2.mem ((c.tc : Thread Cert.ContextConvReferenceIdeal.nD Cert.ContextConvReferenceIdeal.τ).loc Cert.ContextConvReferenceIdeal.main_arg0) = m' ((c.tc : Thread Cert.ContextConvReferenceIdeal.nD Cert.ContextConvReferenceIdeal.τ).loc Cert.ContextConvReferenceIdeal.main_arg0)
          ∧ r.2.mem ((c.tc : Thread Cert.ContextConvReferenceIdeal.nD Cert.ContextConvReferenceIdeal.τ).loc Cert.ContextConvReferenceIdeal.main_arg1) = m' ((c.tc : Thread Cert.ContextConvReferenceIdeal.nD Cert.ContextConvReferenceIdeal.τ).loc Cert.ContextConvReferenceIdeal.main_arg1)
          ∧ r.2.mem ((c.tc : Thread Cert.ContextConvReferenceIdeal.nD Cert.ContextConvReferenceIdeal.τ).loc Cert.ContextConvReferenceIdeal.main_arg2) = m' ((c.tc : Thread Cert.ContextConvReferenceIdeal.nD Cert.ContextConvReferenceIdeal.τ).loc Cert.ContextConvReferenceIdeal.main_arg2)
          ∧ r.2.mem ((c.tc : Thread Cert.ContextConvReferenceIdeal.nD Cert.ContextConvReferenceIdeal.τ).loc Cert.ContextConvReferenceIdeal.main_arg3) = m' ((c.tc : Thread Cert.ContextConvReferenceIdeal.nD Cert.ContextConvReferenceIdeal.τ).loc Cert.ContextConvReferenceIdeal.main_arg3))

def Claim : Prop :=
  ∃ (hMoe : Cert.Moe.Facts) (hMoeIdeal : Cert.MoeIdeal.Facts) (hMoeReferenceIdeal : Cert.MoeReferenceIdeal.Facts) (hKernel : Cert.Kernel.Facts) (hKernelIdeal : Cert.KernelIdeal.Facts) (hReferenceIdeal : Cert.ReferenceIdeal.Facts) (hHyenaIn : Cert.HyenaIn.Facts) (hHyenaInIdeal : Cert.HyenaInIdeal.Facts) (hHyenaInReferenceIdeal : Cert.HyenaInReferenceIdeal.Facts) (hMixerConv : Cert.MixerConv.Facts) (hMixerConvIdeal : Cert.MixerConvIdeal.Facts) (hMixerConvReferenceIdeal : Cert.MixerConvReferenceIdeal.Facts) (hMixerIn : Cert.MixerIn.Facts) (hMixerInIdeal : Cert.MixerInIdeal.Facts) (hMixerInReferenceIdeal : Cert.MixerInReferenceIdeal.Facts) (hHyenaOut : Cert.HyenaOut.Facts) (hHyenaOutIdeal : Cert.HyenaOutIdeal.Facts) (hHyenaOutReferenceIdeal : Cert.HyenaOutReferenceIdeal.Facts) (hMixerOut : Cert.MixerOut.Facts) (hMixerOutIdeal : Cert.MixerOutIdeal.Facts) (hMixerOutReferenceIdeal : Cert.MixerOutReferenceIdeal.Facts) (hRopeQ : Cert.RopeQ.Facts) (hRopeQIdeal : Cert.RopeQIdeal.Facts) (hRopeQReferenceIdeal : Cert.RopeQReferenceIdeal.Facts) (hRopeK : Cert.RopeK.Facts) (hRopeKIdeal : Cert.RopeKIdeal.Facts) (hRopeKReferenceIdeal : Cert.RopeKReferenceIdeal.Facts) (hContextIn : Cert.ContextIn.Facts) (hContextInIdeal : Cert.ContextInIdeal.Facts) (hContextInReferenceIdeal : Cert.ContextInReferenceIdeal.Facts) (hContextConv : Cert.ContextConv.Facts) (hContextConvIdeal : Cert.ContextConvIdeal.Facts) (hContextConvReferenceIdeal : Cert.ContextConvReferenceIdeal.Facts) (hPre_gates_real : Cert.Pre_gates_real.Facts) (hPre_scores_finite : Cert.Pre_scores_finite.Facts) (hPre_projected_finite : Cert.Pre_projected_finite.Facts),
    quiescent_Moe (hMoe := hMoe)
    ∧ quiescent_MoeIdeal (hMoeIdeal := hMoeIdeal)
    ∧ quiescent_MoeIdeal_pre_gates_real (hMoeIdeal := hMoeIdeal) (hPre_gates_real := hPre_gates_real)
    ∧ quiescent_MoeReferenceIdeal (hMoeReferenceIdeal := hMoeReferenceIdeal)
    ∧ quiescent_MoeReferenceIdeal_pre_gates_real (hMoeReferenceIdeal := hMoeReferenceIdeal) (hPre_gates_real := hPre_gates_real)
    ∧ quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_HyenaIn (hHyenaIn := hHyenaIn)
    ∧ quiescent_HyenaInIdeal (hHyenaInIdeal := hHyenaInIdeal)
    ∧ quiescent_HyenaInReferenceIdeal (hHyenaInReferenceIdeal := hHyenaInReferenceIdeal)
    ∧ quiescent_MixerConv (hMixerConv := hMixerConv)
    ∧ quiescent_MixerConvIdeal (hMixerConvIdeal := hMixerConvIdeal)
    ∧ quiescent_MixerConvReferenceIdeal (hMixerConvReferenceIdeal := hMixerConvReferenceIdeal)
    ∧ quiescent_MixerIn (hMixerIn := hMixerIn)
    ∧ quiescent_MixerInIdeal (hMixerInIdeal := hMixerInIdeal)
    ∧ quiescent_MixerInReferenceIdeal (hMixerInReferenceIdeal := hMixerInReferenceIdeal)
    ∧ quiescent_HyenaOut (hHyenaOut := hHyenaOut)
    ∧ quiescent_HyenaOutIdeal (hHyenaOutIdeal := hHyenaOutIdeal)
    ∧ quiescent_HyenaOutReferenceIdeal (hHyenaOutReferenceIdeal := hHyenaOutReferenceIdeal)
    ∧ quiescent_MixerOut (hMixerOut := hMixerOut)
    ∧ quiescent_MixerOutIdeal (hMixerOutIdeal := hMixerOutIdeal)
    ∧ quiescent_MixerOutReferenceIdeal (hMixerOutReferenceIdeal := hMixerOutReferenceIdeal)
    ∧ quiescent_RopeQ (hRopeQ := hRopeQ)
    ∧ quiescent_RopeQIdeal (hRopeQIdeal := hRopeQIdeal)
    ∧ quiescent_RopeQIdeal_pre_projected_finite (hRopeQIdeal := hRopeQIdeal) (hPre_projected_finite := hPre_projected_finite)
    ∧ quiescent_RopeQReferenceIdeal (hRopeQReferenceIdeal := hRopeQReferenceIdeal)
    ∧ quiescent_RopeQReferenceIdeal_pre_projected_finite (hRopeQReferenceIdeal := hRopeQReferenceIdeal) (hPre_projected_finite := hPre_projected_finite)
    ∧ quiescent_RopeK (hRopeK := hRopeK)
    ∧ quiescent_RopeKIdeal (hRopeKIdeal := hRopeKIdeal)
    ∧ quiescent_RopeKIdeal_pre_projected_finite (hRopeKIdeal := hRopeKIdeal) (hPre_projected_finite := hPre_projected_finite)
    ∧ quiescent_RopeKReferenceIdeal (hRopeKReferenceIdeal := hRopeKReferenceIdeal)
    ∧ quiescent_RopeKReferenceIdeal_pre_projected_finite (hRopeKReferenceIdeal := hRopeKReferenceIdeal) (hPre_projected_finite := hPre_projected_finite)
    ∧ quiescent_ContextIn (hContextIn := hContextIn)
    ∧ quiescent_ContextInIdeal (hContextInIdeal := hContextInIdeal)
    ∧ quiescent_ContextInReferenceIdeal (hContextInReferenceIdeal := hContextInReferenceIdeal)
    ∧ quiescent_ContextConv (hContextConv := hContextConv)
    ∧ quiescent_ContextConvIdeal (hContextConvIdeal := hContextConvIdeal)
    ∧ quiescent_ContextConvReferenceIdeal (hContextConvReferenceIdeal := hContextConvReferenceIdeal)
    ∧ preserves_Moe_MoeIdeal
    ∧ algebraic_MoeIdeal_MoeReferenceIdeal_pre_gates_real (hMoeIdeal := hMoeIdeal) (hMoeReferenceIdeal := hMoeReferenceIdeal) (hPre_gates_real := hPre_gates_real)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_HyenaIn_HyenaInIdeal
    ∧ algebraic_HyenaInIdeal_HyenaInReferenceIdeal (hHyenaInIdeal := hHyenaInIdeal) (hHyenaInReferenceIdeal := hHyenaInReferenceIdeal)
    ∧ preserves_MixerConv_MixerConvIdeal
    ∧ algebraic_MixerConvIdeal_MixerConvReferenceIdeal (hMixerConvIdeal := hMixerConvIdeal) (hMixerConvReferenceIdeal := hMixerConvReferenceIdeal)
    ∧ preserves_MixerIn_MixerInIdeal
    ∧ algebraic_MixerInIdeal_MixerInReferenceIdeal (hMixerInIdeal := hMixerInIdeal) (hMixerInReferenceIdeal := hMixerInReferenceIdeal)
    ∧ preserves_HyenaOut_HyenaOutIdeal
    ∧ algebraic_HyenaOutIdeal_HyenaOutReferenceIdeal (hHyenaOutIdeal := hHyenaOutIdeal) (hHyenaOutReferenceIdeal := hHyenaOutReferenceIdeal)
    ∧ preserves_MixerOut_MixerOutIdeal
    ∧ algebraic_MixerOutIdeal_MixerOutReferenceIdeal (hMixerOutIdeal := hMixerOutIdeal) (hMixerOutReferenceIdeal := hMixerOutReferenceIdeal)
    ∧ preserves_RopeQ_RopeQIdeal
    ∧ algebraic_RopeQIdeal_RopeQReferenceIdeal_pre_projected_finite (hRopeQIdeal := hRopeQIdeal) (hRopeQReferenceIdeal := hRopeQReferenceIdeal) (hPre_projected_finite := hPre_projected_finite)
    ∧ preserves_RopeK_RopeKIdeal
    ∧ algebraic_RopeKIdeal_RopeKReferenceIdeal_pre_projected_finite (hRopeKIdeal := hRopeKIdeal) (hRopeKReferenceIdeal := hRopeKReferenceIdeal) (hPre_projected_finite := hPre_projected_finite)
    ∧ preserves_ContextIn_ContextInIdeal
    ∧ algebraic_ContextInIdeal_ContextInReferenceIdeal (hContextInIdeal := hContextInIdeal) (hContextInReferenceIdeal := hContextInReferenceIdeal)
    ∧ preserves_ContextConv_ContextConvIdeal
    ∧ algebraic_ContextConvIdeal_ContextConvReferenceIdeal (hContextConvIdeal := hContextConvIdeal) (hContextConvReferenceIdeal := hContextConvReferenceIdeal)
-- ==== Pre_gates_real.lean ====
abbrev S32x2048x1024 : Shape := ⟨3, ![32, 2048, 1024]⟩
abbrev S32x2048x128 : Shape := ⟨3, ![32, 2048, 128]⟩
abbrev S64x1024x512 : Shape := ⟨3, ![64, 1024, 512]⟩
abbrev S64x256x1024 : Shape := ⟨3, ![64, 256, 1024]⟩
abbrev S1024x512 : Shape := ⟨2, ![1024, 512]⟩
abbrev S256x1024 : Shape := ⟨2, ![256, 1024]⟩
abbrev S1024 : Shape := ⟨1, ![1024]⟩
abbrev S32x1x1024 : Shape := ⟨3, ![32, 1, 1024]⟩
abbrev S32x2048x64 : Shape := ⟨3, ![32, 2048, 64]⟩
abbrev S_ : Shape := ⟨0, ![]⟩

class Facts : Prop where
  slices_S32x2048x128_S32x2048x64_0_0_0 : S32x2048x128.Slices ![0, 0, 0] S32x2048x64
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel

variable [Facts]

def fn {F : FTy → Type} [FloatOps F] (main_arg0 : FVec F S32x2048x1024 .bf16) (main_arg1 : FVec F S32x2048x128 .f32) (main_arg2 : FVec F S64x1024x512 .bf16) (main_arg3 : FVec F S64x256x1024 .bf16) (main_arg4 : FVec F S1024x512 .bf16) (main_arg5 : FVec F S256x1024 .bf16) (main_arg6 : FVec F S32x2048x1024 .f32) (main_arg7 : FVec F S1024 .f32) (main_arg8 : FVec F S32x1x1024 .f32) : IVec S_ 1 :=
  let main_v0 : FVec F S32x2048x64 .f32 := (extractStridedSlice S32x2048x64 ![0, 0, 0] · slices_S32x2048x128_S32x2048x64_0_0_0) main_arg1
  let main_cst : FVec F S_ .f32 := constant S_ .f32 0x00000000#32
  let main_v1 : FVec F S32x2048x64 .f32 := broadcastInDim S32x2048x64 ![] bcast_S_S32x2048x64 main_cst
  let main_v2 : IVec S32x2048x64 1 := cmpf .oge main_v0 main_v1
  let main_cst_0 : FVec F S_ .f32 := constant S_ .f32 0x7F800000#32
  let main_v3 : FVec F S32x2048x64 .f32 := broadcastInDim S32x2048x64 ![] bcast_S_S32x2048x64 main_cst_0
  let main_v4 : IVec S32x2048x64 1 := cmpf .olt main_v0 main_v3
  let main_v5 : IVec S32x2048x64 1 := andi main_v2 main_v4
  let main_c : IVec S_ 1 := constantI S_ 1 1#1
  let main_v6 : IVec S_ 1 := (fun x v => Host.reduce IntOp.andi x v reducesTo_S32x2048x64_S_d0_1_2 h_S_) main_v5 main_c
  main_v6
-- ==== Pre_projected_finite.lean ====
abbrev S32x2048x1024 : Shape := ⟨3, ![32, 2048, 1024]⟩
abbrev S1024x512 : Shape := ⟨2, ![1024, 512]⟩
abbrev S2048x64 : Shape := ⟨2, ![2048, 64]⟩
abbrev S_ : Shape := ⟨0, ![]⟩

class Facts : Prop where
  bitsLt_bf16_f32 : FTy.bits .bf16 < FTy.bits .f32
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S32x2048x1024 .bf16) (main_arg1 : FVec F S1024x512 .f32) (main_arg2 : FVec F S2048x64 .f32) (main_arg3 : FVec F S2048x64 .f32) : IVec S_ 1 :=
  let main_v0 : FVec F S32x2048x1024 .f32 := (extf .f32 · bitsLt_bf16_f32) main_arg0
  let main_v1 : FVec F S32x2048x1024 .f32 := Host.absf main_v0
  let main_cst : FVec F S_ .f32 := constant S_ .f32 0x7F800000#32
  let main_v2 : FVec F S32x2048x1024 .f32 := broadcastInDim S32x2048x1024 ![] bcast_S_S32x2048x1024 main_cst
  let main_v3 : IVec S32x2048x1024 1 := cmpf .olt main_v1 main_v2
  let main_c : IVec S_ 1 := constantI S_ 1 1#1
  let main_v4 : IVec S_ 1 := (fun x v => Host.reduce IntOp.andi x v reducesTo_S32x2048x1024_S_d0_1_2 h_S_) main_v3 main_c
  let main_v5 : FVec F S1024x512 .f32 := Host.absf main_arg1
  let main_cst_0 : FVec F S_ .f32 := constant S_ .f32 0x7F800000#32
  let main_v6 : FVec F S1024x512 .f32 := broadcastInDim S1024x512 ![] bcast_S_S1024x512 main_cst_0
  let main_v7 : IVec S1024x512 1 := cmpf .olt main_v5 main_v6
  let main_c_1 : IVec S_ 1 := constantI S_ 1 1#1
  let main_v8 : IVec S_ 1 := (fun x v => Host.reduce IntOp.andi x v reducesTo_S1024x512_S_d0_1 h_S_) main_v7 main_c_1
  let main_v9 : IVec S_ 1 := andi main_v4 main_v8
  main_v9
-- ==== Pre_scores_finite.lean ====
abbrev S4x64 : Shape := ⟨2, ![4, 64]⟩
abbrev S32x2048x512 : Shape := ⟨3, ![32, 2048, 512]⟩
abbrev S32x2048x1536 : Shape := ⟨3, ![32, 2048, 1536]⟩
abbrev S32x256x1536 : Shape := ⟨3, ![32, 256, 1536]⟩
abbrev S512 : Shape := ⟨1, ![512]⟩
abbrev S_ : Shape := ⟨0, ![]⟩
abbrev S32x256x512 : Shape := ⟨3, ![32, 256, 512]⟩

class Facts : Prop where
  bitsLt_bf16_f32 : FTy.bits .bf16 < FTy.bits .f32
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  slices_S32x256x1536_S32x256x512_0_0_0 : S32x256x1536.Slices ![0, 0, 0] S32x256x512
  bcast_S_S32x256x512 : S_.BroadcastsInDim S32x256x512 (![] : Fin 0 → Fin S32x256x512.rank)
  reducesTo_S32x256x512_S_d0_1_2 : S32x256x512.ReducesTo [0, 1, 2] S_

variable [Facts]

def fn {F : FTy → Type} [FloatOps F] (main_arg0 : FVec F S4x64 .f32) (main_arg1 : FVec F S32x2048x512 .bf16) (main_arg2 : FVec F S32x2048x512 .bf16) (main_arg3 : FVec F S32x2048x1536 .bf16) (main_arg4 : FVec F S32x256x1536 .bf16) (main_arg5 : FVec F S512 .f32) : IVec S_ 1 :=
  let main_v0 : FVec F S32x2048x512 .f32 := (extf .f32 · bitsLt_bf16_f32) main_arg1
  let main_v1 : FVec F S32x2048x512 .f32 := Host.absf main_v0
  let main_cst : FVec F S_ .f32 := constant S_ .f32 0x7F800000#32
  let main_v2 : FVec F S32x2048x512 .f32 := broadcastInDim S32x2048x512 ![] bcast_S_S32x2048x512 main_cst
  let main_v3 : IVec S32x2048x512 1 := cmpf .olt main_v1 main_v2
  let main_c : IVec S_ 1 := constantI S_ 1 1#1
  let main_v4 : IVec S_ 1 := (fun x v => Host.reduce IntOp.andi x v reducesTo_S32x2048x512_S_d0_1_2 h_S_) main_v3 main_c
  let main_v5 : FVec F S32x2048x512 .f32 := (extf .f32 · bitsLt_bf16_f32) main_arg2
  let main_v6 : FVec F S32x2048x512 .f32 := Host.absf main_v5
  let main_cst_0 : FVec F S_ .f32 := constant S_ .f32 0x7F800000#32
  let main_v7 : FVec F S32x2048x512 .f32 := broadcastInDim S32x2048x512 ![] bcast_S_S32x2048x512 main_cst_0
  let main_v8 : IVec S32x2048x512 1 := cmpf .olt main_v6 main_v7
  let main_c_1 : IVec S_ 1 := constantI S_ 1 1#1
  let main_v9 : IVec S_ 1 := (fun x v => Host.reduce IntOp.andi x v reducesTo_S32x2048x512_S_d0_1_2 h_S_) main_v8 main_c_1
  let main_v10 : IVec S_ 1 := andi main_v4 main_v9
  let main_v11 : FVec F S32x256x512 .bf16 := (extractStridedSlice S32x256x512 ![0, 0, 0] · slices_S32x256x1536_S32x256x512_0_0_0) main_arg4
  let main_v12 : FVec F S32x256x512 .f32 := (extf .f32 · bitsLt_bf16_f32) main_v11
  let main_v13 : FVec F S32x256x512 .f32 := Host.absf main_v12
  let main_cst_2 : FVec F S_ .f32 := constant S_ .f32 0x7F800000#32
  let main_v14 : FVec F S32x256x512 .f32 := broadcastInDim S32x256x512 ![] bcast_S_S32x256x512 main_cst_2
  let main_v15 : IVec S32x256x512 1 := cmpf .olt main_v13 main_v14
  let main_c_3 : IVec S_ 1 := constantI S_ 1 1#1
  let main_v16 : IVec S_ 1 := (fun x v => Host.reduce IntOp.andi x v reducesTo_S32x256x512_S_d0_1_2 h_S_) main_v15 main_c_3
  let main_v17 : IVec S_ 1 := andi main_v10 main_v16
  main_v17
-- ==== Moe.lean ====
abbrev S32x2048x1024 : Shape := ⟨3, ![32, 2048, 1024]⟩
abbrev S32x2048x128 : Shape := ⟨3, ![32, 2048, 128]⟩
abbrev S64x1024x512 : Shape := ⟨3, ![64, 1024, 512]⟩
abbrev S64x256x1024 : Shape := ⟨3, ![64, 256, 1024]⟩
abbrev S1024x512 : Shape := ⟨2, ![1024, 512]⟩
abbrev S256x1024 : Shape := ⟨2, ![256, 1024]⟩
abbrev S1024 : Shape := ⟨1, ![1024]⟩
abbrev S32x1x1024 : Shape := ⟨3, ![32, 1, 1024]⟩
abbrev S1x1024 : Shape := ⟨2, ![1, 1024]⟩
abbrev S1x1024x1024 : Shape := ⟨3, ![1, 1024, 1024]⟩
abbrev S1x1024x128 : Shape := ⟨3, ![1, 1024, 128]⟩
abbrev S1x1024x512 : Shape := ⟨3, ![1, 1024, 512]⟩
abbrev S1x256x1024 : Shape := ⟨3, ![1, 256, 1024]⟩
abbrev S1x1x1024 : Shape := ⟨3, ![1, 1, 1024]⟩
abbrev S1024x1024 : Shape := ⟨2, ![1024, 1024]⟩
abbrev S1024x256 : Shape := ⟨2, ![1024, 256]⟩
abbrev S1024x128 : Shape := ⟨2, ![1024, 128]⟩
abbrev S1024x1 : Shape := ⟨2, ![1024, 1]⟩

abbrev nBuf : Space → Nat
  | .hbm => 11
  | .vmem => 18
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x128, .f32⟩
  | .hbm, ⟨2, _⟩ => ⟨S64x1024x512, .bf16⟩
  | .hbm, ⟨3, _⟩ => ⟨S64x256x1024, .bf16⟩
  | .hbm, ⟨4, _⟩ => ⟨S1024x512, .bf16⟩
  | .hbm, ⟨5, _⟩ => ⟨S256x1024, .bf16⟩
  | .hbm, ⟨6, _⟩ => ⟨S32x2048x1024, .f32⟩
  | .hbm, ⟨7, _⟩ => ⟨S1024, .f32⟩
  | .hbm, ⟨8, _⟩ => ⟨S32x1x1024, .f32⟩
  | .hbm, ⟨9, _⟩ => ⟨S1x1024, .f32⟩
  | .hbm, ⟨10, _⟩ => ⟨S32x2048x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x128, .f32⟩
  | .local _ .vmem, ⟨3, _⟩ => ⟨S1x1024x128, .f32⟩
  | .local _ .vmem, ⟨4, _⟩ => ⟨S1x1024x512, .bf16⟩
  | .local _ .vmem, ⟨5, _⟩ => ⟨S1x1024x512, .bf16⟩
  | .local _ .vmem, ⟨6, _⟩ => ⟨S1x256x1024, .bf16⟩
  | .local _ .vmem, ⟨7, _⟩ => ⟨S1x256x1024, .bf16⟩
  | .local _ .vmem, ⟨8, _⟩ => ⟨S1024x512, .bf16⟩
  | .local _ .vmem, ⟨9, _⟩ => ⟨S256x1024, .bf16⟩
  | .local _ .vmem, ⟨10, _⟩ => ⟨S1x1024x1024, .f32⟩
  | .local _ .vmem, ⟨11, _⟩ => ⟨S1x1024x1024, .f32⟩
  | .local _ .vmem, ⟨12, _⟩ => ⟨S1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1024x1024, .f32⟩
  | .local _ .vmem, ⟨16, _⟩ => ⟨S1x1024x1024, .f32⟩
  | .local _ .vmem, ⟨17, _⟩ => ⟨S1024x1024, .f32⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨3, ![32, 2, 64], ![false, false, false]⟩

def k0_cond2 (i : grid0.Coords) : BitVec 1 :=
  let arg2 : BitVec 32 := BitVec.ofNat 32 (i 2).val
  let c63_i32 : BitVec 32 := 63#32
  let v37 : BitVec 1 := Scalar.cmpi .eq arg2 c63_i32
  let v38 : BitVec 32 := Scalar.extui v37
  let c0_i32_21 : BitVec 32 := 0#32
  let v39 : BitVec 1 := Scalar.cmpi .ne v38 c0_i32_21
  v39

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== MoeReferenceIdeal.lean ====
abbrev S32x2048x1024 : Shape := ⟨3, ![32, 2048, 1024]⟩
abbrev S32x2048x128 : Shape := ⟨3, ![32, 2048, 128]⟩
abbrev S64x1024x512 : Shape := ⟨3, ![64, 1024, 512]⟩
abbrev S64x256x1024 : Shape := ⟨3, ![64, 256, 1024]⟩
abbrev S1024x512 : Shape := ⟨2, ![1024, 512]⟩
abbrev S256x1024 : Shape := ⟨2, ![256, 1024]⟩
abbrev S1024 : Shape := ⟨1, ![1024]⟩
abbrev S32x1x1024 : Shape := ⟨3, ![32, 1, 1024]⟩
abbrev S32x2048x64 : Shape := ⟨3, ![32, 2048, 64]⟩
abbrev S64x512x32x2048 : Shape := ⟨4, ![64, 512, 32, 2048]⟩
abbrev S64x32x2048x512 : Shape := ⟨4, ![64, 32, 2048, 512]⟩
abbrev S64x32x2048x256 : Shape := ⟨4, ![64, 32, 2048, 256]⟩
abbrev S_ : Shape := ⟨0, ![]⟩
abbrev S64x32x2048x1024 : Shape := ⟨4, ![64, 32, 2048, 1024]⟩
abbrev S64x32x2048 : Shape := ⟨3, ![64, 32, 2048]⟩
abbrev S64x32x2048x1 : Shape := ⟨4, ![64, 32, 2048, 1]⟩
abbrev S32x2048x512 : Shape := ⟨3, ![32, 2048, 512]⟩
abbrev S32x2048x256 : Shape := ⟨3, ![32, 2048, 256]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 70
  | .vmem => 0
  | .smem => 0
  | _ => 0

abbrev bufTy : (tb : Table) → Fin (tcTables nBuf tb) → BufTy
  | .hbm, ⟨0, _⟩ => ⟨S32x2048x1024, .bf16⟩
  | .hbm, ⟨1, _⟩ => ⟨S32x2048x128, .f32⟩
  | .hbm, ⟨2, _⟩ => ⟨S64x1024x512, .bf16⟩
  | .hbm, ⟨3, _⟩ => ⟨S64x256x1024, .bf16⟩
  | .hbm, ⟨4, _⟩ => ⟨S1024x512, .bf16⟩
  | .hbm, ⟨5, _⟩ => ⟨S256x1024, .bf16⟩
  | .hbm, ⟨6, _⟩ => ⟨S32x2048x1024, .f32⟩
  | .hbm, ⟨7, _⟩ => ⟨S1024, .f32⟩
  | .hbm, ⟨8, _⟩ => ⟨S32x1x1024, .f32⟩
  | .hbm, ⟨9, _⟩ => ⟨S32x2048x1024, .f32⟩
  | .hbm, ⟨10, _⟩ => ⟨S64x1024x512, .f32⟩
  | .hbm, ⟨11, _⟩ => ⟨S64x256x1024, .f32⟩
  | .hbm, ⟨12, _⟩ => ⟨S1024x512, .f32⟩
  | .hbm, ⟨13, _⟩ => ⟨S256x1024, .f32⟩
  | .hbm, ⟨14, _⟩ => ⟨S32x2048x64, .f32⟩
  | .hbm, ⟨15, _⟩ => ⟨S64x512x32x2048, .f32⟩
  | .hbm, ⟨16, _⟩ => ⟨S64x32x2048x512, .f32⟩
  | .hbm, ⟨17, _⟩ => ⟨S64x32x2048x256, .f32⟩
  | .hbm, ⟨18, _⟩ => ⟨S64x32x2048x256, .f32⟩
  | .hbm, ⟨19, _⟩ => ⟨S64x32x2048x256, .f32⟩
  | .hbm, ⟨20, _⟩ => ⟨S64x32x2048x256, .f32⟩
  | .hbm, ⟨21, _⟩ => ⟨S_, .f32⟩
  | .hbm, ⟨22, _⟩ => ⟨S64x32x2048x256, .f32⟩
  | .hbm, ⟨23, _⟩ => ⟨S64x32x2048x256, .f32⟩
  | .hbm, ⟨24, _⟩ => ⟨S_, .f32⟩
  | .hbm, ⟨25, _⟩ => ⟨S64x32x2048x256, .f32⟩
  | .hbm, ⟨26, _⟩ => ⟨S64x32x2048x256, .f32⟩
  | .hbm, ⟨27, _⟩ => ⟨S64x32x2048x256, .f32⟩
  | .hbm, ⟨28, _⟩ => ⟨S64x32x2048x256, .f32⟩
  | .hbm, ⟨29, _⟩ => ⟨S64x32x2048x1024, .f32⟩
  | .hbm, ⟨30, _⟩ => ⟨S64x32x2048, .f32⟩
  | .hbm, ⟨31, _⟩ => ⟨S64x32x2048x1, .f32⟩
  | .hbm, ⟨32, _⟩ => ⟨S64x32x2048x1024, .f32⟩
  | .hbm, ⟨33, _⟩ => ⟨S64x32x2048x1024, .f32⟩
  | .hbm, ⟨34, _⟩ => ⟨S_, .f32⟩
  | .hbm, ⟨35, _⟩ => ⟨S32x2048x1024, .f32⟩
  | .hbm, ⟨36, _⟩ => ⟨S32x2048x512, .f32⟩
  | .hbm, ⟨37, _⟩ => ⟨S32x2048x256, .f32⟩
  | .hbm, ⟨38, _⟩ => ⟨S32x2048x256, .f32⟩
  | .hbm, ⟨39, _⟩ => ⟨S32x2048x256, .f32⟩
  | .hbm, ⟨40, _⟩ => ⟨S32x2048x256, .f32⟩
  | .hbm, ⟨41, _⟩ => ⟨S_, .f32⟩
  | .hbm, ⟨42, _⟩ => ⟨S32x2048x256, .f32⟩
  | .hbm, ⟨43, _⟩ => ⟨S32x2048x256, .f32⟩
  | .hbm, ⟨44, _⟩ => ⟨S_, .f32⟩
  | .hbm, ⟨45, _⟩ => ⟨S32x2048x256, .f32⟩
  | .hbm, ⟨46, _⟩ => ⟨S32x2048x256, .f32⟩
  | .hbm, ⟨47, _⟩ => ⟨S32x2048x256, .f32⟩
  | .hbm, ⟨48, _⟩ => ⟨S32x2048x256, .f32⟩
  | .hbm, ⟨49, _⟩ => ⟨S32x2048x1024, .f32⟩
  | .hbm, ⟨50, _⟩ => ⟨S32x2048x1024, .f32⟩
  | .hbm, ⟨51, _⟩ => ⟨S32x2048x1024, .f32⟩
  | .hbm, ⟨52, _⟩ => ⟨S_, .f32⟩
  | .hbm, ⟨53, _⟩ => ⟨S32x2048, .f32⟩
  | .hbm, ⟨54, _⟩ => ⟨S32x2048x1, .f32⟩
  | .hbm, ⟨55, _⟩ => ⟨S_, .f32⟩
  | .hbm, ⟨56, _⟩ => ⟨S32x2048x1, .f32⟩
  | .hbm, ⟨57, _⟩ => ⟨S32x2048x1, .f32⟩
  | .hbm, ⟨58, _⟩ => ⟨S_, .f32⟩
  | .hbm, ⟨59, _⟩ => ⟨S32x2048x1, .f32⟩
  | .hbm, ⟨60, _⟩ => ⟨S32x2048x1, .f32⟩
  | .hbm, ⟨61, _⟩ => ⟨S32x2048x1, .f32⟩
  | .hbm, ⟨62, _⟩ => ⟨S32x2048x1024, .f32⟩
  | .hbm, ⟨63, _⟩ => ⟨S32x2048x1024, .f32⟩
  | .hbm, ⟨64, _⟩ => ⟨S1x1x1024, .f32⟩
  | .hbm, ⟨65, _⟩ => ⟨S32x2048x1024, .f32⟩
  | .hbm, ⟨66, _⟩ => ⟨S32x2048x1024, .f32⟩
  | .hbm, ⟨67, _⟩ => ⟨S32x2048x1024, .f32⟩
  | .hbm, ⟨68, _⟩ => ⟨S32x2048x1024, .f32⟩
  | .hbm, ⟨69, _⟩ => ⟨S32x2048x1024, .f32⟩
  | _, _ => ⟨S32x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_0 : Ref sig .tc := ⟨.hbm, 52, rfl⟩
abbrev main_v26 : Ref sig .tc := ⟨.hbm, 53, rfl⟩
abbrev main_v27 : Ref sig .tc := ⟨.hbm, 54, rfl⟩
abbrev main_cst_1 : Ref sig .tc := ⟨.hbm, 55, rfl⟩
abbrev main_v28 : Ref sig .tc := ⟨.hbm, 56, rfl⟩
abbrev main_v29 : Ref sig .tc := ⟨.hbm, 57, rfl⟩
abbrev main_cst_2 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩

abbrev nD : Nat := 1
abbrev τ : Topo := Topo.v7x

variable {F : FTy → Type} [FloatOps F]
-- ==== Kernel.lean ====
abbrev S4x64 : Shape := ⟨2, ![4, 64]⟩
abbrev S32x2048x512 : Shape := ⟨3, ![32, 2048, 512]⟩
abbrev S32x2048x1536 : Shape := ⟨3, ![32, 2048, 1536]⟩
abbrev S32x256x1536 : Shape := ⟨3, ![32, 256, 1536]⟩
abbrev S512 : Shape := ⟨1, ![512]⟩
abbrev S1x512 : Shape := ⟨2, ![1, 512]⟩
abbrev S1x256x512 : Shape := ⟨3, ![1, 256, 512]⟩
abbrev S1x2048x512 : Shape := ⟨3, ![1, 2048, 512]⟩
abbrev S1x64 : Shape := ⟨2, ![1, 64]⟩
abbrev S1 : Shape := ⟨1, ![1]⟩
abbrev S1x1 : Shape := ⟨2, ![1, 1]⟩
abbrev S256x128 : Shape := ⟨2, ![256, 128]⟩
abbrev S1x256x128 : Shape := ⟨3, ![1, 256, 128]⟩
abbrev S512x128 : Shape := ⟨2, ![512, 128]⟩
abbrev S512x256 : Shape := ⟨2, ![512, 256]⟩
abbrev S1x2048x128 : Shape := ⟨3, ![1, 2048, 128]⟩
abbrev S2048x128 : Shape := ⟨2, ![2048, 128]⟩
abbrev S512x2048 : Shape := ⟨2, ![512, 2048]⟩
abbrev S512x1 : Shape := ⟨2, ![512, 1]⟩
abbrev S256x1 : Shape := ⟨2, ![256, 1]⟩
abbrev S256x256 : Shape := ⟨2, ![256, 256]⟩
abbrev S256x2048 : Shape := ⟨2, ![256, 2048]⟩
abbrev S256 : Shape := ⟨1, ![256]⟩
abbrev S1x128 : Shape := ⟨2, ![1, 128]⟩

abbrev nBuf : Space → Nat
  | .hbm => 8
  | .vmem => 14
  | .smem => 0
  | _ => 0

abbrev bufTy : (tb : Table) → Fin (tcTables nBuf tb) → BufTy
  | .hbm, ⟨0, _⟩ => ⟨S4x64, .f32⟩
  | .hbm, ⟨1, _⟩ => ⟨S32x2048x512, .bf16⟩
  | .hbm, ⟨2, _⟩ => ⟨S32x2048x512, .bf16⟩
  | .hbm, ⟨3, _⟩ => ⟨S32x2048x1536, .bf16⟩
  | .hbm, ⟨4, _⟩ => ⟨S32x256x1536, .bf16⟩
  | .hbm, ⟨5, _⟩ => ⟨S512, .f32⟩
  | .hbm, ⟨6, _⟩ => ⟨S1x512, .f32⟩
  | .hbm, ⟨7, _⟩ => ⟨S32x2048x512, .bf16⟩
  | .local _ .vmem, ⟨0, _⟩ => ⟨S4x64, .f32⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x2048x512, .bf16⟩
  | .local _ .vmem, ⟨10, _⟩ => ⟨S1x2048x512, .bf16⟩
  | .local _ .vmem, ⟨11, _⟩ => ⟨S1x512, .f32⟩
  | .local _ .vmem, ⟨12, _⟩ => ⟨S1x256x512, .bf16⟩
  | .local _ .vmem, ⟨13, _⟩ => ⟨S1x256x512, .bf16⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S4x64 : Shape := ⟨2, ![4, 64]⟩
abbrev S32x2048x512 : Shape := ⟨3, ![32, 2048, 512]⟩
abbrev S32x2048x1536 : Shape := ⟨3, ![32, 2048, 1536]⟩
abbrev S32x256x1536 : Shape := ⟨3, ![32, 256, 1536]⟩
abbrev S512 : Shape := ⟨1, ![512]⟩
abbrev S32x2048x4x2x64 : Shape := ⟨5, ![32, 2048, 4, 2, 64]⟩
abbrev S32x256x512 : Shape := ⟨3, ![32, 256, 512]⟩
abbrev S32x256x4x2x64 : Shape := ⟨5, ![32, 256, 4, 2, 64]⟩
abbrev S32x2304x4x2x64 : Shape := ⟨5, ![32, 2304, 4, 2, 64]⟩
abbrev S32x256x4x128 : Shape := ⟨4, ![32, 256, 4, 128]⟩
abbrev S32x2048x4x128 : Shape := ⟨4, ![32, 2048, 4, 128]⟩
abbrev S32x2304x4x128 : Shape := ⟨4, ![32, 2304, 4, 128]⟩
abbrev S1x64 : Shape := ⟨2, ![1, 64]⟩
abbrev S64 : Shape := ⟨1, ![64]⟩
abbrev S_ : Shape := ⟨0, ![]⟩
abbrev S32x4x2x2048x2304 : Shape := ⟨5, ![32, 4, 2, 2048, 2304]⟩
abbrev S32x4x2x2048 : Shape := ⟨4, ![32, 4, 2, 2048]⟩
abbrev S32x4x2x2048x1 : Shape := ⟨5, ![32, 4, 2, 2048, 1]⟩
abbrev S32x4x1x2048x2304 : Shape := ⟨5, ![32, 4, 1, 2048, 2304]⟩
abbrev S32x4x2048x2304 : Shape := ⟨4, ![32, 4, 2048, 2304]⟩
abbrev S32x4x128x2048 : Shape := ⟨4, ![32, 4, 128, 2048]⟩
abbrev S32x2048x4 : Shape := ⟨3, ![32, 2048, 4]⟩
abbrev S32x2048x4x1 : Shape := ⟨4, ![32, 2048, 4, 1]⟩
abbrev S1x1x512 : Shape := ⟨3, ![1, 1, 512]⟩

abbrev nBuf : Space → Nat
  | .hbm => 84
  | .vmem => 0
  | .smem => 0
  | _ => 0

abbrev bufTy : (tb : Table) → Fin (tcTables nBuf tb) → BufTy
  | .hbm, ⟨0, _⟩ => ⟨S4x64, .f32⟩
  | .hbm, ⟨1, _⟩ => ⟨S32x2048x512, .bf16⟩
  | .hbm, ⟨2, _⟩ => ⟨S32x2048x512, .bf16⟩
  | .hbm, ⟨3, _⟩ => ⟨S32x2048x1536, .bf16⟩
  | .hbm, ⟨4, _⟩ => ⟨S32x256x1536, .bf16⟩
  | .hbm, ⟨5, _⟩ => ⟨S512, .f32⟩
  | .hbm, ⟨6, _⟩ => ⟨S32x2048x512, .f32⟩
  | .hbm, ⟨7, _⟩ => ⟨S32x2048x512, .f32⟩
  | .hbm, ⟨8, _⟩ => ⟨S32x2048x1536, .f32⟩
  | .hbm, ⟨9, _⟩ => ⟨S32x256x1536, .f32⟩
  | .hbm, ⟨10, _⟩ => ⟨S32x2048x4x2x64, .f32⟩
  | .hbm, ⟨11, _⟩ => ⟨S32x256x512, .f32⟩
  | .hbm, ⟨12, _⟩ => ⟨S32x256x4x2x64, .f32⟩
  | .hbm, ⟨13, _⟩ => ⟨S32x2048x4x2x64, .f32⟩
  | .hbm, ⟨14, _⟩ => ⟨S32x2304x4x2x64, .f32⟩
  | .hbm, ⟨15, _⟩ => ⟨S32x256x512, .f32⟩
  | .hbm, ⟨16, _⟩ => ⟨S32x256x4x128, .f32⟩
  | .hbm, ⟨17, _⟩ => ⟨S32x2048x512, .f32⟩
  | .hbm, ⟨18, _⟩ => ⟨S32x2048x4x128, .f32⟩
  | .hbm, ⟨19, _⟩ => ⟨S32x2304x4x128, .f32⟩
  | .hbm, ⟨20, _⟩ => ⟨S1x64, .f32⟩
  | .hbm, ⟨21, _⟩ => ⟨S64, .f32⟩
  | .hbm, ⟨22, _⟩ => ⟨S1x64, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1x64, .f32⟩
  | .hbm, ⟨29, _⟩ => ⟨S64, .f32⟩
  | .hbm, ⟨30, _⟩ => ⟨S1x64, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S32x4x2x2048x2304, .f32⟩
  | .hbm, ⟨40, _⟩ => ⟨S_, .f32⟩
  | .hbm, ⟨41, _⟩ => ⟨S32x4x2x2048, .f32⟩
  | .hbm, ⟨42, _⟩ => ⟨S_, .f32⟩
  | .hbm, ⟨43, _⟩ => ⟨S32x4x2x2048, .f32⟩
  | .hbm, ⟨44, _⟩ => ⟨S32x4x2x2048, .f32⟩
  | .hbm, ⟨45, _⟩ => ⟨S32x4x2x2048x1, .f32⟩
  | .hbm, ⟨46, _⟩ => ⟨S32x4x2x2048x2304, .f32⟩
  | .hbm, ⟨47, _⟩ => ⟨S32x4x2x2048x2304, .f32⟩
  | .hbm, ⟨48, _⟩ => ⟨S32x4x2x2048x2304, .f32⟩
  | .hbm, ⟨49, _⟩ => ⟨S_, .f32⟩
  | .hbm, ⟨50, _⟩ => ⟨S32x4x2x2048, .f32⟩
  | .hbm, ⟨51, _⟩ => ⟨S32x4x2x2048x1, .f32⟩
  | .hbm, ⟨52, _⟩ => ⟨S32x4x2x2048x2304, .f32⟩
  | .hbm, ⟨53, _⟩ => ⟨S32x4x2x2048x2304, .f32⟩
  | .hbm, ⟨54, _⟩ => ⟨S32x4x1x2048x2304, .f32⟩
  | .hbm, ⟨55, _⟩ => ⟨S32x4x2048x2304, .f32⟩
  | .hbm, ⟨56, _⟩ => ⟨S32x4x1x2048x2304, .f32⟩
  | .hbm, ⟨57, _⟩ => ⟨S32x4x2048x2304, .f32⟩
  | .hbm, ⟨58, _⟩ => ⟨S32x4x2048x2304, .f32⟩
  | .hbm, ⟨59, _⟩ => ⟨S32x4x2048x2304, .f32⟩
  | .hbm, ⟨60, _⟩ => ⟨S32x4x2048x2304, .f32⟩
  | .hbm, ⟨61, _⟩ => ⟨S32x4x128x2048, .f32⟩
  | .hbm, ⟨62, _⟩ => ⟨S32x2048x4x128, .f32⟩
  | .hbm, ⟨63, _⟩ => ⟨S32x2048x4x128, .f32⟩
  | .hbm, ⟨64, _⟩ => ⟨S_, .f32⟩
  | .hbm, ⟨65, _⟩ => ⟨S32x2048x4, .f32⟩
  | .hbm, ⟨66, _⟩ => ⟨S32x2048x4x1, .f32⟩
  | .hbm, ⟨67, _⟩ => ⟨S_, .f32⟩
  | .hbm, ⟨68, _⟩ => ⟨S32x2048x4x1, .f32⟩
  | .hbm, ⟨69, _⟩ => ⟨S32x2048x4x1, .f32⟩
  | .hbm, ⟨70, _⟩ => ⟨S_, .f32⟩
  | .hbm, ⟨71, _⟩ => ⟨S32x2048x4x1, .f32⟩
  | .hbm, ⟨72, _⟩ => ⟨S32x2048x4x1, .f32⟩
  | .hbm, ⟨73, _⟩ => ⟨S32x2048x4x1, .f32⟩
  | .hbm, ⟨74, _⟩ => ⟨S32x2048x4x128, .f32⟩
  | .hbm, ⟨75, _⟩ => ⟨S32x2048x4x128, .f32⟩
  | .hbm, ⟨76, _⟩ => ⟨S32x2048x512, .f32⟩
  | .hbm, ⟨77, _⟩ => ⟨S1x1x512, .f32⟩
  | .hbm, ⟨78, _⟩ => ⟨S32x2048x512, .f32⟩
  | .hbm, ⟨79, _⟩ => ⟨S32x2048x512, .f32⟩
  | .hbm, ⟨80, _⟩ => ⟨S_, .f32⟩
  | .hbm, ⟨81, _⟩ => ⟨S32x2048x512, .f32⟩
  | .hbm, ⟨82, _⟩ => ⟨S32x2048x512, .f32⟩
  | .hbm, ⟨83, _⟩ => ⟨S32x2048x512, .bf16⟩
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_0 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_5 : Ref sig .tc := ⟨.hbm, 64, rfl⟩
abbrev main_v52 : Ref sig .tc := ⟨.hbm, 65, rfl⟩
abbrev main_v53 : Ref sig .tc := ⟨.hbm, 66, rfl⟩
abbrev main_cst_6 : Ref sig .tc := ⟨.hbm, 67, rfl⟩
abbrev main_v54 : Ref sig .tc := ⟨.hbm, 68, rfl⟩
abbrev main_v55 : Ref sig .tc := ⟨.hbm, 69, rfl⟩
abbrev main_cst_7 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_8 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩

abbrev nD : Nat := 1
abbrev τ : Topo := Topo.v7x

variable {F : FTy → Type} [FloatOps F]
-- ==== HyenaIn.lean ====
abbrev S32x2048x1024 : Shape := ⟨3, ![32, 2048, 1024]⟩
abbrev S1024x3072 : Shape := ⟨2, ![1024, 3072]⟩
abbrev S3x3072 : Shape := ⟨2, ![3, 3072]⟩
abbrev S3072 : Shape := ⟨1, ![3072]⟩
abbrev S1x3072 : Shape := ⟨2, ![1, 3072]⟩
abbrev S32x2048x3072 : Shape := ⟨3, ![32, 2048, 3072]⟩
abbrev S1x2048x1024 : Shape := ⟨3, ![1, 2048, 1024]⟩
abbrev S1024x512 : Shape := ⟨2, ![1024, 512]⟩
abbrev S3x512 : Shape := ⟨2, ![3, 512]⟩
abbrev S1x512 : Shape := ⟨2, ![1, 512]⟩
abbrev S1x2048x512 : Shape := ⟨3, ![1, 2048, 512]⟩
abbrev S2048x1024 : Shape := ⟨2, ![2048, 1024]⟩
abbrev S2048x512 : Shape := ⟨2, ![2048, 512]⟩

abbrev nBuf : Space → Nat
  | .hbm => 6
  | .vmem => 10
  | .smem => 0
  | _ => 0

abbrev bufTy : (tb : Table) → Fin (tcTables nBuf tb) → BufTy
  | .hbm, ⟨0, _⟩ => ⟨S32x2048x1024, .bf16⟩
  | .hbm, ⟨1, _⟩ => ⟨S1024x3072, .bf16⟩
  | .hbm, ⟨2, _⟩ => ⟨S3x3072, .f32⟩
  | .hbm, ⟨3, _⟩ => ⟨S3072, .f32⟩
  | .hbm, ⟨4, _⟩ => ⟨S1x3072, .f32⟩
  | .hbm, ⟨5, _⟩ => ⟨S32x2048x3072, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1024x512, .bf16⟩
  | .local _ .vmem, ⟨3, _⟩ => ⟨S1024x512, .bf16⟩
  | .local _ .vmem, ⟨4, _⟩ => ⟨S3x512, .f32⟩
  | .local _ .vmem, ⟨5, _⟩ => ⟨S3x512, .f32⟩
  | .local _ .vmem, ⟨6, _⟩ => ⟨S1x512, .f32⟩
  | .local _ .vmem, ⟨7, _⟩ => ⟨S1x512, .f32⟩
  | .local _ .vmem, ⟨8, _⟩ => ⟨S1x2048x512, .bf16⟩
  | .local _ .vmem, ⟨9, _⟩ => ⟨S1x2048x512, .bf16⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 6], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== HyenaInReferenceIdeal.lean ====
abbrev S32x2048x1024 : Shape := ⟨3, ![32, 2048, 1024]⟩
abbrev S1024x3072 : Shape := ⟨2, ![1024, 3072]⟩
abbrev S3x3072 : Shape := ⟨2, ![3, 3072]⟩
abbrev S3072 : Shape := ⟨1, ![3072]⟩
abbrev S32x2048x3072 : Shape := ⟨3, ![32, 2048, 3072]⟩
abbrev S_ : Shape := ⟨0, ![]⟩
abbrev S32x2050x3072 : Shape := ⟨3, ![32, 2050, 3072]⟩
abbrev S1x3072 : Shape := ⟨2, ![1, 3072]⟩
abbrev S1x1x3072 : Shape := ⟨3, ![1, 1, 3072]⟩

abbrev nBuf : Space → Nat
  | .hbm => 37
  | .vmem => 0
  | .smem => 0
  | _ => 0

abbrev bufTy : (tb : Table) → Fin (tcTables nBuf tb) → BufTy
  | .hbm, ⟨0, _⟩ => ⟨S32x2048x1024, .bf16⟩
  | .hbm, ⟨1, _⟩ => ⟨S1024x3072, .bf16⟩
  | .hbm, ⟨2, _⟩ => ⟨S3x3072, .f32⟩
  | .hbm, ⟨3, _⟩ => ⟨S3072, .f32⟩
  | .hbm, ⟨4, _⟩ => ⟨S32x2048x1024, .f32⟩
  | .hbm, ⟨5, _⟩ => ⟨S1024x3072, .f32⟩
  | .hbm, ⟨6, _⟩ => ⟨S32x2048x3072, .f32⟩
  | .hbm, ⟨7, _⟩ => ⟨S_, .i32⟩
  | .hbm, ⟨8, _⟩ => ⟨S_, .f32⟩
  | .hbm, ⟨9, _⟩ => ⟨S32x2050x3072, .f32⟩
  | .hbm, ⟨10, _⟩ => ⟨S32x2048x3072, .f32⟩
  | .hbm, ⟨11, _⟩ => ⟨S1x3072, .f32⟩
  | .hbm, ⟨12, _⟩ => ⟨S3072, .f32⟩
  | .hbm, ⟨13, _⟩ => ⟨S1x1x3072, .f32⟩
  | .hbm, ⟨14, _⟩ => ⟨S32x2048x3072, .f32⟩
  | .hbm, ⟨15, _⟩ => ⟨S32x2048x3072, .f32⟩
  | .hbm, ⟨16, _⟩ => ⟨S_, .f32⟩
  | .hbm, ⟨17, _⟩ => ⟨S32x2048x3072, .f32⟩
  | .hbm, ⟨18, _⟩ => ⟨S32x2048x3072, .f32⟩
  | .hbm, ⟨19, _⟩ => ⟨S32x2048x3072, .f32⟩
  | .hbm, ⟨20, _⟩ => ⟨S1x3072, .f32⟩
  | .hbm, ⟨21, _⟩ => ⟨S3072, .f32⟩
  | .hbm, ⟨22, _⟩ => ⟨S1x1x3072, .f32⟩
  | .hbm, ⟨23, _⟩ => ⟨S32x2048x3072, .f32⟩
  | .hbm, ⟨24, _⟩ => ⟨S32x2048x3072, .f32⟩
  | .hbm, ⟨25, _⟩ => ⟨S32x2048x3072, .f32⟩
  | .hbm, ⟨26, _⟩ => ⟨S32x2048x3072, .f32⟩
  | .hbm, ⟨27, _⟩ => ⟨S1x3072, .f32⟩
  | .hbm, ⟨28, _⟩ => ⟨S3072, .f32⟩
  | .hbm, ⟨29, _⟩ => ⟨S1x1x3072, .f32⟩
  | .hbm, ⟨30, _⟩ => ⟨S32x2048x3072, .f32⟩
  | .hbm, ⟨31, _⟩ => ⟨S32x2048x3072, .f32⟩
  | .hbm, ⟨32, _⟩ => ⟨S32x2048x3072, .f32⟩
  | .hbm, ⟨33, _⟩ => ⟨S1x1x3072, .f32⟩
  | .hbm, ⟨34, _⟩ => ⟨S32x2048x3072, .f32⟩
  | .hbm, ⟨35, _⟩ => ⟨S32x2048x3072, .f32⟩
  | .hbm, ⟨36, _⟩ => ⟨S32x2048x3072, .bf16⟩
  | _, _ => ⟨S32x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== MixerConv.lean ====
abbrev S32x2048x1024 : Shape := ⟨3, ![32, 2048, 1024]⟩
abbrev S1024x1024 : Shape := ⟨2, ![1024, 1024]⟩
abbrev S3x1024 : Shape := ⟨2, ![3, 1024]⟩
abbrev S1024 : Shape := ⟨1, ![1024]⟩
abbrev S1x1024 : Shape := ⟨2, ![1, 1024]⟩
abbrev S1x2048x1024 : Shape := ⟨3, ![1, 2048, 1024]⟩
abbrev S1024x512 : Shape := ⟨2, ![1024, 512]⟩
abbrev S3x512 : Shape := ⟨2, ![3, 512]⟩
abbrev S1x512 : Shape := ⟨2, ![1, 512]⟩
abbrev S1x2048x512 : Shape := ⟨3, ![1, 2048, 512]⟩
abbrev S2048x1024 : Shape := ⟨2, ![2048, 1024]⟩
abbrev S2048x512 : Shape := ⟨2, ![2048, 512]⟩

abbrev nBuf : Space → Nat
  | .hbm => 6
  | .vmem => 10
  | .smem => 0
  | _ => 0

abbrev bufTy : (tb : Table) → Fin (tcTables nBuf tb) → BufTy
  | .hbm, ⟨0, _⟩ => ⟨S32x2048x1024, .bf16⟩
  | .hbm, ⟨1, _⟩ => ⟨S1024x1024, .bf16⟩
  | .hbm, ⟨2, _⟩ => ⟨S3x1024, .f32⟩
  | .hbm, ⟨3, _⟩ => ⟨S1024, .f32⟩
  | .hbm, ⟨4, _⟩ => ⟨S1x1024, .f32⟩
  | .hbm, ⟨5, _⟩ => ⟨S32x2048x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1024x512, .bf16⟩
  | .local _ .vmem, ⟨3, _⟩ => ⟨S1024x512, .bf16⟩
  | .local _ .vmem, ⟨4, _⟩ => ⟨S3x512, .f32⟩
  | .local _ .vmem, ⟨5, _⟩ => ⟨S3x512, .f32⟩
  | .local _ .vmem, ⟨6, _⟩ => ⟨S1x512, .f32⟩
  | .local _ .vmem, ⟨7, _⟩ => ⟨S1x512, .f32⟩
  | .local _ .vmem, ⟨8, _⟩ => ⟨S1x2048x512, .bf16⟩
  | .local _ .vmem, ⟨9, _⟩ => ⟨S1x2048x512, .bf16⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MixerConvReferenceIdeal.lean ====
abbrev S32x2048x1024 : Shape := ⟨3, ![32, 2048, 1024]⟩
abbrev S1024x1024 : Shape := ⟨2, ![1024, 1024]⟩
abbrev S3x1024 : Shape := ⟨2, ![3, 1024]⟩
abbrev S1024 : Shape := ⟨1, ![1024]⟩
abbrev S_ : Shape := ⟨0, ![]⟩
abbrev S32x2050x1024 : Shape := ⟨3, ![32, 2050, 1024]⟩
abbrev S1x1024 : Shape := ⟨2, ![1, 1024]⟩
abbrev S1x1x1024 : Shape := ⟨3, ![1, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S32x2048x1024, .bf16⟩
  | .hbm, ⟨1, _⟩ => ⟨S1024x1024, .bf16⟩
  | .hbm, ⟨2, _⟩ => ⟨S3x1024, .f32⟩
  | .hbm, ⟨3, _⟩ => ⟨S1024, .f32⟩
  | .hbm, ⟨4, _⟩ => ⟨S32x2048x1024, .f32⟩
  | .hbm, ⟨5, _⟩ => ⟨S1024x1024, .f32⟩
  | .hbm, ⟨6, _⟩ => ⟨S32x2048x1024, .f32⟩
  | .hbm, ⟨7, _⟩ => ⟨S_, .i32⟩
  | .hbm, ⟨8, _⟩ => ⟨S_, .f32⟩
  | .hbm, ⟨9, _⟩ => ⟨S32x2050x1024, .f32⟩
  | .hbm, ⟨10, _⟩ => ⟨S32x2048x1024, .f32⟩
  | .hbm, ⟨11, _⟩ => ⟨S1x1024, .f32⟩
  | .hbm, ⟨12, _⟩ => ⟨S1024, .f32⟩
  | .hbm, ⟨13, _⟩ => ⟨S1x1x1024, .f32⟩
  | .hbm, ⟨14, _⟩ => ⟨S32x2048x1024, .f32⟩
  | .hbm, ⟨15, _⟩ => ⟨S32x2048x1024, .f32⟩
  | .hbm, ⟨16, _⟩ => ⟨S_, .f32⟩
  | .hbm, ⟨17, _⟩ => ⟨S32x2048x1024, .f32⟩
  | .hbm, ⟨18, _⟩ => ⟨S32x2048x1024, .f32⟩
  | .hbm, ⟨19, _⟩ => ⟨S32x2048x1024, .f32⟩
  | .hbm, ⟨20, _⟩ => ⟨S1x1024, .f32⟩
  | .hbm, ⟨21, _⟩ => ⟨S1024, .f32⟩
  | .hbm, ⟨22, _⟩ => ⟨S1x1x1024, .f32⟩
  | .hbm, ⟨23, _⟩ => ⟨S32x2048x1024, .f32⟩
  | .hbm, ⟨24, _⟩ => ⟨S32x2048x1024, .f32⟩
  | .hbm, ⟨25, _⟩ => ⟨S32x2048x1024, .f32⟩
  | .hbm, ⟨26, _⟩ => ⟨S32x2048x1024, .f32⟩
  | .hbm, ⟨27, _⟩ => ⟨S1x1024, .f32⟩
  | .hbm, ⟨28, _⟩ => ⟨S1024, .f32⟩
  | .hbm, ⟨29, _⟩ => ⟨S1x1x1024, .f32⟩
  | .hbm, ⟨30, _⟩ => ⟨S32x2048x1024, .f32⟩
  | .hbm, ⟨31, _⟩ => ⟨S32x2048x1024, .f32⟩
  | .hbm, ⟨32, _⟩ => ⟨S32x2048x1024, .f32⟩
  | .hbm, ⟨33, _⟩ => ⟨S1x1x1024, .f32⟩
  | .hbm, ⟨34, _⟩ => ⟨S32x2048x1024, .f32⟩
  | .hbm, ⟨35, _⟩ => ⟨S32x2048x1024, .f32⟩
  | .hbm, ⟨36, _⟩ => ⟨S32x2048x1024, .f32⟩
  | .hbm, ⟨37, _⟩ => ⟨S32x2048x1024, .f32⟩
  | .hbm, ⟨38, _⟩ => ⟨S_, .f32⟩
  | .hbm, ⟨39, _⟩ => ⟨S32x2048x1024, .f32⟩
  | .hbm, ⟨40, _⟩ => ⟨S32x2048x1024, .f32⟩
  | .hbm, ⟨41, _⟩ => ⟨S_, .f32⟩
  | .hbm, ⟨42, _⟩ => ⟨S32x2048x1024, .f32⟩
  | .hbm, ⟨43, _⟩ => ⟨S32x2048x1024, .f32⟩
  | .hbm, ⟨44, _⟩ => ⟨S32x2048x1024, .f32⟩
  | .hbm, ⟨45, _⟩ => ⟨S32x2048x1024, .bf16⟩
  | _, _ => ⟨S32x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== MixerIn.lean ====
abbrev S32x2048x1024 : Shape := ⟨3, ![32, 2048, 1024]⟩
abbrev S1024x1536 : Shape := ⟨2, ![1024, 1536]⟩
abbrev S_ : Shape := ⟨0, ![]⟩
abbrev S1536 : Shape := ⟨1, ![1536]⟩
abbrev S1x1536 : Shape := ⟨2, ![1, 1536]⟩
abbrev S32x2048x1536 : Shape := ⟨3, ![32, 2048, 1536]⟩
abbrev S1x512x1024 : Shape := ⟨3, ![1, 512, 1024]⟩
abbrev S1024x512 : Shape := ⟨2, ![1024, 512]⟩
abbrev S1x512 : Shape := ⟨2, ![1, 512]⟩
abbrev S1x512x512 : Shape := ⟨3, ![1, 512, 512]⟩
abbrev S512x1024 : Shape := ⟨2, ![512, 1024]⟩
abbrev S512x512 : Shape := ⟨2, ![512, 512]⟩

abbrev nBuf : Space → Nat
  | .hbm => 6
  | .vmem => 8
  | .smem => 0
  | _ => 0

abbrev bufTy : (tb : Table) → Fin (tcTables nBuf tb) → BufTy
  | .hbm, ⟨0, _⟩ => ⟨S32x2048x1024, .bf16⟩
  | .hbm, ⟨1, _⟩ => ⟨S1024x1536, .bf16⟩
  | .hbm, ⟨2, _⟩ => ⟨S_, .f32⟩
  | .hbm, ⟨3, _⟩ => ⟨S1536, .f32⟩
  | .hbm, ⟨4, _⟩ => ⟨S1x1536, .f32⟩
  | .hbm, ⟨5, _⟩ => ⟨S32x2048x1536, .bf16⟩
  | .local _ .vmem, ⟨0, _⟩ => ⟨S1x512x1024, .bf16⟩
  | .local _ .vmem, ⟨1, _⟩ => ⟨S1x512x1024, .bf16⟩
  | .local _ .vmem, ⟨2, _⟩ => ⟨S1024x512, .bf16⟩
  | .local _ .vmem, ⟨3, _⟩ => ⟨S1024x512, .bf16⟩
  | .local _ .vmem, ⟨4, _⟩ => ⟨S1x512, .f32⟩
  | .local _ .vmem, ⟨5, _⟩ => ⟨S1x512, .f32⟩
  | .local _ .vmem, ⟨6, _⟩ => ⟨S1x512x512, .bf16⟩
  | .local _ .vmem, ⟨7, _⟩ => ⟨S1x512x512, .bf16⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 4, 3], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MixerInReferenceIdeal.lean ====
abbrev S32x2048x1024 : Shape := ⟨3, ![32, 2048, 1024]⟩
abbrev S1024x1536 : Shape := ⟨2, ![1024, 1536]⟩
abbrev S32x2048x1536 : Shape := ⟨3, ![32, 2048, 1536]⟩

abbrev nBuf : Space → Nat
  | .hbm => 6
  | .vmem => 0
  | .smem => 0
  | _ => 0

abbrev bufTy : (tb : Table) → Fin (tcTables nBuf tb) → BufTy
  | .hbm, ⟨0, _⟩ => ⟨S32x2048x1024, .bf16⟩
  | .hbm, ⟨1, _⟩ => ⟨S1024x1536, .bf16⟩
  | .hbm, ⟨2, _⟩ => ⟨S32x2048x1024, .f32⟩
  | .hbm, ⟨3, _⟩ => ⟨S1024x1536, .f32⟩
  | .hbm, ⟨4, _⟩ => ⟨S32x2048x1536, .f32⟩
  | .hbm, ⟨5, _⟩ => ⟨S32x2048x1536, .bf16⟩
  | _, _ => ⟨S32x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== HyenaOut.lean ====
abbrev S32x2048x1024 : Shape := ⟨3, ![32, 2048, 1024]⟩
abbrev S1024x1024 : Shape := ⟨2, ![1024, 1024]⟩
abbrev S1024 : Shape := ⟨1, ![1024]⟩
abbrev S32x1x1024 : Shape := ⟨3, ![32, 1, 1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S32x2048x1024, .bf16⟩
  | .hbm, ⟨1, _⟩ => ⟨S1024x1024, .bf16⟩
  | .hbm, ⟨2, _⟩ => ⟨S32x2048x1024, .f32⟩
  | .hbm, ⟨3, _⟩ => ⟨S1024, .f32⟩
  | .hbm, ⟨4, _⟩ => ⟨S32x1x1024, .f32⟩
  | .hbm, ⟨5, _⟩ => ⟨S1x1024, .f32⟩
  | .hbm, ⟨6, _⟩ => ⟨S32x2048x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1x512x1024, .f32⟩
  | .local _ .vmem, ⟨4, _⟩ => ⟨S1x512x1024, .f32⟩
  | .local _ .vmem, ⟨5, _⟩ => ⟨S1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x512x1024, .f32⟩
  | .local _ .vmem, ⟨9, _⟩ => ⟨S1x512x1024, .f32⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== HyenaOutReferenceIdeal.lean ====
abbrev S32x2048x1024 : Shape := ⟨3, ![32, 2048, 1024]⟩
abbrev S1024x1024 : Shape := ⟨2, ![1024, 1024]⟩
abbrev S1024 : Shape := ⟨1, ![1024]⟩
abbrev S32x1x1024 : Shape := ⟨3, ![32, 1, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S32x2048x1024, .bf16⟩
  | .hbm, ⟨1, _⟩ => ⟨S1024x1024, .bf16⟩
  | .hbm, ⟨2, _⟩ => ⟨S32x2048x1024, .f32⟩
  | .hbm, ⟨3, _⟩ => ⟨S1024, .f32⟩
  | .hbm, ⟨4, _⟩ => ⟨S32x1x1024, .f32⟩
  | .hbm, ⟨5, _⟩ => ⟨S32x2048x1024, .f32⟩
  | .hbm, ⟨6, _⟩ => ⟨S1024x1024, .f32⟩
  | .hbm, ⟨7, _⟩ => ⟨S32x2048x1024, .f32⟩
  | .hbm, ⟨8, _⟩ => ⟨S32x2048x1024, .f32⟩
  | .hbm, ⟨9, _⟩ => ⟨S_, .f32⟩
  | .hbm, ⟨10, _⟩ => ⟨S32x2048, .f32⟩
  | .hbm, ⟨11, _⟩ => ⟨S32x2048x1, .f32⟩
  | .hbm, ⟨12, _⟩ => ⟨S_, .f32⟩
  | .hbm, ⟨13, _⟩ => ⟨S32x2048x1, .f32⟩
  | .hbm, ⟨14, _⟩ => ⟨S32x2048x1, .f32⟩
  | .hbm, ⟨15, _⟩ => ⟨S_, .f32⟩
  | .hbm, ⟨16, _⟩ => ⟨S32x2048x1, .f32⟩
  | .hbm, ⟨17, _⟩ => ⟨S32x2048x1, .f32⟩
  | .hbm, ⟨18, _⟩ => ⟨S32x2048x1, .f32⟩
  | .hbm, ⟨19, _⟩ => ⟨S32x2048x1024, .f32⟩
  | .hbm, ⟨20, _⟩ => ⟨S32x2048x1024, .f32⟩
  | .hbm, ⟨21, _⟩ => ⟨S1x1x1024, .f32⟩
  | .hbm, ⟨22, _⟩ => ⟨S32x2048x1024, .f32⟩
  | .hbm, ⟨23, _⟩ => ⟨S32x2048x1024, .f32⟩
  | .hbm, ⟨24, _⟩ => ⟨S32x2048x1024, .f32⟩
  | .hbm, ⟨25, _⟩ => ⟨S32x2048x1024, .f32⟩
  | .hbm, ⟨26, _⟩ => ⟨S32x2048x1024, .f32⟩
  | _, _ => ⟨S32x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== MixerOut.lean ====
abbrev S32x2048x512 : Shape := ⟨3, ![32, 2048, 512]⟩
abbrev S1024x1024 : Shape := ⟨2, ![1024, 1024]⟩
abbrev S32x2048x1024 : Shape := ⟨3, ![32, 2048, 1024]⟩
abbrev S1024 : Shape := ⟨1, ![1024]⟩
abbrev S32x1x1024 : Shape := ⟨3, ![32, 1, 1024]⟩
abbrev S512x1024 : Shape := ⟨2, ![512, 1024]⟩
abbrev S1x1024 : Shape := ⟨2, ![1, 1024]⟩
abbrev S1x512x512 : Shape := ⟨3, ![1, 512, 512]⟩
abbrev S1x512x1024 : Shape := ⟨3, ![1, 512, 1024]⟩
abbrev S1x1x1024 : Shape := ⟨3, ![1, 1, 1024]⟩
abbrev S512x512 : Shape := ⟨2, ![512, 512]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S32x2048x512, .bf16⟩
  | .hbm, ⟨1, _⟩ => ⟨S32x2048x512, .bf16⟩
  | .hbm, ⟨2, _⟩ => ⟨S1024x1024, .bf16⟩
  | .hbm, ⟨3, _⟩ => ⟨S32x2048x1024, .f32⟩
  | .hbm, ⟨4, _⟩ => ⟨S1024, .f32⟩
  | .hbm, ⟨5, _⟩ => ⟨S32x1x1024, .f32⟩
  | .hbm, ⟨6, _⟩ => ⟨S512x1024, .bf16⟩
  | .hbm, ⟨7, _⟩ => ⟨S512x1024, .bf16⟩
  | .hbm, ⟨8, _⟩ => ⟨S1x1024, .f32⟩
  | .hbm, ⟨9, _⟩ => ⟨S32x2048x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S512x1024, .bf16⟩
  | .local _ .vmem, ⟨5, _⟩ => ⟨S512x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x512x1024, .f32⟩
  | .local _ .vmem, ⟨12, _⟩ => ⟨S1x512x1024, .f32⟩
  | _, _ => ⟨S32x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MixerOutReferenceIdeal.lean ====
abbrev S32x2048x512 : Shape := ⟨3, ![32, 2048, 512]⟩
abbrev S1024x1024 : Shape := ⟨2, ![1024, 1024]⟩
abbrev S32x2048x1024 : Shape := ⟨3, ![32, 2048, 1024]⟩
abbrev S1024 : Shape := ⟨1, ![1024]⟩
abbrev S32x1x1024 : Shape := ⟨3, ![32, 1, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S32x2048x512, .bf16⟩
  | .hbm, ⟨1, _⟩ => ⟨S32x2048x512, .bf16⟩
  | .hbm, ⟨2, _⟩ => ⟨S1024x1024, .bf16⟩
  | .hbm, ⟨3, _⟩ => ⟨S32x2048x1024, .f32⟩
  | .hbm, ⟨4, _⟩ => ⟨S1024, .f32⟩
  | .hbm, ⟨5, _⟩ => ⟨S32x1x1024, .f32⟩
  | .hbm, ⟨6, _⟩ => ⟨S32x2048x512, .f32⟩
  | .hbm, ⟨7, _⟩ => ⟨S32x2048x512, .f32⟩
  | .hbm, ⟨8, _⟩ => ⟨S1024x1024, .f32⟩
  | .hbm, ⟨9, _⟩ => ⟨S32x2048x1024, .f32⟩
  | .hbm, ⟨10, _⟩ => ⟨S32x2048x1024, .f32⟩
  | .hbm, ⟨11, _⟩ => ⟨S32x2048x1024, .f32⟩
  | .hbm, ⟨12, _⟩ => ⟨S_, .f32⟩
  | .hbm, ⟨13, _⟩ => ⟨S32x2048, .f32⟩
  | .hbm, ⟨14, _⟩ => ⟨S32x2048x1, .f32⟩
  | .hbm, ⟨15, _⟩ => ⟨S_, .f32⟩
  | .hbm, ⟨16, _⟩ => ⟨S32x2048x1, .f32⟩
  | .hbm, ⟨17, _⟩ => ⟨S32x2048x1, .f32⟩
  | .hbm, ⟨18, _⟩ => ⟨S_, .f32⟩
  | .hbm, ⟨19, _⟩ => ⟨S32x2048x1, .f32⟩
  | .hbm, ⟨20, _⟩ => ⟨S32x2048x1, .f32⟩
  | .hbm, ⟨21, _⟩ => ⟨S32x2048x1, .f32⟩
  | .hbm, ⟨22, _⟩ => ⟨S32x2048x1024, .f32⟩
  | .hbm, ⟨23, _⟩ => ⟨S32x2048x1024, .f32⟩
  | .hbm, ⟨24, _⟩ => ⟨S1x1x1024, .f32⟩
  | .hbm, ⟨25, _⟩ => ⟨S32x2048x1024, .f32⟩
  | .hbm, ⟨26, _⟩ => ⟨S32x2048x1024, .f32⟩
  | .hbm, ⟨27, _⟩ => ⟨S32x2048x1024, .f32⟩
  | .hbm, ⟨28, _⟩ => ⟨S32x2048x1024, .f32⟩
  | .hbm, ⟨29, _⟩ => ⟨S32x2048x1024, .f32⟩
  | _, _ => ⟨S32x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== RopeQ.lean ====
abbrev S32x2048x1024 : Shape := ⟨3, ![32, 2048, 1024]⟩
abbrev S1024x512 : Shape := ⟨2, ![1024, 512]⟩
abbrev S2048x64 : Shape := ⟨2, ![2048, 64]⟩
abbrev S512 : Shape := ⟨1, ![512]⟩
abbrev S_ : Shape := ⟨0, ![]⟩
abbrev S512x1 : Shape := ⟨2, ![512, 1]⟩
abbrev S1x512 : Shape := ⟨2, ![1, 512]⟩
abbrev S1024x1024 : Shape := ⟨2, ![1024, 1024]⟩
abbrev S1x2048x1x64 : Shape := ⟨4, ![1, 2048, 1, 64]⟩
abbrev S1x2048x8x64 : Shape := ⟨4, ![1, 2048, 8, 64]⟩
abbrev S2048x512 : Shape := ⟨2, ![2048, 512]⟩
abbrev S32x2048x512 : Shape := ⟨3, ![32, 2048, 512]⟩
abbrev S1x512x1024 : Shape := ⟨3, ![1, 512, 1024]⟩
abbrev S512x512 : Shape := ⟨2, ![512, 512]⟩
abbrev S1x512x512 : Shape := ⟨3, ![1, 512, 512]⟩
abbrev S512x1024 : Shape := ⟨2, ![512, 1024]⟩

abbrev nBuf : Space → Nat
  | .hbm => 25
  | .vmem => 9
  | .smem => 0
  | _ => 0

abbrev bufTy : (tb : Table) → Fin (tcTables nBuf tb) → BufTy
  | .hbm, ⟨0, _⟩ => ⟨S32x2048x1024, .bf16⟩
  | .hbm, ⟨1, _⟩ => ⟨S1024x512, .f32⟩
  | .hbm, ⟨2, _⟩ => ⟨S2048x64, .f32⟩
  | .hbm, ⟨3, _⟩ => ⟨S2048x64, .f32⟩
  | .hbm, ⟨4, _⟩ => ⟨S512, .i32⟩
  | .hbm, ⟨5, _⟩ => ⟨S512, .i1⟩
  | .hbm, ⟨6, _⟩ => ⟨S512, .f32⟩
  | .hbm, ⟨7, _⟩ => ⟨S_, .i32⟩
  | .hbm, ⟨8, _⟩ => ⟨S512, .i32⟩
  | .hbm, ⟨9, _⟩ => ⟨S512, .i32⟩
  | .hbm, ⟨10, _⟩ => ⟨S512, .i32⟩
  | .hbm, ⟨11, _⟩ => ⟨S512x1, .i32⟩
  | .hbm, ⟨12, _⟩ => ⟨S1024x512, .f32⟩
  | .hbm, ⟨13, _⟩ => ⟨S1x512, .f32⟩
  | .hbm, ⟨14, _⟩ => ⟨S1024x512, .f32⟩
  | .hbm, ⟨15, _⟩ => ⟨S1024x512, .f32⟩
  | .hbm, ⟨16, _⟩ => ⟨S1024x1024, .f32⟩
  | .hbm, ⟨17, _⟩ => ⟨S1024x1024, .bf16⟩
  | .hbm, ⟨18, _⟩ => ⟨S1x2048x1x64, .f32⟩
  | .hbm, ⟨19, _⟩ => ⟨S1x2048x8x64, .f32⟩
  | .hbm, ⟨20, _⟩ => ⟨S2048x512, .f32⟩
  | .hbm, ⟨21, _⟩ => ⟨S1x2048x1x64, .f32⟩
  | .hbm, ⟨22, _⟩ => ⟨S1x2048x8x64, .f32⟩
  | .hbm, ⟨23, _⟩ => ⟨S2048x512, .f32⟩
  | .hbm, ⟨24, _⟩ => ⟨S32x2048x512, .bf16⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1x512x512, .bf16⟩
  | .local _ .vmem, ⟨8, _⟩ => ⟨S1x512x512, .bf16⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_cst : Ref sig .tc := ⟨.hbm, 6, rfl⟩
abbrev main_c_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RopeQReferenceIdeal.lean ====
abbrev S32x2048x1024 : Shape := ⟨3, ![32, 2048, 1024]⟩
abbrev S1024x512 : Shape := ⟨2, ![1024, 512]⟩
abbrev S2048x64 : Shape := ⟨2, ![2048, 64]⟩
abbrev S32x2048x512 : Shape := ⟨3, ![32, 2048, 512]⟩
abbrev S32x2048x4x2x64 : Shape := ⟨5, ![32, 2048, 4, 2, 64]⟩
abbrev S32x2048x4x2x2x2x16 : Shape := ⟨7, ![32, 2048, 4, 2, 2, 2, 16]⟩
abbrev S32x2048x4x2x2x1x16 : Shape := ⟨7, ![32, 2048, 4, 2, 2, 1, 16]⟩
abbrev S1x2048x1x1x64 : Shape := ⟨5, ![1, 2048, 1, 1, 64]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S32x2048x1024, .bf16⟩
  | .hbm, ⟨1, _⟩ => ⟨S1024x512, .f32⟩
  | .hbm, ⟨2, _⟩ => ⟨S2048x64, .f32⟩
  | .hbm, ⟨3, _⟩ => ⟨S2048x64, .f32⟩
  | .hbm, ⟨4, _⟩ => ⟨S32x2048x1024, .f32⟩
  | .hbm, ⟨5, _⟩ => ⟨S32x2048x512, .f32⟩
  | .hbm, ⟨6, _⟩ => ⟨S32x2048x4x2x64, .f32⟩
  | .hbm, ⟨7, _⟩ => ⟨S32x2048x4x2x2x2x16, .f32⟩
  | .hbm, ⟨8, _⟩ => ⟨S32x2048x4x2x2x1x16, .f32⟩
  | .hbm, ⟨9, _⟩ => ⟨S32x2048x4x2x2x1x16, .f32⟩
  | .hbm, ⟨10, _⟩ => ⟨S32x2048x4x2x2x1x16, .f32⟩
  | .hbm, ⟨11, _⟩ => ⟨S32x2048x4x2x2x2x16, .f32⟩
  | .hbm, ⟨12, _⟩ => ⟨S32x2048x4x2x64, .f32⟩
  | .hbm, ⟨13, _⟩ => ⟨S1x2048x1x1x64, .f32⟩
  | .hbm, ⟨14, _⟩ => ⟨S1x2048x1x1x64, .f32⟩
  | .hbm, ⟨15, _⟩ => ⟨S32x2048x4x2x64, .f32⟩
  | .hbm, ⟨16, _⟩ => ⟨S32x2048x4x2x64, .f32⟩
  | .hbm, ⟨17, _⟩ => ⟨S32x2048x4x2x64, .f32⟩
  | .hbm, ⟨18, _⟩ => ⟨S32x2048x4x2x64, .f32⟩
  | .hbm, ⟨19, _⟩ => ⟨S32x2048x4x2x64, .f32⟩
  | .hbm, ⟨20, _⟩ => ⟨S_, .f32⟩
  | .hbm, ⟨21, _⟩ => ⟨S32x2048x4x2x64, .f32⟩
  | .hbm, ⟨22, _⟩ => ⟨S32x2048x4x2x64, .f32⟩
  | .hbm, ⟨23, _⟩ => ⟨S32x2048x512, .f32⟩
  | .hbm, ⟨24, _⟩ => ⟨S32x2048x512, .bf16⟩
  | _, _ => ⟨S32x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== RopeK.lean ====
abbrev S32x2048x1024 : Shape := ⟨3, ![32, 2048, 1024]⟩
abbrev S1024x512 : Shape := ⟨2, ![1024, 512]⟩
abbrev S2048x64 : Shape := ⟨2, ![2048, 64]⟩
abbrev S512 : Shape := ⟨1, ![512]⟩
abbrev S_ : Shape := ⟨0, ![]⟩
abbrev S512x1 : Shape := ⟨2, ![512, 1]⟩
abbrev S1x512 : Shape := ⟨2, ![1, 512]⟩
abbrev S1024x1024 : Shape := ⟨2, ![1024, 1024]⟩
abbrev S1x2048x1x64 : Shape := ⟨4, ![1, 2048, 1, 64]⟩
abbrev S1x2048x8x64 : Shape := ⟨4, ![1, 2048, 8, 64]⟩
abbrev S2048x512 : Shape := ⟨2, ![2048, 512]⟩
abbrev S32x2048x512 : Shape := ⟨3, ![32, 2048, 512]⟩
abbrev S1x512x1024 : Shape := ⟨3, ![1, 512, 1024]⟩
abbrev S512x512 : Shape := ⟨2, ![512, 512]⟩
abbrev S1x512x512 : Shape := ⟨3, ![1, 512, 512]⟩
abbrev S512x1024 : Shape := ⟨2, ![512, 1024]⟩

abbrev nBuf : Space → Nat
  | .hbm => 25
  | .vmem => 9
  | .smem => 0
  | _ => 0

abbrev bufTy : (tb : Table) → Fin (tcTables nBuf tb) → BufTy
  | .hbm, ⟨0, _⟩ => ⟨S32x2048x1024, .bf16⟩
  | .hbm, ⟨1, _⟩ => ⟨S1024x512, .f32⟩
  | .hbm, ⟨2, _⟩ => ⟨S2048x64, .f32⟩
  | .hbm, ⟨3, _⟩ => ⟨S2048x64, .f32⟩
  | .hbm, ⟨4, _⟩ => ⟨S512, .i32⟩
  | .hbm, ⟨5, _⟩ => ⟨S512, .i1⟩
  | .hbm, ⟨6, _⟩ => ⟨S512, .f32⟩
  | .hbm, ⟨7, _⟩ => ⟨S_, .i32⟩
  | .hbm, ⟨8, _⟩ => ⟨S512, .i32⟩
  | .hbm, ⟨9, _⟩ => ⟨S512, .i32⟩
  | .hbm, ⟨10, _⟩ => ⟨S512, .i32⟩
  | .hbm, ⟨11, _⟩ => ⟨S512x1, .i32⟩
  | .hbm, ⟨12, _⟩ => ⟨S1024x512, .f32⟩
  | .hbm, ⟨13, _⟩ => ⟨S1x512, .f32⟩
  | .hbm, ⟨14, _⟩ => ⟨S1024x512, .f32⟩
  | .hbm, ⟨15, _⟩ => ⟨S1024x512, .f32⟩
  | .hbm, ⟨16, _⟩ => ⟨S1024x1024, .f32⟩
  | .hbm, ⟨17, _⟩ => ⟨S1024x1024, .bf16⟩
  | .hbm, ⟨18, _⟩ => ⟨S1x2048x1x64, .f32⟩
  | .hbm, ⟨19, _⟩ => ⟨S1x2048x8x64, .f32⟩
  | .hbm, ⟨20, _⟩ => ⟨S2048x512, .f32⟩
  | .hbm, ⟨21, _⟩ => ⟨S1x2048x1x64, .f32⟩
  | .hbm, ⟨22, _⟩ => ⟨S1x2048x8x64, .f32⟩
  | .hbm, ⟨23, _⟩ => ⟨S2048x512, .f32⟩
  | .hbm, ⟨24, _⟩ => ⟨S32x2048x512, .bf16⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1x512x512, .bf16⟩
  | .local _ .vmem, ⟨8, _⟩ => ⟨S1x512x512, .bf16⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_cst : Ref sig .tc := ⟨.hbm, 6, rfl⟩
abbrev main_c_1 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RopeKReferenceIdeal.lean ====
abbrev S32x2048x1024 : Shape := ⟨3, ![32, 2048, 1024]⟩
abbrev S1024x512 : Shape := ⟨2, ![1024, 512]⟩
abbrev S2048x64 : Shape := ⟨2, ![2048, 64]⟩
abbrev S32x2048x512 : Shape := ⟨3, ![32, 2048, 512]⟩
abbrev S32x2048x4x2x64 : Shape := ⟨5, ![32, 2048, 4, 2, 64]⟩
abbrev S32x2048x4x2x2x2x16 : Shape := ⟨7, ![32, 2048, 4, 2, 2, 2, 16]⟩
abbrev S32x2048x4x2x2x1x16 : Shape := ⟨7, ![32, 2048, 4, 2, 2, 1, 16]⟩
abbrev S1x2048x1x1x64 : Shape := ⟨5, ![1, 2048, 1, 1, 64]⟩

abbrev nBuf : Space → Nat
  | .hbm => 22
  | .vmem => 0
  | .smem => 0
  | _ => 0

abbrev bufTy : (tb : Table) → Fin (tcTables nBuf tb) → BufTy
  | .hbm, ⟨0, _⟩ => ⟨S32x2048x1024, .bf16⟩
  | .hbm, ⟨1, _⟩ => ⟨S1024x512, .f32⟩
  | .hbm, ⟨2, _⟩ => ⟨S2048x64, .f32⟩
  | .hbm, ⟨3, _⟩ => ⟨S2048x64, .f32⟩
  | .hbm, ⟨4, _⟩ => ⟨S32x2048x1024, .f32⟩
  | .hbm, ⟨5, _⟩ => ⟨S32x2048x512, .f32⟩
  | .hbm, ⟨6, _⟩ => ⟨S32x2048x4x2x64, .f32⟩
  | .hbm, ⟨7, _⟩ => ⟨S32x2048x4x2x2x2x16, .f32⟩
  | .hbm, ⟨8, _⟩ => ⟨S32x2048x4x2x2x1x16, .f32⟩
  | .hbm, ⟨9, _⟩ => ⟨S32x2048x4x2x2x1x16, .f32⟩
  | .hbm, ⟨10, _⟩ => ⟨S32x2048x4x2x2x1x16, .f32⟩
  | .hbm, ⟨11, _⟩ => ⟨S32x2048x4x2x2x2x16, .f32⟩
  | .hbm, ⟨12, _⟩ => ⟨S32x2048x4x2x64, .f32⟩
  | .hbm, ⟨13, _⟩ => ⟨S1x2048x1x1x64, .f32⟩
  | .hbm, ⟨14, _⟩ => ⟨S1x2048x1x1x64, .f32⟩
  | .hbm, ⟨15, _⟩ => ⟨S32x2048x4x2x64, .f32⟩
  | .hbm, ⟨16, _⟩ => ⟨S32x2048x4x2x64, .f32⟩
  | .hbm, ⟨17, _⟩ => ⟨S32x2048x4x2x64, .f32⟩
  | .hbm, ⟨18, _⟩ => ⟨S32x2048x4x2x64, .f32⟩
  | .hbm, ⟨19, _⟩ => ⟨S32x2048x4x2x64, .f32⟩
  | .hbm, ⟨20, _⟩ => ⟨S32x2048x512, .f32⟩
  | .hbm, ⟨21, _⟩ => ⟨S32x2048x512, .bf16⟩
  | _, _ => ⟨S32x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== ContextIn.lean ====
abbrev S32x256x1024 : Shape := ⟨3, ![32, 256, 1024]⟩
abbrev S1024x1536 : Shape := ⟨2, ![1024, 1536]⟩
abbrev S_ : Shape := ⟨0, ![]⟩
abbrev S1536 : Shape := ⟨1, ![1536]⟩
abbrev S1x1536 : Shape := ⟨2, ![1, 1536]⟩
abbrev S32x256x1536 : Shape := ⟨3, ![32, 256, 1536]⟩
abbrev S1x256x1024 : Shape := ⟨3, ![1, 256, 1024]⟩
abbrev S1024x512 : Shape := ⟨2, ![1024, 512]⟩
abbrev S1x512 : Shape := ⟨2, ![1, 512]⟩
abbrev S1x256x512 : Shape := ⟨3, ![1, 256, 512]⟩
abbrev S256x1024 : Shape := ⟨2, ![256, 1024]⟩
abbrev S256x512 : Shape := ⟨2, ![256, 512]⟩

abbrev nBuf : Space → Nat
  | .hbm => 6
  | .vmem => 8
  | .smem => 0
  | _ => 0

abbrev bufTy : (tb : Table) → Fin (tcTables nBuf tb) → BufTy
  | .hbm, ⟨0, _⟩ => ⟨S32x256x1024, .bf16⟩
  | .hbm, ⟨1, _⟩ => ⟨S1024x1536, .bf16⟩
  | .hbm, ⟨2, _⟩ => ⟨S_, .f32⟩
  | .hbm, ⟨3, _⟩ => ⟨S1536, .f32⟩
  | .hbm, ⟨4, _⟩ => ⟨S1x1536, .f32⟩
  | .hbm, ⟨5, _⟩ => ⟨S32x256x1536, .bf16⟩
  | .local _ .vmem, ⟨0, _⟩ => ⟨S1x256x1024, .bf16⟩
  | .local _ .vmem, ⟨1, _⟩ => ⟨S1x256x1024, .bf16⟩
  | .local _ .vmem, ⟨2, _⟩ => ⟨S1024x512, .bf16⟩
  | .local _ .vmem, ⟨3, _⟩ => ⟨S1024x512, .bf16⟩
  | .local _ .vmem, ⟨4, _⟩ => ⟨S1x512, .f32⟩
  | .local _ .vmem, ⟨5, _⟩ => ⟨S1x512, .f32⟩
  | .local _ .vmem, ⟨6, _⟩ => ⟨S1x256x512, .bf16⟩
  | .local _ .vmem, ⟨7, _⟩ => ⟨S1x256x512, .bf16⟩
  | _, _ => ⟨S32x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![32, 1, 3], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ContextInReferenceIdeal.lean ====
abbrev S32x256x1024 : Shape := ⟨3, ![32, 256, 1024]⟩
abbrev S1024x1536 : Shape := ⟨2, ![1024, 1536]⟩
abbrev S32x256x1536 : Shape := ⟨3, ![32, 256, 1536]⟩

abbrev nBuf : Space → Nat
  | .hbm => 6
  | .vmem => 0
  | .smem => 0
  | _ => 0

abbrev bufTy : (tb : Table) → Fin (tcTables nBuf tb) → BufTy
  | .hbm, ⟨0, _⟩ => ⟨S32x256x1024, .bf16⟩
  | .hbm, ⟨1, _⟩ => ⟨S1024x1536, .bf16⟩
  | .hbm, ⟨2, _⟩ => ⟨S32x256x1024, .f32⟩
  | .hbm, ⟨3, _⟩ => ⟨S1024x1536, .f32⟩
  | .hbm, ⟨4, _⟩ => ⟨S32x256x1536, .f32⟩
  | .hbm, ⟨5, _⟩ => ⟨S32x256x1536, .bf16⟩
  | _, _ => ⟨S32x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ContextConv.lean ====
abbrev S32x256x1024 : Shape := ⟨3, ![32, 256, 1024]⟩
abbrev S1024x512 : Shape := ⟨2, ![1024, 512]⟩
abbrev S3x512 : Shape := ⟨2, ![3, 512]⟩
abbrev S512 : Shape := ⟨1, ![512]⟩
abbrev S1x512 : Shape := ⟨2, ![1, 512]⟩
abbrev S32x256x512 : Shape := ⟨3, ![32, 256, 512]⟩
abbrev S1x256x1024 : Shape := ⟨3, ![1, 256, 1024]⟩
abbrev S1x256x512 : Shape := ⟨3, ![1, 256, 512]⟩
abbrev S256x1024 : Shape := ⟨2, ![256, 1024]⟩
abbrev S256x512 : Shape := ⟨2, ![256, 512]⟩

abbrev nBuf : Space → Nat
  | .hbm => 6
  | .vmem => 7
  | .smem => 0
  | _ => 0

abbrev bufTy : (tb : Table) → Fin (tcTables nBuf tb) → BufTy
  | .hbm, ⟨0, _⟩ => ⟨S32x256x1024, .bf16⟩
  | .hbm, ⟨1, _⟩ => ⟨S1024x512, .bf16⟩
  | .hbm, ⟨2, _⟩ => ⟨S3x512, .f32⟩
  | .hbm, ⟨3, _⟩ => ⟨S512, .f32⟩
  | .hbm, ⟨4, _⟩ => ⟨S1x512, .f32⟩
  | .hbm, ⟨5, _⟩ => ⟨S32x256x512, .bf16⟩
  | .local _ .vmem, ⟨0, _⟩ => ⟨S1x256x1024, .bf16⟩
  | .local _ .vmem, ⟨1, _⟩ => ⟨S1x256x1024, .bf16⟩
  | .local _ .vmem, ⟨2, _⟩ => ⟨S1024x512, .bf16⟩
  | .local _ .vmem, ⟨3, _⟩ => ⟨S3x512, .f32⟩
  | .local _ .vmem, ⟨4, _⟩ => ⟨S1x512, .f32⟩
  | .local _ .vmem, ⟨5, _⟩ => ⟨S1x256x512, .bf16⟩
  | .local _ .vmem, ⟨6, _⟩ => ⟨S1x256x512, .bf16⟩
  | _, _ => ⟨S32x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S3x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ContextConvReferenceIdeal.lean ====
abbrev S32x256x1024 : Shape := ⟨3, ![32, 256, 1024]⟩
abbrev S1024x512 : Shape := ⟨2, ![1024, 512]⟩
abbrev S3x512 : Shape := ⟨2, ![3, 512]⟩
abbrev S512 : Shape := ⟨1, ![512]⟩
abbrev S32x256x512 : Shape := ⟨3, ![32, 256, 512]⟩
abbrev S_ : Shape := ⟨0, ![]⟩
abbrev S32x258x512 : Shape := ⟨3, ![32, 258, 512]⟩
abbrev S1x512 : Shape := ⟨2, ![1, 512]⟩
abbrev S1x1x512 : Shape := ⟨3, ![1, 1, 512]⟩

abbrev nBuf : Space → Nat
  | .hbm => 46
  | .vmem => 0
  | .smem => 0
  | _ => 0

abbrev bufTy : (tb : Table) → Fin (tcTables nBuf tb) → BufTy
  | .hbm, ⟨0, _⟩ => ⟨S32x256x1024, .bf16⟩
  | .hbm, ⟨1, _⟩ => ⟨S1024x512, .bf16⟩
  | .hbm, ⟨2, _⟩ => ⟨S3x512, .f32⟩
  | .hbm, ⟨3, _⟩ => ⟨S512, .f32⟩
  | .hbm, ⟨4, _⟩ => ⟨S32x256x1024, .f32⟩
  | .hbm, ⟨5, _⟩ => ⟨S1024x512, .f32⟩
  | .hbm, ⟨6, _⟩ => ⟨S32x256x512, .f32⟩
  | .hbm, ⟨7, _⟩ => ⟨S_, .i32⟩
  | .hbm, ⟨8, _⟩ => ⟨S_, .f32⟩
  | .hbm, ⟨9, _⟩ => ⟨S32x258x512, .f32⟩
  | .hbm, ⟨10, _⟩ => ⟨S32x256x512, .f32⟩
  | .hbm, ⟨11, _⟩ => ⟨S1x512, .f32⟩
  | .hbm, ⟨12, _⟩ => ⟨S512, .f32⟩
  | .hbm, ⟨13, _⟩ => ⟨S1x1x512, .f32⟩
  | .hbm, ⟨14, _⟩ => ⟨S32x256x512, .f32⟩
  | .hbm, ⟨15, _⟩ => ⟨S32x256x512, .f32⟩
  | .hbm, ⟨16, _⟩ => ⟨S_, .f32⟩
  | .hbm, ⟨17, _⟩ => ⟨S32x256x512, .f32⟩
  | .hbm, ⟨18, _⟩ => ⟨S32x256x512, .f32⟩
  | .hbm, ⟨19, _⟩ => ⟨S32x256x512, .f32⟩
  | .hbm, ⟨20, _⟩ => ⟨S1x512, .f32⟩
  | .hbm, ⟨21, _⟩ => ⟨S512, .f32⟩
  | .hbm, ⟨22, _⟩ => ⟨S1x1x512, .f32⟩
  | .hbm, ⟨23, _⟩ => ⟨S32x256x512, .f32⟩
  | .hbm, ⟨24, _⟩ => ⟨S32x256x512, .f32⟩
  | .hbm, ⟨25, _⟩ => ⟨S32x256x512, .f32⟩
  | .hbm, ⟨26, _⟩ => ⟨S32x256x512, .f32⟩
  | .hbm, ⟨27, _⟩ => ⟨S1x512, .f32⟩
  | .hbm, ⟨28, _⟩ => ⟨S512, .f32⟩
  | .hbm, ⟨29, _⟩ => ⟨S1x1x512, .f32⟩
  | .hbm, ⟨30, _⟩ => ⟨S32x256x512, .f32⟩
  | .hbm, ⟨31, _⟩ => ⟨S32x256x512, .f32⟩
  | .hbm, ⟨32, _⟩ => ⟨S32x256x512, .f32⟩
  | .hbm, ⟨33, _⟩ => ⟨S1x1x512, .f32⟩
  | .hbm, ⟨34, _⟩ => ⟨S32x256x512, .f32⟩
  | .hbm, ⟨35, _⟩ => ⟨S32x256x512, .f32⟩
  | .hbm, ⟨36, _⟩ => ⟨S32x256x512, .f32⟩
  | .hbm, ⟨37, _⟩ => ⟨S32x256x512, .f32⟩
  | .hbm, ⟨38, _⟩ => ⟨S_, .f32⟩
  | .hbm, ⟨39, _⟩ => ⟨S32x256x512, .f32⟩
  | .hbm, ⟨40, _⟩ => ⟨S32x256x512, .f32⟩
  | .hbm, ⟨41, _⟩ => ⟨S_, .f32⟩
  | .hbm, ⟨42, _⟩ => ⟨S32x256x512, .f32⟩
  | .hbm, ⟨43, _⟩ => ⟨S32x256x512, .f32⟩
  | .hbm, ⟨44, _⟩ => ⟨S32x256x512, .f32⟩
  | .hbm, ⟨45, _⟩ => ⟨S32x256x512, .bf16⟩
  | _, _ => ⟨S32x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== Proof.MoeMath.lean ====
/- The arithmetic of the mixture of experts on the extended reals, free of any program: a gated expert's row, the two places
   the router's weight can stand (on the expert's hidden row before its down projection, or on the projected row
   afterwards), and the closing normalisation. -/
module

public import Idealize.ShloMosaic.Lib.Pointwise

@[expose] public section

noncomputable section

namespace Cert.Experts

open Idealize.ShloMosaic

/-- One unit of an expert's hidden row: the gate half of the up projection through `v ↦ v / (1 + exp (-v))`, times the other half. -/
def hidden (h : Fin 1024 → EReal) (w : Fin 1024 → Fin 512 → EReal) (k : Fin 256) : EReal :=
  Ideal.div (∑ j, h j * w j ⟨k, by omega⟩) (1 + Ideal.exp (-(∑ j, h j * w j ⟨k, by omega⟩)))
    * ∑ j, h j * w j ⟨256 + k, by omega⟩

/-- An expert's row, ungated. -/
def expert (h : Fin 1024 → EReal) (w : Fin 1024 → Fin 512 → EReal) (d : Fin 256 → Fin 1024 → EReal) (l : Fin 1024) : EReal :=
  ∑ k, hidden h w k * d k l

/-- An expert's row with the router's weight on each hidden unit. -/
def weighted (h : Fin 1024 → EReal) (p : EReal) (w : Fin 1024 → Fin 512 → EReal) (d : Fin 256 → Fin 1024 → EReal)
    (l : Fin 1024) : EReal :=
  ∑ k, hidden h w k * p * d k l

/-- The shared expert and the 64 routed ones, the router's weights on the hidden units. -/
def mixture (h : Fin 1024 → EReal) (p : Fin 64 → EReal) (w : Fin 64 → Fin 1024 → Fin 512 → EReal)
    (d : Fin 64 → Fin 256 → Fin 1024 → EReal) (sw : Fin 1024 → Fin 512 → EReal) (sd : Fin 256 → Fin 1024 → EReal)
    (l : Fin 1024) : EReal :=
  expert h sw sd l + ∑ e, weighted h (p e) (w e) (d e) l

/-- The same with the router's weights on the experts' rows. -/
def mixtureRef (h : Fin 1024 → EReal) (p : Fin 64 → EReal) (w : Fin 64 → Fin 1024 → Fin 512 → EReal)
    (d : Fin 64 → Fin 256 → Fin 1024 → EReal) (sw : Fin 1024 → Fin 512 → EReal) (sd : Fin 256 → Fin 1024 → EReal)
    (l : Fin 1024) : EReal :=
  expert h sw sd l + ∑ e, p e * expert h (w e) (d e) l

/-- The closing step of one row: root-mean-square normalisation with a gain, scaled and added to the residual. -/
def close (o : Fin 1024 → EReal) (x g s : EReal) (l : Fin 1024) : EReal :=
  x + s * (o l * Ideal.rsqrt (Ideal.div (∑ j, o j * o j) (Ideal.ofBits .f32 0x44800000#32) + Ideal.ofBits .f32 0x358637BD#32) * g)

/-- A weight in `[0, ∞)` distributes over any sum of extended reals. -/
theorem weight_sum {n : Nat} (p : EReal) (h0 : 0 ≤ p) (ht : p ≠ ⊤) (f : Fin n → EReal) : p * ∑ k, f k = ∑ k, p * f k := by
  have key : ∀ t : Finset (Fin n), p * ∑ k ∈ t, f k = ∑ k ∈ t, p * f k := fun t => by
    induction t using Finset.induction_on with
    | empty => simp
    | insert a t ha ih => rw [Finset.sum_insert ha, Finset.sum_insert ha, EReal.left_distrib_of_nonneg_of_ne_top h0 ht, ih]
  exact key _

theorem weighted_eq (h : Fin 1024 → EReal) (p : EReal) (h0 : 0 ≤ p) (ht : p ≠ ⊤) (w : Fin 1024 → Fin 512 → EReal)
    (d : Fin 256 → Fin 1024 → EReal) (l : Fin 1024) : weighted h p w d l = p * expert h w d l := by
  unfold weighted expert
  rw [weight_sum p h0 ht]
  refine Finset.sum_congr rfl fun k _ => ?_
  rw [mul_comm (hidden h w k) p, mul_assoc]

/-- With weights in `[0, ∞)` it does not matter on which side of the down projection they stand. -/
theorem mixture_eq (h : Fin 1024 → EReal) (p : Fin 64 → EReal) (h0 : ∀ e, 0 ≤ p e) (ht : ∀ e, p e ≠ ⊤)
    (w : Fin 64 → Fin 1024 → Fin 512 → EReal) (d : Fin 64 → Fin 256 → Fin 1024 → EReal) (sw : Fin 1024 → Fin 512 → EReal)
    (sd : Fin 256 → Fin 1024 → EReal) : mixture h p w d sw sd = mixtureRef h p w d sw sd := by
  funext l
  unfold mixture mixtureRef
  exact congrArg _ (Finset.sum_congr rfl fun e _ => weighted_eq h (p e) (h0 e) (ht e) (w e) (d e) l)

theorem one_add_exp_ne (v : EReal) : 1 + Ideal.exp v ≠ 0 := by
  have h : 0 ≤ Ideal.exp v := by
    induction v with
    | bot => exact le_refl _
    | top => exact le_top
    | coe r => exact EReal.coe_nonneg.mpr (Real.exp_pos r).le
  exact ne_of_gt (lt_of_lt_of_le zero_lt_one (le_add_of_nonneg_right h))

/-- The logistic gate as a product with a reciprocal is the quotient. -/
theorem gate_eq (v : EReal) : v * Ideal.div 1 (1 + Ideal.exp (-v)) = Ideal.div v (1 + Ideal.exp (-v)) := by
  unfold Ideal.div
  rw [if_neg (one_add_exp_ne _), if_neg (one_add_exp_ne _), one_mul]

/-- A quantity restarted at every 64th point from that run's start value and growing by one term per point is the start value
    plus the run's terms so far. -/
theorem run_sum {N : Nat} (f : (n : Nat) → n < N → EReal) (z T : Nat → EReal)
    (h0 : ∀ t : Fin N, t.val % 64 = 0 → f t.val t.isLt = z (t.val / 64) + T t.val)
    (hs : ∀ t : Fin N, ¬t.val % 64 = 0 → f t.val t.isLt = f (t.val - 1) (Nat.lt_of_le_of_lt (Nat.sub_le _ _) t.isLt) + T t.val) :
    ∀ (n : Nat) (h : n < N), f n h = z (n / 64) + ∑ k ∈ Finset.range (n % 64 + 1), T (64 * (n / 64) + k) := by
  intro n
  induction n with
  | zero => intro h; simpa using h0 ⟨0, h⟩ rfl
  | succ n ih =>
    intro h
    by_cases hn : (n + 1) % 64 = 0
    · have e := h0 ⟨n + 1, h⟩ hn
      dsimp only at e
      rw [e, hn, Finset.sum_range_one, show 64 * ((n + 1) / 64) + 0 = n + 1 by omega]
    · have e := hs ⟨n + 1, h⟩ hn
      refine e.trans ?_
      show f n (by omega) + T (n + 1) = _
      rw [ih (by omega), show (n + 1) / 64 = n / 64 by omega, show (n + 1) % 64 + 1 = n % 64 + 1 + 1 by omega,
        Finset.sum_range_succ _ (n % 64 + 1), ← add_assoc, show 64 * (n / 64) + (n % 64 + 1) = n + 1 by omega]

end Cert.Experts

end
-- ==== Proof.MoeBody.lean ====
/- What the experts' kernel computes at one grid point, read at one index: the shared expert's row a row block starts from, one
   routed expert's weighted row added to it, and the closing normalisation. -/
module

public import proofs.«01_k».proof.Proof.Gen.MoeIdeal.Skeleton
public import proofs.«01_k».proof.Proof.MoeMath
public import Idealize.ShloMosaic.Lib.Pointwise

@[expose] public section

set_option maxRecDepth 16384

noncomputable section

namespace Cert.MoeIdeal.Body

open Cert.MoeIdeal Cert.MoeIdeal.Gen Idealize.ShloMosaic Idealize.ShloMosaic.TcCoe Idealize.SL.Sem
open Cert.Experts

theorem lane_eq : ∀ (x : Fin 128) (e : Fin 64),
    IntOp.cmpi .eq (BitVec.ofNat 32 x) (BitVec.ofNat 32 e) = if (x : Nat) = e then 1#1 else 0#1 := by decide +kernel

/-- Summing the lanes masked to one expert's lane picks that expert's weight. -/
theorem pick (p : Fin 128 → EReal) (e : Fin 64) :
    (∑ x : Fin 128, Scalar.select (IntOp.cmpi .eq (BitVec.ofNat 32 x) (BitVec.ofNat 32 e)) (p x) 0) = p ⟨e, by omega⟩ := by
  rw [Finset.sum_eq_single (⟨e, by omega⟩ : Fin 128)]
  · rw [lane_eq, if_pos rfl]; rfl
  · intro x _ hx
    rw [lane_eq, if_neg fun h => hx (Fin.ext h)]; rfl
  · exact fun h => absurd (Finset.mem_univ _) h

/-- The shared expert's block. -/
theorem shared_at (h : S1x1024x1024.Idx → EReal) (w : S1024x512.Idx → EReal) (d : S256x1024.Idx → EReal) (r l : Fin 1024) :
    k0_pay4 (F := Ideal) h w d (ix2 r l)
      = expert (fun j => h (ix3 0 r j)) (fun j k => w (ix2 j k)) (fun k l => d (ix2 k l)) l := by
  pointwise [k0_pay4, k0_pay3]
  unfold expert Experts.hidden
  simp only [zero_sub]

/-- One routed expert's weighted row added to what the accumulator held. -/
theorem routed_at (i : grid0.Coords) (e : Fin 64) (he : (i 2).val = e) (h : S1x1024x1024.Idx → EReal) (p : S1x1024x128.Idx → EReal)
    (w : S1x1024x512.Idx → EReal) (acc : S1024x1024.Idx → EReal) (d : S1x256x1024.Idx → EReal) (r l : Fin 1024) :
    k0_pay5 (F := Ideal) i h p w acc d (ix2 r l)
      = acc (ix2 r l) + weighted (fun j => h (ix3 0 r j)) (p (ix3 0 r ⟨e, by omega⟩)) (fun j k => w (ix3 0 j k))
          (fun k l => d (ix3 0 k l)) l := by
  pointwise [k0_pay5, k0_pay3]
  rw [he]
  simp only [pick (fun x => p (ix3 0 r x)) e]
  unfold weighted Experts.hidden
  simp only [zero_sub]

/-- The accumulator's store is the value itself. -/
theorem store_at (a : S1024x1024.Idx → EReal) (r l : Fin 1024) : k0_pay1 (F := Ideal) a (ix2 r l) = a (ix2 r l) := by
  pointwise [k0_pay1]

/-- The closing step's block. -/
theorem close_at (o : S1024x1024.Idx → EReal) (g : S1x1024.Idx → EReal) (x : S1x1024x1024.Idx → EReal) (s : S1x1x1024.Idx → EReal)
    (r l : Fin 1024) :
    k0_pay2 (F := Ideal) o g x s (ix3 0 r l)
      = close (fun j => o (ix2 r j)) (x (ix3 0 r l)) (g (ix2 0 l)) (s (ix3 0 0 l)) l := by
  pointwise [k0_pay2]
  rfl

end Cert.MoeIdeal.Body

end
-- ==== Proof.MoeRef.lean ====
/- The experts' reference read at one index: the closing step over the mixture with the router's weights on the experts' rows. -/
module

public import proofs.«01_k».proof.Proof.Gen.MoeReferenceIdeal.Read
public import proofs.«01_k».proof.Proof.MoeMath
public import Idealize.ShloMosaic.Lib.Pointwise

@[expose] public section

set_option maxRecDepth 16384

noncomputable section

namespace Cert.MoeReferenceIdeal.MoeRead

open Cert.MoeReferenceIdeal Cert.MoeReferenceIdeal.Gen Cert.MoeReferenceIdeal.Read Idealize.ShloMosaic Idealize.ShloMosaic.TcCoe Idealize.SL.Sem
open Cert.Experts

variable (x0 : FVec Ideal S32x2048x1024 .bf16) (x1 : FVec Ideal S32x2048x128 .f32) (x2 : FVec Ideal S64x1024x512 .bf16)
  (x3 : FVec Ideal S64x256x1024 .bf16) (x4 : FVec Ideal S1024x512 .bf16) (x5 : FVec Ideal S256x1024 .bf16)
  (x6 : FVec Ideal S32x2048x1024 .f32) (x7 : FVec Ideal S1024 .f32) (x8 : FVec Ideal S32x1x1024 .f32)

/-- The hidden state of one token. -/
def tok (b : Fin 32) (r : Fin 2048) (j : Fin 1024) : EReal := x0 (ix3 b r j)

/-- One expert's up projection, and its down projection. -/
def up (e : Fin 64) (j : Fin 1024) (k : Fin 512) : EReal := x2 (ix3 e j k)
def down (e : Fin 64) (k : Fin 256) (l : Fin 1024) : EReal := x3 (ix3 e k l)

/-- The shared expert's projections. -/
def sup (j : Fin 1024) (k : Fin 512) : EReal := x4 (ix2 j k)
def sdown (k : Fin 256) (l : Fin 1024) : EReal := x5 (ix2 k l)

/-- One token's weight for an expert. -/
def weight (b : Fin 32) (r : Fin 2048) (e : Fin 64) : EReal := x1 (ix3 b r ⟨e, by omega⟩)

/-- An expert's up projection of one token. -/
theorem up_at (e : Fin 64) (b : Fin 32) (r : Fin 2048) (k : Fin 512) :
    val_main_v7 (F := Ideal) x0 x2 (ix4 e b r k) = ∑ j, tok x0 b r j * up x2 e j k := by
  rw [val_main_v7_apply, val_main_v6_apply]
  refine Finset.sum_congr rfl fun j _ => (mul_comm _ _).trans ?_
  rw [val_main_v0_apply, val_main_v1_apply]
  have el : lidx_main_v6 (idx_main_v7 (ix4 e b r k)) j = ix3 e j k := funext fun a => Fin.ext (by
    match a with | ⟨0, _⟩ => rfl | ⟨1, _⟩ => rfl | ⟨2, _⟩ => rfl)
  have er : ridx_main_v6 (idx_main_v7 (ix4 e b r k)) j = ix3 b r j := funext fun a => Fin.ext (by
    match a with | ⟨0, _⟩ => rfl | ⟨1, _⟩ => rfl | ⟨2, _⟩ => rfl)
  rw [el, er]
  rfl

/-- One unit of an expert's hidden row. -/
theorem hidden_at (e : Fin 64) (b : Fin 32) (r : Fin 2048) (k : Fin 256) :
    val_main_v11 (F := Ideal) x0 x2 (ix4 e b r k) = hidden (tok x0 b r) (up x2 e) k := by
  have e8 : val_main_v8 (F := Ideal) x0 x2 (ix4 e b r k) = ∑ j, tok x0 b r j * up x2 e j ⟨k, by omega⟩ := by
    rw [val_main_v8_apply]
    exact (congrArg _ (funext fun a => Fin.ext (by
      match a with | ⟨0, _⟩ => rfl | ⟨1, _⟩ => rfl | ⟨2, _⟩ => rfl | ⟨3, _⟩ => rfl))).trans (up_at x0 x2 e b r ⟨k, by omega⟩)
  have e9 : val_main_v9 (F := Ideal) x0 x2 (ix4 e b r k) = ∑ j, tok x0 b r j * up x2 e j ⟨256 + k, by omega⟩ := by
    rw [val_main_v9_apply]
    exact (congrArg _ (funext fun a => Fin.ext (by
      match a with | ⟨0, _⟩ => rfl | ⟨1, _⟩ => rfl | ⟨2, _⟩ => rfl | ⟨3, _⟩ => rfl))).trans (up_at x0 x2 e b r ⟨256 + k, by omega⟩)
  pointwise [val_main_v11, val_main_v10, val_main_call0_v5, val_main_call0_v4, val_main_call0_cst_0, val_main_call0_v3, val_main_call0_v2, val_main_call0_cst, val_main_call0_v1, val_main_call0_v0]
  rw [e8, e9, gate_eq]
  rfl

/-- The sum of the routed experts' rows, each times the token's weight for it. -/
theorem routed_at (b : Fin 32) (r : Fin 2048) (l : Fin 1024) :
    val_main_v17 (F := Ideal) x0 x1 x2 x3 (ix3 b r l)
      = ∑ e, weight x1 b r e * expert (tok x0 b r) (up x2 e) (down x3 e) l := by
  rw [val_main_v17_apply, val_main_cst_apply]
  refine (congrArg (· + _) Ideal.ofBits_zero_f32).trans ((zero_add _).trans (Finset.sum_congr rfl fun e _ => ?_))
  have ei : idx_main_v17 (ix3 b r l) e = ix4 e b r l := funext fun a => Fin.ext (by
    match a with | ⟨0, _⟩ => rfl | ⟨1, _⟩ => rfl | ⟨2, _⟩ => rfl | ⟨3, _⟩ => rfl)
  rw [ei, val_main_v16_apply, val_main_v15_apply, val_main_v14_apply, val_main_v13_apply, val_main_v5_apply, val_main_v12_apply]
  refine congrArg₂ (fun x y : EReal => x * y) ?_ (Finset.sum_congr rfl fun k _ => ?_)
  · exact congrArg x1 (funext fun a => Fin.ext (by match a with | ⟨0, _⟩ => rfl | ⟨1, _⟩ => rfl | ⟨2, _⟩ => rfl))
  · have el : lidx_main_v12 (ix4 e b r l) k = ix4 e b r k := funext fun a => Fin.ext (by
      match a with | ⟨0, _⟩ => rfl | ⟨1, _⟩ => rfl | ⟨2, _⟩ => rfl | ⟨3, _⟩ => rfl)
    have er : ridx_main_v12 (ix4 e b r l) k = ix3 e k l := funext fun a => Fin.ext (by
      match a with | ⟨0, _⟩ => rfl | ⟨1, _⟩ => rfl | ⟨2, _⟩ => rfl)
    rw [el, er, hidden_at, val_main_v2_apply]
    rfl

/-- The shared expert's row. -/
theorem shared_at (b : Fin 32) (r : Fin 2048) (l : Fin 1024) :
    val_main_v23 (F := Ideal) x0 x4 x5 (ix3 b r l) = expert (tok x0 b r) (sup x4) (sdown x5) l := by
  pointwise [val_main_v23, val_main_v22, val_main_v21, val_main_v20, val_main_v19, val_main_v18, val_main_v4, val_main_v3, val_main_v0, val_main_call1_v5, val_main_call1_v4, val_main_call1_cst_0, val_main_call1_v3, val_main_call1_v2, val_main_call1_cst, val_main_call1_v1, val_main_call1_v0]
  simp only [gate_eq]
  rfl

/-- The reference's result at batch `b`, row `r`, lane `l`. -/
theorem out_at (b : Fin 32) (r : Fin 2048) (l : Fin 1024) :
    val_main_v40 (F := Ideal) x0 x1 x2 x3 x4 x5 x6 x7 x8 (ix3 b r l)
      = close (mixtureRef (tok x0 b r) (weight x1 b r) (up x2) (down x3) (sup x4) (sdown x5)) (x6 (ix3 b r l)) (x7 (ix1 l))
          (x8 (ix3 b 0 l)) l := by
  have e24 : ∀ j, val_main_v24 (F := Ideal) x0 x1 x2 x3 x4 x5 (ix3 b r j)
      = mixtureRef (tok x0 b r) (weight x1 b r) (up x2) (down x3) (sup x4) (sdown x5) j := fun j => by
    rw [val_main_v24_apply, shared_at, routed_at]
    rfl
  pointwise [val_main_v40, val_main_v39, val_main_v38, val_main_v37, val_main_v36, val_main_v35, val_main_v34, val_main_v33, val_main_v32, val_main_v31, val_main_v30, val_main_v29, val_main_v28, val_main_v27, val_main_v26, val_main_v25, val_main_cst_0, val_main_cst_1, val_main_cst_2]
  simp only [e24]
  rfl

end Cert.MoeReferenceIdeal.MoeRead

end
-- ==== Proof.MoeBlocks.lean ====
/- The blocks the experts' kernel's windows hold at each grid point, as entries of the arrays the program is launched
   with. -/
module

public import proofs.«01_k».proof.Proof.Gen.MoeIdeal.Frame
public import proofs.«01_k».proof.Proof.Gen.MoeIdeal.Value
public import proofs.«01_k».proof.Proof.MoeBody
public import proofs.«01_k».proof.Proof.MoeRef
public import Idealize.ShloMosaic.Lib.Pipeline.ValueKit

@[expose] public section

set_option maxRecDepth 16384

noncomputable section

namespace Cert.MoeIdeal.Body

open Cert.MoeIdeal Cert.MoeIdeal.Gen Idealize.ShloMosaic Idealize.ShloMosaic.TcCoe Idealize.SL.Sem
open Idealize.ShloMosaic.Pipeline (Dat)
open Cert.Experts Cert.MoeReferenceIdeal.MoeRead

variable (m : (ℓ : Loc nD τ sig) → Buf (Elt Ideal) ℓ)

theorem idx : ∀ t : Fin cfg0.N, win0_0.index t = ![t.val / 128, t.val / 64 % 2, 0] ∧ win0_1.index t = ![t.val / 128, t.val / 64 % 2, 0]
    ∧ win0_2.index t = ![t.val % 64, 0, 0] ∧ win0_3.index t = ![t.val % 64, 0, 0] ∧ win0_4.index t = ![0, 0]
    ∧ win0_5.index t = ![0, 0] ∧ win0_6.index t = ![t.val / 128, t.val / 64 % 2, 0] ∧ win0_7.index t = ![0, 0]
    ∧ win0_8.index t = ![t.val / 128, 0, 0] ∧ win0_9.index t = ![t.val / 128, t.val / 64 % 2, 0]
    ∧ (grid0.coords t 2).val = t.val % 64 :=
  (by decide +kernel : ∀ t : Fin grid0.N, _)

/-- The batch and the row of the arrays at row `r` of run `p`'s block. -/
def bat (p : Nat) : Fin 32 := ⟨p / 2 % 32, by omega⟩
def row (p : Nat) (r : Fin 1024) : Fin 2048 := ⟨p % 2 * 1024 + r, by omega⟩
def exp64 (n : Nat) : Fin 64 := ⟨n % 64, by omega⟩

abbrev a0 (c : Dev nD) : S32x2048x1024.Idx → EReal := m ((c : Thread nD τ).loc main_arg0)
abbrev a1 (c : Dev nD) : S32x2048x128.Idx → EReal := m ((c : Thread nD τ).loc main_arg1)
abbrev a2 (c : Dev nD) : S64x1024x512.Idx → EReal := m ((c : Thread nD τ).loc main_arg2)
abbrev a3 (c : Dev nD) : S64x256x1024.Idx → EReal := m ((c : Thread nD τ).loc main_arg3)
abbrev a4 (c : Dev nD) : S1024x512.Idx → EReal := m ((c : Thread nD τ).loc main_arg4)
abbrev a5 (c : Dev nD) : S256x1024.Idx → EReal := m ((c : Thread nD τ).loc main_arg5)
abbrev a6 (c : Dev nD) : S32x2048x1024.Idx → EReal := m ((c : Thread nD τ).loc main_arg6)
abbrev a7 (c : Dev nD) : S1024.Idx → EReal := m ((c : Thread nD τ).loc main_arg7)
abbrev a8 (c : Dev nD) : S32x1x1024.Idx → EReal := m ((c : Thread nD τ).loc main_arg8)

/-- The blocks the point's windows hold, read at an index. -/
theorem h_at (c : Dev nD) (t : Fin cfg0.N) (r j : Fin 1024) :
    iblk m c 0 t (ix3 0 r j) = tok (a0 m c) (bat (t.val / 64)) (row (t.val / 64) r) j := by
  have ht : t.val < 4096 := lt_of_lt_of_eq t.isLt N_0
  unfold tok a0 bat row
  blk_point [iblk, V, idx t]

theorem p_at (c : Dev nD) (t : Fin cfg0.N) (r : Fin 1024) :
    iblk m c 1 t (ix3 0 r ⟨t.val % 64, by omega⟩) = weight (a1 m c) (bat (t.val / 64)) (row (t.val / 64) r) (exp64 t.val) := by
  have ht : t.val < 4096 := lt_of_lt_of_eq t.isLt N_0
  unfold weight a1 bat row exp64
  blk_point [iblk, V, idx t]

theorem w_at (c : Dev nD) (t : Fin cfg0.N) (j : Fin 1024) (k : Fin 512) :
    iblk m c 2 t (ix3 0 j k) = up (a2 m c) (exp64 t.val) j k := by
  unfold up a2 exp64
  blk_point [iblk, V, idx t]

theorem d_at (c : Dev nD) (t : Fin cfg0.N) (k : Fin 256) (l : Fin 1024) :
    iblk m c 3 t (ix3 0 k l) = down (a3 m c) (exp64 t.val) k l := by
  unfold down a3 exp64
  blk_point [iblk, V, idx t]

theorem sw_at (c : Dev nD) (t : Fin cfg0.N) (j : Fin 1024) (k : Fin 512) : iblk m c 4 t (ix2 j k) = sup (a4 m c) j k := by
  unfold sup a4
  blk_point [iblk, V, idx t]

theorem sd_at (c : Dev nD) (t : Fin cfg0.N) (k : Fin 256) (l : Fin 1024) : iblk m c 5 t (ix2 k l) = sdown (a5 m c) k l := by
  unfold sdown a5
  blk_point [iblk, V, idx t]

theorem x_at (c : Dev nD) (t : Fin cfg0.N) (r l : Fin 1024) :
    iblk m c 6 t (ix3 0 r l) = a6 m c (ix3 (bat (t.val / 64)) (row (t.val / 64) r) l) := by
  have ht : t.val < 4096 := lt_of_lt_of_eq t.isLt N_0
  unfold a6 bat row
  blk_point [iblk, V, idx t]

theorem g_entry (c : Dev nD) : V m c main_v0 = shapeCast S1x1024 (m ((c : Thread nD τ).loc main_arg7)) shapeCasts_S1024_S1x1024 := by
  entry_read
  rfl

theorem g_at (c : Dev nD) (t : Fin cfg0.N) (l : Fin 1024) : iblk m c 7 t (ix2 0 l) = a7 m c (ix1 l) := by
  have e : iblk m c 7 t (ix2 0 l) = V m c main_v0 (ix2 0 l) := by
    blk_point [iblk, idx t]
  rw [e, g_entry]
  pointwise []

theorem s_at (c : Dev nD) (t : Fin cfg0.N) (l : Fin 1024) :
    iblk m c 8 t (ix3 0 0 l) = a8 m c (ix3 (bat (t.val / 64)) 0 l) := by
  have ht : t.val < 4096 := lt_of_lt_of_eq t.isLt N_0
  unfold a8 bat
  blk_point [iblk, V, idx t]

end Cert.MoeIdeal.Body

end
-- ==== Proof.MoeArray.lean ====
/- The experts' kernel's result array after its run, at every index: the closing step over the mixture of the shared expert and
   the 64 routed experts' weighted rows, which the grid's last axis accumulates one expert at a time. -/
module

public import proofs.«01_k».proof.Proof.MoeBlocks

@[expose] public section

set_option maxRecDepth 16384

noncomputable section

namespace Cert.MoeIdeal.Body

open Cert.MoeIdeal Cert.MoeIdeal.Gen Idealize.ShloMosaic Idealize.ShloMosaic.TcCoe Idealize.SL.Sem
open Idealize.ShloMosaic.Pipeline (Dat)
open Cert.Experts Cert.MoeReferenceIdeal.MoeRead

variable (m : (ℓ : Loc nD τ sig) → Buf (Elt Ideal) ℓ)

/-- The shared expert's row of run `p`, and the routed row point `n` adds. -/
def start (c : Dev nD) (r l : Fin 1024) (p : Nat) : EReal :=
  expert (tok (a0 m c) (bat p) (row p r)) (sup (a4 m c)) (sdown (a5 m c)) l

def term (c : Dev nD) (r l : Fin 1024) (n : Nat) : EReal :=
  weighted (tok (a0 m c) (bat (n / 64)) (row (n / 64) r)) (weight (a1 m c) (bat (n / 64)) (row (n / 64) r) (exp64 n))
    (up (a2 m c) (exp64 n)) (down (a3 m c) (exp64 n)) l

theorem start_at (c : Dev nD) (t : Fin cfg0.N) (r l : Fin 1024) :
    k0_pay4 (F := Ideal) (iblk m c 0 t) (iblk m c 4 t) (iblk m c 5 t) (ix2 r l) = start m c r l (t.val / 64) := by
  rw [shared_at]
  unfold start
  simp only [h_at, sw_at, sd_at]

theorem term_at (c : Dev nD) (t : Fin cfg0.N) (acc : S1024x1024.Idx → EReal) (r l : Fin 1024) :
    k0_pay5 (F := Ideal) (grid0.coords t) (iblk m c 0 t) (iblk m c 1 t) (iblk m c 2 t) acc (iblk m c 3 t) (ix2 r l)
      = acc (ix2 r l) + term m c r l t.val := by
  have he : (grid0.coords t 2).val = t.val % 64 := by simp only [idx t]
  rw [Body.routed_at (grid0.coords t) (exp64 t.val) he]
  unfold term
  have ep := p_at m c t r
  simp only [h_at, w_at, d_at]
  exact congrArg (fun z => acc (ix2 r l) + weighted _ z _ _ l) ep

theorem first (c : Dev nD) (t : Fin cfg0.N) (h : t.val % 64 = 0) (r l : Fin 1024) :
    (outsAt0 m c t.val t.isLt).2 (ix2 r l) = start m c r l (t.val / 64) + term m c r l t.val := by
  rw [outsAt0_A m c t h (by omega)]
  frame_out
  rw [store_at, term_at]
  exact congrArg (· + _) (start_at m c t r l)

/-- At every other point the accumulator grows by the point's row. -/
theorem later (c : Dev nD) (t : Fin cfg0.N) (h : ¬t.val % 64 = 0) (r l : Fin 1024) :
    (outsAt0 m c t.val t.isLt).2 (ix2 r l)
      = (outsAt0 m c (t.val - 1) (Nat.lt_of_le_of_lt (Nat.sub_le _ _) t.isLt)).2 (ix2 r l) + term m c r l t.val := by
  by_cases h1 : t.val % 64 = 63
  · rw [outsAt0_C m c t h h1]
    frame_out
    rw [store_at, term_at]
    exact congrArg (· + _) (congrFun (Memref.IsWhole.read_unread _ _) _)
  · rw [outsAt0_B m c t h h1]
    frame_out
    rw [store_at, term_at]
    exact congrArg (· + _) (congrFun (Memref.IsWhole.read_unread _ _) _)

/-- The mixture of run `p`'s rows. -/
def mix (c : Dev nD) (b : Fin 32) (r : Fin 2048) : Fin 1024 → EReal :=
  mixture (tok (a0 m c) b r) (weight (a1 m c) b r) (up (a2 m c)) (down (a3 m c)) (sup (a4 m c)) (sdown (a5 m c))

/-- After the last point of a run the accumulator holds the mixture. -/
theorem acc_at (c : Dev nD) (t : Fin cfg0.N) (h : t.val % 64 = 63) (r l : Fin 1024) :
    (outsAt0 m c t.val t.isLt).2 (ix2 r l) = mix m c (bat (t.val / 64)) (row (t.val / 64) r) l := by
  rw [run_sum (fun n h => (outsAt0 m c n h).2 (ix2 r l)) (start m c r l) (term m c r l) (fun t h => first m c t h r l)
    (fun t h => later m c t h r l) t.val t.isLt, h, Finset.sum_range]
  refine congrArg (start m c r l (t.val / 64) + ·) (Finset.sum_congr rfl fun e _ => ?_)
  have he : exp64 (64 * (t.val / 64) + e) = e := Fin.ext (by show (64 * (t.val / 64) + (e : Nat)) % 64 = e; omega)
  have hd : (64 * (t.val / 64) + (e : Nat)) / 64 = t.val / 64 := by omega
  unfold term
  rw [he, hd]

/-- What the last point of a run leaves in the output block. -/
theorem out_at (c : Dev nD) (t : Fin cfg0.N) (h : t.val % 64 = 63) (r l : Fin 1024) :
    (outsAt0 m c t.val t.isLt).1 (ix3 0 r l)
      = close (mix m c (bat (t.val / 64)) (row (t.val / 64) r)) (a6 m c (ix3 (bat (t.val / 64)) (row (t.val / 64) r) l))
          (a7 m c (ix1 l)) (a8 m c (ix3 (bat (t.val / 64)) 0 l)) l := by
  have e : (outsAt0 m c t.val t.isLt).1 (ix3 0 r l)
      = k0_pay2 (F := Ideal) (outsAt0 m c t.val t.isLt).2 (iblk m c 7 t) (iblk m c 6 t) (iblk m c 8 t) (ix3 0 r l) := by
    rw [outsAt0_C m c t (by omega) h]
    frame_out
  rw [e, close_at, x_at, g_at, s_at]
  exact congrArg (fun o => close o _ _ _ l) (funext fun j => acc_at m c t h r j)

/-- The layer at one index, as the kernel takes it. -/
def valueAt (x0 : S32x2048x1024.Idx → EReal) (x1 : S32x2048x128.Idx → EReal) (x2 : S64x1024x512.Idx → EReal)
    (x3 : S64x256x1024.Idx → EReal) (x4 : S1024x512.Idx → EReal) (x5 : S256x1024.Idx → EReal) (x6 : S32x2048x1024.Idx → EReal)
    (x7 : S1024.Idx → EReal) (x8 : S32x1x1024.Idx → EReal) (b : Fin 32) (r : Fin 2048) (l : Fin 1024) : EReal :=
  close (mixture (tok x0 b r) (weight x1 b r) (up x2) (down x3) (sup x4) (sdown x5)) (x6 (ix3 b r l)) (x7 (ix1 l)) (x8 (ix3 b 0 l)) l

def value (c : Dev nD) (i : S32x2048x1024.Idx) : EReal :=
  valueAt (a0 m c) (a1 m c) (a2 m c) (a3 m c) (a4 m c) (a5 m c) (a6 m c) (a7 m c) (a8 m c) (i 0) (i 1) (i 2)

theorem point (c : Dev nD) (t : Fin cfg0.N) (h : t.val % 64 = 63) (y : S1x1024x1024.Idx) :
    (outsAt0 m c t.val t.isLt).1 y = value m c (((cfg0.win 9).blk t).view.emb y) := by
  have ht : t.val < 4096 := lt_of_lt_of_eq t.isLt N_0
  obtain ⟨r, l, rfl⟩ : ∃ (r l : Fin 1024), y = ix3 0 r l :=
    ⟨y 1, y 2, funext fun a => Fin.ext (by
      match a with
      | ⟨0, _⟩ => exact Nat.lt_one_iff.mp (y 0).isLt
      | ⟨1, _⟩ => rfl
      | ⟨2, _⟩ => rfl)⟩
  have e : ((cfg0.win 9).blk t).view.emb (ix3 0 r l) = ix3 (bat (t.val / 64)) (row (t.val / 64) r) l := by
    funext a
    apply Fin.ext
    unfold bat row
    match a with
    | ⟨0, _⟩ => blk_simp [idx t] <;> (dsimp only; omega)
    | ⟨1, _⟩ => blk_simp [idx t] <;> omega
    | ⟨2, _⟩ => blk_simp [idx t] <;> omega
  rw [out_at m c t h, e]
  rfl

/-- The result array after the run. -/
theorem final (c : Dev nD) : (dats m 0 c).arrAt 9 (cfgs 0).N = value m c := by
  refine (dats m 0 c).arrAt_eq_of_covers 9 _ (by decide +kernel) fun t hf y => ?_
  blk_simp
  rw [after0_9]
  exact point m c t ((flush0_9 t).mp hf) y

end Cert.MoeIdeal.Body

end
-- ==== Proof.Head.lean ====
/- The attention body's output block as four heads' blocks: one function of a head's queries, keys, values and gain, and the
   statement that the body stores it four times, once per 128 lanes. -/
module

public import proofs.«01_k».proof.Proof.Gen.KernelIdeal.Frame
public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.KernelIdeal.Head

open Cert.KernelIdeal Cert.KernelIdeal.Gen Idealize.ShloMosaic Idealize.ShloMosaic.TcCoe Idealize.SL.Sem

variable {F : FTy → Type} [FloatOps F]

/-- One head's output block from its blocks of queries, keys, values and gain: the first head's payloads at any head's blocks. -/
def head (lv : Vec F S4x64 .f32) (q : Vec F S1x256x128 .bf16) (kc : Vec F S1x256x128 .bf16) (kl : Vec F S1x2048x128 .bf16)
    (vc : Vec F S1x256x128 .bf16) (vl : Vec F S1x2048x128 .bf16) (g : Vec F S1x128 .f32) : FVec F S1x256x128 .bf16 :=
  k0_pay11 (k0_pay9 (k0_pay2 lv) (k0_pay6 q kl) (k0_pay7 q kc kl) (k0_pay8 q kc kl) vc vl)
    (k0_pay10 (k0_pay2 lv) (k0_pay6 q kl) (k0_pay7 q kc kl) (k0_pay8 q kc kl) vc vl) g

/-- The body's four stores are the four heads' blocks. -/
theorem out_eq (x0 : Vec F S4x64 .f32) (x1 : Vec F S1x256x512 .bf16) (x2 : Vec F S1x256x512 .bf16) (x3 : Vec F S1x2048x512 .bf16)
    (x4 : Vec F S1x256x512 .bf16) (x5 : Vec F S1x2048x512 .bf16) (x6 : Vec F S1x512 .f32) :
    out0_7 x0 x1 x2 x3 x4 x5 x6 = View.canon
      [⟨r0_10, head (View.ld x0 r0_0) (View.ld x1 r0_10) (View.ld x2 r0_10) (View.ld x3 r0_11) (View.ld x4 r0_10) (View.ld x5 r0_11) (View.ld x6 r0_12)⟩,
       ⟨r0_7, head (View.ld x0 r0_0) (View.ld x1 r0_7) (View.ld x2 r0_7) (View.ld x3 r0_8) (View.ld x4 r0_7) (View.ld x5 r0_8) (View.ld x6 r0_9)⟩,
       ⟨r0_4, head (View.ld x0 r0_0) (View.ld x1 r0_4) (View.ld x2 r0_4) (View.ld x3 r0_5) (View.ld x4 r0_4) (View.ld x5 r0_5) (View.ld x6 r0_6)⟩,
       ⟨r0_1, head (View.ld x0 r0_0) (View.ld x1 r0_1) (View.ld x2 r0_1) (View.ld x3 r0_2) (View.ld x4 r0_1) (View.ld x5 r0_2) (View.ld x6 r0_3)⟩] := rfl

end Cert.KernelIdeal.Head

end
-- ==== Proof.Math.lean ====
/- The arithmetic of differential attention on the extended reals, free of any program: a row of scores is turned into
   exponentials shifted by the row's maximum, and dividing each by the row's sum agrees with multiplying it by the sum's
   reciprocal when the scores are finite, for then the sum is not zero. -/
module

public import Idealize.ShloMosaic.Lib.Pointwise

@[expose] public section

noncomputable section

namespace Cert.Attn

open Idealize.ShloMosaic

/-- The maximum of a list of scores, as the programs fold it. -/
abbrev top {n : Nat} (s : Fin n → EReal) : EReal := Finset.univ.fold max ⊥ s

/-- A row's unnormalised softmax weight at one key. -/
abbrev wt {n : Nat} (s : Fin n → EReal) (m : EReal) (j : Fin n) : EReal := Ideal.exp (s j - m)

theorem top_eq_sup {n : Nat} (s : Fin n → EReal) : top s = Finset.univ.sup s := rfl

/-- A nonempty row of real scores has a real maximum. -/
theorem top_coe {n : Nat} (s : Fin (n + 1) → ℝ) : ∃ M : ℝ, top (fun j => (s j : EReal)) = (M : EReal) := by
  obtain ⟨j, -, hj⟩ := Finset.exists_mem_eq_sup' (s := (Finset.univ : Finset (Fin (n + 1)))) ⟨0, Finset.mem_univ _⟩
    (fun j => (s j : EReal))
  exact ⟨s j, by rw [top_eq_sup, ← Finset.sup'_eq_sup ⟨0, Finset.mem_univ _⟩, hj]⟩

theorem coe_sum {ι : Type*} (t : Finset ι) (f : ι → ℝ) : (∑ j ∈ t, (f j : EReal)) = ((∑ j ∈ t, f j : ℝ) : EReal) := by
  classical
  induction t using Finset.induction_on with
  | empty => simp
  | insert a t ha ih => rw [Finset.sum_insert ha, Finset.sum_insert ha, ih, EReal.coe_add]

theorem exp_real (x : ℝ) : Ideal.exp (x : EReal) = (Real.exp x : EReal) := rfl

/-- A softmax row's sum over real scores is not zero. -/
theorem total_ne {n : Nat} (s : Fin (n + 1) → EReal) (h : ∃ r : Fin (n + 1) → ℝ, s = fun j => (r j : EReal)) :
    ∑ k, wt s (top s) k ≠ 0 := by
  obtain ⟨r, rfl⟩ := h
  obtain ⟨M, e⟩ := top_coe r
  have wr : ∀ j : Fin (n + 1), wt (fun j => (r j : EReal)) (M : EReal) j = (Real.exp (r j - M) : EReal) := fun j => by
    show Ideal.exp ((r j : EReal) - (M : EReal)) = _
    rw [← EReal.coe_sub, exp_real]
  rw [e]
  simp only [wr, coe_sum]
  exact_mod_cast ne_of_gt (Finset.sum_pos (fun k _ => Real.exp_pos (r k - M)) ⟨0, Finset.mem_univ _⟩)

/-- A quotient by a nonzero divisor is the product with its reciprocal. -/
theorem div_eq_mul (x y : EReal) (h : y ≠ 0) : Ideal.div x y = x * Ideal.div 1 y := by
  unfold Ideal.div
  rw [if_neg h, if_neg h, one_mul]

/-- A sum over `a + b` keys is the sum over the first `a` and the sum over the last `b`. -/
theorem sum_split (a b c : Nat) (h : a + b = c) (f : Fin c → EReal) :
    ∑ j, f j = (∑ j : Fin a, f ⟨j, by omega⟩) + ∑ j : Fin b, f ⟨a + j, by omega⟩ := by
  subst h
  exact Fin.sum_univ_add f

/-- The maximum over `a + b` keys is the greater of the two parts' maxima. -/
theorem top_split (a b c : Nat) (h : a + b = c) (f : Fin c → EReal) :
    top f = max (top fun j : Fin a => f ⟨j, by omega⟩) (top fun j : Fin b => f ⟨a + j, by omega⟩) := by
  subst h
  simp only [top_eq_sup]
  refine le_antisymm (Finset.sup_le fun j _ => ?_) (max_le (Finset.sup_le fun j _ => ?_) (Finset.sup_le fun j _ => ?_))
  · by_cases hj : (j : Nat) < a
    · exact le_max_of_le_left (Finset.le_sup (f := fun j : Fin a => f ⟨j, by omega⟩) (Finset.mem_univ ⟨(j : Nat), hj⟩))
    · refine le_max_of_le_right (le_trans (le_of_eq ?_)
        (Finset.le_sup (f := fun j : Fin b => f ⟨a + j, by omega⟩) (Finset.mem_univ ⟨(j : Nat) - a, by omega⟩)))
      exact congrArg f (Fin.ext (by show (j : Nat) = a + (j - a); omega))
  · exact Finset.le_sup (f := f) (Finset.mem_univ _)
  · exact Finset.le_sup (f := f) (Finset.mem_univ _)

/-! ## One row of the layer, from its queries, keys and values -/

/-- A component's score of one query row against key `j`: the product over that component's 64 lanes of the head. -/
def score (c : Fin 2) (q : Fin 128 → EReal) (K : Fin 2304 → Fin 128 → EReal) (j : Fin 2304) : EReal :=
  ∑ x : Fin 64, q ⟨c * 64 + x, by omega⟩ * K j ⟨c * 64 + x, by omega⟩

/-- The difference of the two components as the kernel takes it: each weight times the reciprocal of its row's sum, the second
    component's reciprocal first multiplied by the mixing factor. -/
def mixed (lam : EReal) (q : Fin 128 → EReal) (K V : Fin 2304 → Fin 128 → EReal) (d : Fin 128) : EReal :=
  ∑ j, (wt (score 0 q K) (top (score 0 q K)) j * Ideal.div 1 (∑ k, wt (score 0 q K) (top (score 0 q K)) k)
    - wt (score 1 q K) (top (score 1 q K)) j * (Ideal.div 1 (∑ k, wt (score 1 q K) (top (score 1 q K)) k) * lam)) * V j d

/-- The same difference of the normalised weights. -/
def mixedRef (lam : EReal) (q : Fin 128 → EReal) (K V : Fin 2304 → Fin 128 → EReal) (d : Fin 128) : EReal :=
  ∑ j, V j d * (Ideal.div (wt (score 0 q K) (top (score 0 q K)) j) (∑ k, wt (score 0 q K) (top (score 0 q K)) k)
    - lam * Ideal.div (wt (score 1 q K) (top (score 1 q K)) j) (∑ k, wt (score 1 q K) (top (score 1 q K)) k))

/-- The mixing factor from the four rows of learned vectors. -/
def lamOf (lv : Fin 4 → Fin 64 → EReal) : EReal :=
  Ideal.exp (∑ x, lv 0 x * lv 1 x) - Ideal.exp (∑ x, lv 2 x * lv 3 x) + Ideal.ofBits .f32 0x3E4CCCCD#32

/-- The head's root-mean-square normalisation, gain and closing factor. -/
def finish (o : Fin 128 → EReal) (g : EReal) (d : Fin 128) : EReal :=
  o d * Ideal.rsqrt (Ideal.div (∑ x, o x * o x) (Ideal.ofBits .f32 0x43000000#32) + Ideal.ofBits .f32 0x358637BD#32) * g
    * Ideal.ofBits .f32 0x3F4CCCCD#32

/-- An extended real that is a real number. -/
def Real1 (x : EReal) : Prop := ∃ r : ℝ, x = (r : EReal)

theorem Real1.mul {x y : EReal} (hx : Real1 x) (hy : Real1 y) : Real1 (x * y) := by
  obtain ⟨a, rfl⟩ := hx
  obtain ⟨b, rfl⟩ := hy
  exact ⟨a * b, (EReal.coe_mul a b).symm⟩

theorem Real1.sum {n : Nat} {f : Fin n → EReal} (h : ∀ j, Real1 (f j)) : Real1 (∑ j, f j) := by
  choose r hr using h
  exact ⟨∑ j, r j, by rw [← coe_sum]; exact Finset.sum_congr rfl fun j _ => hr j⟩

theorem Real1.fn {n : Nat} {f : Fin n → EReal} (h : ∀ j, Real1 (f j)) : ∃ r : Fin n → ℝ, f = fun j => (r j : EReal) := by
  choose r hr using h
  exact ⟨r, funext hr⟩

theorem score_real {c : Fin 2} {q : Fin 128 → EReal} {K : Fin 2304 → Fin 128 → EReal} (hq : ∀ e, Real1 (q e))
    (hK : ∀ j e, Real1 (K j e)) (j : Fin 2304) : Real1 (score c q K j) :=
  Real1.sum fun _ => (hq _).mul (hK _ _)

/-- Over real queries and keys the two ways of normalising give the same head row. -/
theorem mixedRef_eq {lam : EReal} {q : Fin 128 → EReal} {K V : Fin 2304 → Fin 128 → EReal}
    (hq : ∀ e, Real1 (q e)) (hK : ∀ j e, Real1 (K j e)) : mixedRef lam q K V = mixed lam q K V := by
  funext d
  unfold mixedRef mixed
  refine Finset.sum_congr rfl fun j _ => ?_
  rw [div_eq_mul _ _ (total_ne (score 0 q K) (Real1.fn (score_real hq hK))),
    div_eq_mul _ _ (total_ne (score 1 q K) (Real1.fn (score_real hq hK))), mul_comm (V j d)]
  congr 2
  rw [mul_comm lam, mul_assoc]

/-- The float pattern of minus infinity is the least extended real. -/
theorem negInf : Ideal.ofBits .f32 0xFF800000#32 = ⊥ := by
  simp [Ideal.ofBits, Ideal.ieee]

/-- The float pattern of plus infinity is the greatest extended real. -/
theorem posInf : Ideal.ofBits .f32 0x7F800000#32 = ⊤ := by
  simp [Ideal.ofBits, Ideal.ieee]

end Cert.Attn

end
-- ==== Proof.HeadValue.lean ====
/- One head's output block read at one index: the row of `mixed` over the block's own queries, keys and values, normalised and
   scaled by `finish`. -/
module

public import proofs.«01_k».proof.Proof.Head
public import proofs.«01_k».proof.Proof.Math

@[expose] public section

set_option maxRecDepth 16384

noncomputable section

namespace Cert.KernelIdeal.Head

open Cert.KernelIdeal Cert.KernelIdeal.Gen Idealize.ShloMosaic Idealize.ShloMosaic.TcCoe Idealize.SL.Sem
open Cert.Attn

theorem lane_lt : ∀ e : Fin 128, IntOp.cmpi .slt (BitVec.ofNat 32 e) 64#32 = if (e : Nat) < 64 then 1#1 else 0#1 := by decide +kernel

/-- Selecting by the lane's half. -/
theorem select_lane (e : Fin 128) (x y : EReal) :
    Scalar.select (IntOp.cmpi .slt (BitVec.ofNat 32 e) 64#32) x y = if (e : Nat) < 64 then x else y := by
  rw [lane_lt]
  by_cases h : (e : Nat) < 64
  · rw [if_pos h, if_pos h]; rfl
  · rw [if_neg h, if_neg h]; rfl

/-- The masked queries' product over 128 lanes is the first component's over its 64. -/
theorem mask_lo (q k : Fin 128 → EReal) :
    (∑ e : Fin 128, (if (e : Nat) < 64 then q e else 0) * k e)
      = ∑ x : Fin 64, q ⟨(0 : Fin 2) * 64 + x, by omega⟩ * k ⟨(0 : Fin 2) * 64 + x, by omega⟩ := by
  rw [sum_split 64 64 128 rfl]
  have hz : ∀ x : Fin 64, (if 64 + (x : Nat) < 64 then q ⟨64 + x, by omega⟩ else 0) * k ⟨64 + x, by omega⟩ = 0 := fun x => by
    rw [if_neg (by omega), zero_mul]
  simp only [hz, Finset.sum_const_zero, add_zero]
  refine Finset.sum_congr rfl fun x _ => ?_
  rw [if_pos x.isLt]
  have e : ∀ p, (⟨(0 : Fin 2) * 64 + x, p⟩ : Fin 128) = ⟨x, by omega⟩ := fun _ => Fin.ext (by simp)
  rw [e]

theorem mask_hi (q k : Fin 128 → EReal) :
    (∑ e : Fin 128, (if (e : Nat) < 64 then 0 else q e) * k e)
      = ∑ x : Fin 64, q ⟨(1 : Fin 2) * 64 + x, by omega⟩ * k ⟨(1 : Fin 2) * 64 + x, by omega⟩ := by
  rw [sum_split 64 64 128 rfl]
  have hz : ∀ x : Fin 64, (if (x : Nat) < 64 then 0 else q ⟨x, by omega⟩) * k ⟨x, by omega⟩ = 0 := fun x => by
    rw [if_pos x.isLt, zero_mul]
  simp only [hz, Finset.sum_const_zero, zero_add]
  refine Finset.sum_congr rfl fun x _ => ?_
  rw [if_neg (by omega)]
  have e : ∀ p, (⟨(1 : Fin 2) * 64 + x, p⟩ : Fin 128) = ⟨64 + x, by omega⟩ := fun _ => Fin.ext (by simp)
  rw [e]

/-- The stacked queries: the first 256 rows keep the first component's lanes, the last 256 the second's. -/
theorem q_lo (q : S1x256x128.Idx → EReal) (r : Fin 256) (e : Fin 128) :
    k0_pay4 (F := Ideal) q (ix2 ⟨r, by omega⟩ e) = if (e : Nat) < 64 then q (ix3 0 r e) else 0 := by
  pointwise [k0_pay4, k0_pay3]
  exact select_lane e _ _

theorem q_hi (q : S1x256x128.Idx → EReal) (r : Fin 256) (e : Fin 128) :
    k0_pay4 (F := Ideal) q (ix2 ⟨256 + r, by omega⟩ e) = if (e : Nat) < 64 then 0 else q (ix3 0 r e) := by
  pointwise [k0_pay4, k0_pay3]
  exact select_lane e _ _

/-- The scores of stacked row `R` against the context's keys and the latents'. -/
theorem s_ctx (q k : S1x256x128.Idx → EReal) (R : Fin 512) (j : Fin 256) :
    k0_pay5 (F := Ideal) q k (ix2 R j) = ∑ e : Fin 128, k0_pay4 (F := Ideal) q (ix2 R e) * k (ix3 0 j e) := by
  pointwise [k0_pay5]

theorem s_lat (q : S1x256x128.Idx → EReal) (k : S1x2048x128.Idx → EReal) (R : Fin 512) (j : Fin 2048) :
    k0_pay6 (F := Ideal) q k (ix2 R j) = ∑ e : Fin 128, k0_pay4 (F := Ideal) q (ix2 R e) * k (ix3 0 j e) := by
  pointwise [k0_pay6]

/-- A stacked row's maximum over all its 2304 scores, and the context's scores less it. -/
theorem m_at (q kc : S1x256x128.Idx → EReal) (kl : S1x2048x128.Idx → EReal) (R : Fin 512) (s : Fin 2304 → EReal)
    (hc : ∀ j : Fin 256, k0_pay5 (F := Ideal) q kc (ix2 R j) = s ⟨j, by omega⟩)
    (hl : ∀ j : Fin 2048, k0_pay6 (F := Ideal) q kl (ix2 R j) = s ⟨256 + j, by omega⟩) :
    k0_pay7 (F := Ideal) q kc kl (ix2 R 0) = top s := by
  pointwise [k0_pay7]
  simp only [hc, hl, negInf]
  rw [top_split 256 2048 2304 rfl s]

theorem sm_at (q kc : S1x256x128.Idx → EReal) (kl : S1x2048x128.Idx → EReal) (R : Fin 512) (s : Fin 2304 → EReal)
    (hc : ∀ j : Fin 256, k0_pay5 (F := Ideal) q kc (ix2 R j) = s ⟨j, by omega⟩)
    (hl : ∀ j : Fin 2048, k0_pay6 (F := Ideal) q kl (ix2 R j) = s ⟨256 + j, by omega⟩) (j : Fin 256) :
    k0_pay8 (F := Ideal) q kc kl (ix2 R j) = s ⟨j, by omega⟩ - top s := by
  pointwise [k0_pay8]
  rw [m_at q kc kl R s hc hl, hc]

/-- The weighted sum of values at row `r`, column `d`, from the two stacked rows' scores. -/
theorem o_at (lam : S1x1.Idx → EReal) (sl : S512x2048.Idx → EReal) (mx : S512x1.Idx → EReal) (sc : S512x256.Idx → EReal)
    (vc : S1x256x128.Idx → EReal) (vl : S1x2048x128.Idx → EReal) (r : Fin 256) (d : Fin 128) (s₀ s₁ v : Fin 2304 → EReal)
    (hc₀ : ∀ j : Fin 256, sc (ix2 ⟨r, by omega⟩ j) = s₀ ⟨j, by omega⟩ - top s₀)
    (hl₀ : ∀ j : Fin 2048, sl (ix2 ⟨r, by omega⟩ j) = s₀ ⟨256 + j, by omega⟩) (hm₀ : mx (ix2 ⟨r, by omega⟩ 0) = top s₀)
    (hc₁ : ∀ j : Fin 256, sc (ix2 ⟨256 + r, by omega⟩ j) = s₁ ⟨j, by omega⟩ - top s₁)
    (hl₁ : ∀ j : Fin 2048, sl (ix2 ⟨256 + r, by omega⟩ j) = s₁ ⟨256 + j, by omega⟩) (hm₁ : mx (ix2 ⟨256 + r, by omega⟩ 0) = top s₁)
    (hvc : ∀ j : Fin 256, vc (ix3 0 j d) = v ⟨j, by omega⟩) (hvl : ∀ j : Fin 2048, vl (ix3 0 j d) = v ⟨256 + j, by omega⟩) :
    k0_pay9 (F := Ideal) lam sl mx sc vc vl (ix2 r d)
      = ∑ j, (wt s₀ (top s₀) j * Ideal.div 1 (∑ k, wt s₀ (top s₀) k)
          - wt s₁ (top s₁) j * (Ideal.div 1 (∑ k, wt s₁ (top s₁) k) * lam (ix2 0 0))) * v j := by
  pointwise [k0_pay9]
  simp only [hc₀, hl₀, hm₀, hc₁, hl₁, hm₁, hvc, hvl]
  rw [sum_split 256 2048 2304 rfl fun j => (wt s₀ (top s₀) j * Ideal.div 1 (∑ k, wt s₀ (top s₀) k)
          - wt s₁ (top s₁) j * (Ideal.div 1 (∑ k, wt s₁ (top s₁) k) * lam (ix2 0 0))) * v j,
    sum_split 256 2048 2304 rfl (wt s₀ (top s₀)), sum_split 256 2048 2304 rfl (wt s₁ (top s₁))]

theorem lam_at (lv : S4x64.Idx → EReal) : k0_pay2 (F := Ideal) lv (ix2 0 0) = lamOf fun a x => lv (ix2 a x) := by
  pointwise [k0_pay2]
  rfl

/-- The head's block at row `r`, lane `d`, from one row of queries and all the head's keys and values. -/
theorem head_at (lv : S4x64.Idx → EReal) (q kc : S1x256x128.Idx → EReal) (kl : S1x2048x128.Idx → EReal)
    (vc : S1x256x128.Idx → EReal) (vl : S1x2048x128.Idx → EReal) (g : S1x128.Idx → EReal) (r : Fin 256) (d : Fin 128)
    (Q : Fin 128 → EReal) (K V : Fin 2304 → Fin 128 → EReal) (hq : ∀ e, q (ix3 0 r e) = Q e)
    (hkc : ∀ (j : Fin 256) e, kc (ix3 0 j e) = K ⟨j, by omega⟩ e) (hkl : ∀ (j : Fin 2048) e, kl (ix3 0 j e) = K ⟨256 + j, by omega⟩ e)
    (hvc : ∀ (j : Fin 256) e, vc (ix3 0 j e) = V ⟨j, by omega⟩ e) (hvl : ∀ (j : Fin 2048) e, vl (ix3 0 j e) = V ⟨256 + j, by omega⟩ e) :
    head (F := Ideal) lv q kc kl vc vl g (ix3 0 r d) = finish (mixed (lamOf fun a x => lv (ix2 a x)) Q K V) (g (ix2 0 d)) d := by
  have c0 : ∀ j : Fin 256, k0_pay5 (F := Ideal) q kc (ix2 ⟨r, by omega⟩ j) = score 0 Q K ⟨j, by omega⟩ := fun j => by
    rw [s_ctx]; simp only [q_lo, hq, hkc]; exact mask_lo Q _
  have l0 : ∀ j : Fin 2048, k0_pay6 (F := Ideal) q kl (ix2 ⟨r, by omega⟩ j) = score 0 Q K ⟨256 + j, by omega⟩ := fun j => by
    rw [s_lat]; simp only [q_lo, hq, hkl]; exact mask_lo Q _
  have c1 : ∀ j : Fin 256, k0_pay5 (F := Ideal) q kc (ix2 ⟨256 + r, by omega⟩ j) = score 1 Q K ⟨j, by omega⟩ := fun j => by
    rw [s_ctx]; simp only [q_hi, hq, hkc]; exact mask_hi Q _
  have l1 : ∀ j : Fin 2048, k0_pay6 (F := Ideal) q kl (ix2 ⟨256 + r, by omega⟩ j) = score 1 Q K ⟨256 + j, by omega⟩ := fun j => by
    rw [s_lat]; simp only [q_hi, hq, hkl]; exact mask_hi Q _
  have o : ∀ x, k0_pay9 (F := Ideal) (k0_pay2 lv) (k0_pay6 q kl) (k0_pay7 q kc kl) (k0_pay8 q kc kl) vc vl (ix2 r x)
      = mixed (lamOf fun a x => lv (ix2 a x)) Q K V x := fun x => by
    rw [o_at (k0_pay2 (F := Ideal) lv) (k0_pay6 (F := Ideal) q kl) (k0_pay7 (F := Ideal) q kc kl) (k0_pay8 (F := Ideal) q kc kl) vc vl r x
      (score 0 Q K) (score 1 Q K) (fun j => V j x) (sm_at q kc kl _ _ c0 l0) l0 (m_at q kc kl _ _ c0 l0) (sm_at q kc kl _ _ c1 l1) l1
      (m_at q kc kl _ _ c1 l1) (fun j => hvc j x) (fun j => hvl j x), lam_at]
    rfl
  pointwise [head, k0_pay11, k0_pay10]
  simp only [o]
  rfl

end Cert.KernelIdeal.Head

end
-- ==== Proof.AttnRef.lean ====
/- The reference's result read at one index: the head's row of `mixedRef`, normalised and scaled by `finish`. -/
module

public import proofs.«01_k».proof.Proof.Gen.ReferenceIdeal.Read
public import Idealize.ShloMosaic.Lib.Pointwise
public import Idealize.ShloMosaic.Lib.KernelVsHost
public import proofs.«01_k».proof.Proof.Math

@[expose] public section

set_option maxRecDepth 16384

noncomputable section

namespace Cert.ReferenceIdeal.AttnRead

open Cert.ReferenceIdeal Cert.ReferenceIdeal.Gen Cert.ReferenceIdeal.Read Idealize.ShloMosaic Idealize.ShloMosaic.TcCoe Idealize.SL.Sem
open Cert.Attn

variable (x0 : FVec Ideal S4x64 .f32) (x1 x2 : FVec Ideal S32x2048x512 .bf16) (x3 : FVec Ideal S32x2048x1536 .bf16)
  (x4 : FVec Ideal S32x256x1536 .bf16) (x5 : FVec Ideal S512 .f32)

/-- One head's query row. -/
def qRow (b : Fin 32) (r : Fin 2048) (h : Fin 4) (e : Fin 128) : EReal := x1 (ix3 b r ⟨h * 128 + e, by omega⟩)

/-- One head's keys: the context's 256, then the latents' 2048. -/
def keys (b : Fin 32) (h : Fin 4) (j : Fin 2304) (e : Fin 128) : EReal :=
  if hj : (j : Nat) < 256 then x4 (ix3 b ⟨j, hj⟩ ⟨h * 128 + e, by omega⟩) else x2 (ix3 b ⟨j - 256, by omega⟩ ⟨h * 128 + e, by omega⟩)

/-- One head's values: the context's from its second 512 columns, the latents' from their first. -/
def vals (b : Fin 32) (h : Fin 4) (j : Fin 2304) (e : Fin 128) : EReal :=
  if hj : (j : Nat) < 256 then x4 (ix3 b ⟨j, hj⟩ ⟨512 + (h * 128 + e), by omega⟩) else x3 (ix3 b ⟨j - 256, by omega⟩ ⟨h * 128 + e, by omega⟩)

theorem s_at (b : Fin 32) (h : Fin 4) (c : Fin 2) (r : Fin 2048) (j : Fin 2304) :
    val_main_v30 (F := Ideal) x1 x2 x4 (ix5 b h c r j) = score c (qRow x1 b r h) (keys x2 x4 b h) j := by
  pointwise [val_main_v30, val_main_v8, val_main_v7, val_main_v6, val_main_v5, val_main_v4, val_main_v3, val_main_v1, val_main_v0]
  unfold score qRow keys
  refine Finset.sum_congr rfl fun x _ => ?_
  have e : ∀ (p : (h : Nat) * 128 + c * 64 + x < 512) (p' : (h : Nat) * 128 + (c * 64 + x) < 512),
      (⟨h * 128 + c * 64 + x, p⟩ : Fin 512) = ⟨h * 128 + (c * 64 + x), p'⟩ := fun _ _ => Fin.ext (Nat.add_assoc _ _ _)
  have e' : ∀ (p : (h : Nat) * 128 + c * 64 + x < 1536) (p' : (h : Nat) * 128 + (c * 64 + x) < 1536),
      (⟨h * 128 + c * 64 + x, p⟩ : Fin 1536) = ⟨h * 128 + (c * 64 + x), p'⟩ := fun _ _ => Fin.ext (Nat.add_assoc _ _ _)
  simp only [Nat.add_assoc]

theorem red_v31 : S32x4x2x2048x2304.Reduces [4] S32x4x2x2048 := by decide

theorem mx_at (b : Fin 32) (h : Fin 4) (c : Fin 2) (r : Fin 2048) :
    val_main_v33 (F := Ideal) x1 x2 x4 (ix4 b h c r) = top fun j => val_main_v30 (F := Ideal) x1 x2 x4 (ix5 b h c r j) := by
  rw [val_main_v33_apply, val_main_v32_apply, val_main_cst_3_apply]
  unfold val_main_v31 val_main_cst_2
  generalize val_main_v30 (F := Ideal) x1 x2 x4 = y
  have e := congrFun (hostReduce_maximumf_eq_multiReduction (F := Ideal) (φ := .f32) (u := S_) y 0xFF800000#32
    reducesTo_S32x4x2x2048x2304_S32x4x2x2048_d4 h_S_ red_v31 (.inl rfl) rfl) (ix4 b h c r)
  refine (congrArg (fun z => max (Ideal.ofBits .f32 0xFF800000#32) z)
    (e.trans (Ideal.multiReduction_maximumf_single (φ := .f32) y 0xFF800000#32 red_v31 (.inl rfl) rfl (ix4 b h c r)))).trans ?_
  show max (Ideal.ofBits .f32 0xFF800000#32) (Finset.univ.fold max (Ideal.ofBits .f32 0xFF800000#32) _) = _
  rw [negInf, max_eq_right bot_le]
  refine congrArg (Finset.univ.fold max ⊥) (funext fun j => ?_)
  exact congrArg y (funext fun a => Fin.ext (by match a with | ⟨0, _⟩ => rfl | ⟨1, _⟩ => rfl | ⟨2, _⟩ => rfl | ⟨3, _⟩ => rfl | ⟨4, _⟩ => rfl))

theorem p_at (b : Fin 32) (h : Fin 4) (c : Fin 2) (r : Fin 2048) (j : Fin 2304) :
    val_main_v41 (F := Ideal) x1 x2 x4 (ix5 b h c r j)
      = Ideal.div (wt (score c (qRow x1 b r h) (keys x2 x4 b h)) (top (score c (qRow x1 b r h) (keys x2 x4 b h))) j)
          (∑ k, wt (score c (qRow x1 b r h) (keys x2 x4 b h)) (top (score c (qRow x1 b r h) (keys x2 x4 b h))) k) := by
  pointwise [val_main_v41, val_main_v40, val_main_v39, val_main_v38, val_main_v37, val_main_v36, val_main_v35, val_main_v34, val_main_cst_4]
  simp only [mx_at, s_at]

theorem v_at (b : Fin 32) (j : Fin 2304) (h : Fin 4) (d : Fin 128) :
    val_main_v13 (F := Ideal) x3 x4 (ix4 b j h d) = vals x3 x4 b h j d := by
  pointwise [val_main_v13, val_main_v12, val_main_v11, val_main_v10, val_main_v9, val_main_v3, val_main_v2]
  rfl

theorem lam_at (i : S_.Idx) : val_main_v29 (F := Ideal) x0 i = lamOf fun a x => x0 (ix2 a x) := by
  pointwise [val_main_v29, val_main_v28, val_main_v27, val_main_v26, val_main_v25, val_main_v24, val_main_v23, val_main_v22, val_main_v21, val_main_v20, val_main_v19, val_main_v18, val_main_v17, val_main_v16, val_main_v15, val_main_v14, val_main_cst, val_main_cst_0, val_main_cst_1]
  rfl

theorem a_at (b : Fin 32) (h : Fin 4) (r : Fin 2048) (j : Fin 2304) :
    val_main_v48 (F := Ideal) x0 x1 x2 x4 (ix4 b h r j)
      = val_main_v41 (F := Ideal) x1 x2 x4 (ix5 b h 0 r j)
        - lamOf (fun a x => x0 (ix2 a x)) * val_main_v41 (F := Ideal) x1 x2 x4 (ix5 b h 1 r j) := by
  rw [val_main_v48_apply, val_main_v47_apply, val_main_v46_apply, val_main_v45_apply, val_main_v44_apply, val_main_v43_apply,
    val_main_v42_apply, lam_at]
  have hh := b.isLt
  have e0 : idx_main_v42 (idx_main_v43 (ix4 b h r j)) = ix5 b h 0 r j := funext fun a => Fin.ext (by
    match a with
    | ⟨0, _⟩ => show ((((b : Nat) * 4 + h) * 2048 + r) * 2304 + j) / 18874368 = b; omega
    | ⟨1, _⟩ => show ((((b : Nat) * 4 + h) * 2048 + r) * 2304 + j) / 4718592 % 4 = h; omega
    | ⟨2, _⟩ => rfl
    | ⟨3, _⟩ => show ((((b : Nat) * 4 + h) * 2048 + r) * 2304 + j) / 2304 % 2048 = r; omega
    | ⟨4, _⟩ => show ((((b : Nat) * 4 + h) * 2048 + r) * 2304 + j) % 2304 = j; omega)
  have e1 : idx_main_v44 (idx_main_v45 (ix4 b h r j)) = ix5 b h 1 r j := funext fun a => Fin.ext (by
    match a with
    | ⟨0, _⟩ => show ((((b : Nat) * 4 + h) * 2048 + r) * 2304 + j) / 18874368 = b; omega
    | ⟨1, _⟩ => show ((((b : Nat) * 4 + h) * 2048 + r) * 2304 + j) / 4718592 % 4 = h; omega
    | ⟨2, _⟩ => rfl
    | ⟨3, _⟩ => show ((((b : Nat) * 4 + h) * 2048 + r) * 2304 + j) / 2304 % 2048 = r; omega
    | ⟨4, _⟩ => show ((((b : Nat) * 4 + h) * 2048 + r) * 2304 + j) % 2304 = j; omega)
  rw [e0, e1]
  rfl

theorem o_at (b : Fin 32) (r : Fin 2048) (h : Fin 4) (d : Fin 128) :
    val_main_v50 (F := Ideal) x0 x1 x2 x3 x4 (ix4 b r h d)
      = mixedRef (lamOf fun a x => x0 (ix2 a x)) (qRow x1 b r h) (keys x2 x4 b h) (vals x3 x4 b h) d := by
  rw [val_main_v50_apply, val_main_v49_apply]
  refine Finset.sum_congr rfl fun j _ => ?_
  have el : lidx_main_v49 (idx_main_v50 (ix4 b r h d)) j = ix4 b j h d := funext fun a => Fin.ext (by
    match a with | ⟨0, _⟩ => rfl | ⟨1, _⟩ => rfl | ⟨2, _⟩ => rfl | ⟨3, _⟩ => rfl)
  have er : ridx_main_v49 (idx_main_v50 (ix4 b r h d)) j = ix4 b h r j := funext fun a => Fin.ext (by
    match a with | ⟨0, _⟩ => rfl | ⟨1, _⟩ => rfl | ⟨2, _⟩ => rfl | ⟨3, _⟩ => rfl)
  rw [el, er, v_at, a_at, p_at, p_at]

/-- The reference's result at batch `b`, row `r`, lane `l`. -/
theorem out_at (b : Fin 32) (r : Fin 2048) (l : Fin 512) :
    val_main_v67 (F := Ideal) x0 x1 x2 x3 x4 x5 (ix3 b r l)
      = finish (mixedRef (lamOf fun a x => x0 (ix2 a x)) (qRow x1 b r ⟨l / 128, by omega⟩) (keys x2 x4 b ⟨l / 128, by omega⟩)
          (vals x3 x4 b ⟨l / 128, by omega⟩)) (x5 (ix1 l)) ⟨l % 128, by omega⟩ := by
  pointwise [val_main_v67, val_main_v66, val_main_v65, val_main_v64, val_main_v63, val_main_v62, val_main_v61, val_main_v60, val_main_v59, val_main_v58, val_main_v57, val_main_v56, val_main_v55, val_main_v54, val_main_v53, val_main_v52, val_main_v51, val_main_cst_5, val_main_cst_6, val_main_cst_7, val_main_cst_8]
  simp only [o_at]
  rfl

end Cert.ReferenceIdeal.AttnRead

end
-- ==== Proof.Array.lean ====
/- The kernel's result array after its run, at every index: the row of `mixed` normalised and scaled by `finish`. -/
module

public import proofs.«01_k».proof.Proof.HeadValue
public import proofs.«01_k».proof.Proof.AttnRef

@[expose] public section

set_option maxRecDepth 16384

noncomputable section

namespace Cert.KernelIdeal.Head

open Cert.KernelIdeal Cert.KernelIdeal.Gen Idealize.ShloMosaic Idealize.ShloMosaic.TcCoe Idealize.SL.Sem
open Idealize.ShloMosaic.Pipeline (Dat)
open Cert.Attn Cert.ReferenceIdeal.AttnRead

/-- The layer at batch `b`, row `r`, lane `l`, as the kernel takes it. -/
def valueAt (x0 : S4x64.Idx → EReal) (x1 x2 : S32x2048x512.Idx → EReal) (x3 : S32x2048x1536.Idx → EReal)
    (x4 : S32x256x1536.Idx → EReal) (x5 : S512.Idx → EReal) (b : Fin 32) (r : Fin 2048) (l : Fin 512) : EReal :=
  finish (mixed (lamOf fun a x => x0 (ix2 a x)) (qRow x1 b r ⟨l / 128, by omega⟩) (keys x2 x4 b ⟨l / 128, by omega⟩)
    (vals x3 x4 b ⟨l / 128, by omega⟩)) (x5 (ix1 l)) ⟨l % 128, by omega⟩

theorem keys_ctx (x2 : S32x2048x512.Idx → EReal) (x4 : S32x256x1536.Idx → EReal) (b : Fin 32) (h : Fin 4) (i : Fin 256) (e : Fin 128) :
    keys x2 x4 b h ⟨i, by omega⟩ e = x4 (ix3 b i ⟨h * 128 + e, by omega⟩) := dif_pos i.isLt

theorem keys_lat (x2 : S32x2048x512.Idx → EReal) (x4 : S32x256x1536.Idx → EReal) (b : Fin 32) (h : Fin 4) (i : Fin 2048) (e : Fin 128) :
    keys x2 x4 b h ⟨256 + i, by omega⟩ e = x2 (ix3 b i ⟨h * 128 + e, by omega⟩) := by
  unfold keys
  rw [dif_neg (by simp)]
  exact congrArg (fun z => x2 (ix3 b z _)) (Fin.ext (by simp))

theorem vals_ctx (x3 : S32x2048x1536.Idx → EReal) (x4 : S32x256x1536.Idx → EReal) (b : Fin 32) (h : Fin 4) (i : Fin 256) (e : Fin 128) :
    vals x3 x4 b h ⟨i, by omega⟩ e = x4 (ix3 b i ⟨512 + (h * 128 + e), by omega⟩) := dif_pos i.isLt

theorem vals_lat (x3 : S32x2048x1536.Idx → EReal) (x4 : S32x256x1536.Idx → EReal) (b : Fin 32) (h : Fin 4) (i : Fin 2048) (e : Fin 128) :
    vals x3 x4 b h ⟨256 + i, by omega⟩ e = x3 (ix3 b i ⟨h * 128 + e, by omega⟩) := by
  unfold vals
  rw [dif_neg (by simp)]
  exact congrArg (fun z => x3 (ix3 b z _)) (Fin.ext (by simp))

/-- One head's block is that head's lanes of the layer. -/
theorem head_value (x0 : S4x64.Idx → EReal) (x1 x2 : S32x2048x512.Idx → EReal) (x3 : S32x2048x1536.Idx → EReal)
    (x4 : S32x256x1536.Idx → EReal) (x5 : S512.Idx → EReal) (lv : S4x64.Idx → EReal) (q kc : S1x256x128.Idx → EReal)
    (kl : S1x2048x128.Idx → EReal) (vc : S1x256x128.Idx → EReal) (vl : S1x2048x128.Idx → EReal) (g : S1x128.Idx → EReal)
    (b : Fin 32) (n : Fin 8) (h : Fin 4) (x : S1x256x128.Idx) (j : S32x2048x512.Idx)
    (hj0 : (j 0 : Nat) = b) (hj1 : (j 1 : Nat) = n * 256 + x 1) (hj2 : (j 2 : Nat) = h * 128 + x 2)
    (hlv : ∀ a e, lv (ix2 a e) = x0 (ix2 a e))
    (hq : ∀ (r : Fin 256) (e : Fin 128), q (ix3 0 r e) = x1 (ix3 b ⟨n * 256 + r, by omega⟩ ⟨h * 128 + e, by omega⟩))
    (hkc : ∀ (r : Fin 256) (e : Fin 128), kc (ix3 0 r e) = x4 (ix3 b ⟨r, by omega⟩ ⟨h * 128 + e, by omega⟩))
    (hkl : ∀ (r : Fin 2048) (e : Fin 128), kl (ix3 0 r e) = x2 (ix3 b r ⟨h * 128 + e, by omega⟩))
    (hvc : ∀ (r : Fin 256) (e : Fin 128), vc (ix3 0 r e) = x4 (ix3 b ⟨r, by omega⟩ ⟨512 + (h * 128 + e), by omega⟩))
    (hvl : ∀ (r : Fin 2048) (e : Fin 128), vl (ix3 0 r e) = x3 (ix3 b r ⟨h * 128 + e, by omega⟩))
    (hg : ∀ e : Fin 128, g (ix2 0 e) = x5 (ix1 ⟨h * 128 + e, by omega⟩)) :
    head (F := Ideal) lv q kc kl vc vl g x = valueAt x0 x1 x2 x3 x4 x5 (j 0) (j 1) (j 2) := by
  obtain ⟨r, d, rfl⟩ : ∃ (r : Fin 256) (d : Fin 128), x = ix3 0 r d :=
    ⟨x 1, x 2, funext fun a => Fin.ext (by
      match a with
      | ⟨0, _⟩ => exact Nat.lt_one_iff.mp (x 0).isLt
      | ⟨1, _⟩ => rfl
      | ⟨2, _⟩ => rfl)⟩
  have ej0 : (j 0 : Fin 32) = b := Fin.ext hj0
  have ej1 : (j 1 : Fin 2048) = (⟨n * 256 + r, by omega⟩ : Fin 2048) := Fin.ext hj1
  have ej2 : (j 2 : Fin 512) = (⟨h * 128 + d, by omega⟩ : Fin 512) := Fin.ext hj2
  have hl : (h * 128 + d : Nat) / 128 = h := by omega
  have hd : (h * 128 + d : Nat) % 128 = d := by omega
  have hlv' : (fun (a : Fin 4) (e : Fin 64) => lv (ix2 a e)) = fun a e => x0 (ix2 a e) := funext fun a => funext fun e => hlv a e
  rw [head_at lv q kc kl vc vl g r d (qRow x1 b ⟨n * 256 + r, by omega⟩ h) (keys x2 x4 b h) (vals x3 x4 b h) (fun e => hq r e)
    (fun i e => (hkc i e).trans (keys_ctx x2 x4 b h i e).symm) (fun i e => (hkl i e).trans (keys_lat x2 x4 b h i e).symm)
    (fun i e => (hvc i e).trans (vals_ctx x3 x4 b h i e).symm) (fun i e => (hvl i e).trans (vals_lat x3 x4 b h i e).symm),
    hg, hlv']
  unfold valueAt
  rw [ej0, ej1, ej2]
  have e1 : ∀ p, (⟨(h * 128 + d : Nat) / 128, p⟩ : Fin 4) = h := fun _ => Fin.ext hl
  have e2 : ∀ p, (⟨(h * 128 + d : Nat) % 128, p⟩ : Fin 128) = d := fun _ => Fin.ext hd
  dsimp only
  rw [e1, e2]

variable (m : (ℓ : Loc nD τ sig) → Buf (Elt Ideal) ℓ)

theorem idx : ∀ t : Fin cfg0.N, win0_0.index t = ![0, 0] ∧ win0_1.index t = ![t.val / 8, t.val % 8, 0] ∧ win0_2.index t = ![t.val / 8, 0, 0]
    ∧ win0_3.index t = ![t.val / 8, 0, 0] ∧ win0_4.index t = ![t.val / 8, 0, 1] ∧ win0_5.index t = ![t.val / 8, 0, 0]
    ∧ win0_6.index t = ![0, 0] ∧ win0_7.index t = ![t.val / 8, t.val % 8, 0] :=
  (by decide +kernel : ∀ t : Fin grid0.N, _)

/-- The layer over the program's arguments. -/
def value (c : Dev nD) (i : S32x2048x512.Idx) : EReal :=
  valueAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1) (i 2)

theorem gain_entry (c : Dev nD) : V m c main_v0 = shapeCast S1x512 (m ((c : Thread nD τ).loc main_arg5)) shapeCasts_S512_S1x512 := by
  entry_read
  rfl

theorem gain_at (c : Dev nD) (t : Fin cfg0.N) (k : Fin 512) :
    iblk m c 6 t (ix2 0 k) = m ((c : Thread nD τ).loc main_arg5) (ix1 k) := by
  have e : iblk m c 6 t (ix2 0 k) = V m c main_v0 (ix2 0 k) := by
    blk_point [iblk, idx t]
  rw [e, gain_entry]
  pointwise []

theorem point (c : Dev nD) (t : Fin cfg0.N) (y : S1x256x512.Idx) :
    out0_7 (iblk m c 0 t) (iblk m c 1 t) (iblk m c 2 t) (iblk m c 3 t) (iblk m c 4 t) (iblk m c 5 t) (iblk m c 6 t) y
      = value m c (((cfg0.win 7).blk t).view.emb y) := by
  have ht : t.val < 256 := lt_of_lt_of_eq t.isLt N_0
  rw [out_eq]
  unfold value
  canon_tiles x h
  case piece0 =>
    refine head_value _ _ _ _ _ _ _ _ _ _ _ _ _ ⟨t.val / 8, by omega⟩ ⟨t.val % 8, by omega⟩ 3 x _ ?_ ?_ ?_ ?_ ?_ ?_ ?_ ?_ ?_ ?_
    · blk_simp [idx t] <;> omega
    · blk_simp [idx t] <;> (dsimp only; omega)
    · blk_simp [idx t] <;> omega
    case refine_10 => intro e; pointwise []; exact gain_at m c t _
    all_goals (intros; blk_point [iblk, V, idx t])
  case piece1 =>
    refine head_value _ _ _ _ _ _ _ _ _ _ _ _ _ ⟨t.val / 8, by omega⟩ ⟨t.val % 8, by omega⟩ 2 x _ ?_ ?_ ?_ ?_ ?_ ?_ ?_ ?_ ?_ ?_
    · blk_simp [idx t] <;> omega
    · blk_simp [idx t] <;> (dsimp only; omega)
    · blk_simp [idx t] <;> omega
    case refine_10 => intro e; pointwise []; exact gain_at m c t _
    all_goals (intros; blk_point [iblk, V, idx t])
  case piece2 =>
    refine head_value _ _ _ _ _ _ _ _ _ _ _ _ _ ⟨t.val / 8, by omega⟩ ⟨t.val % 8, by omega⟩ 1 x _ ?_ ?_ ?_ ?_ ?_ ?_ ?_ ?_ ?_ ?_
    · blk_simp [idx t] <;> omega
    · blk_simp [idx t] <;> (dsimp only; omega)
    · blk_simp [idx t] <;> omega
    case refine_10 => intro e; pointwise []; exact gain_at m c t _
    all_goals (intros; blk_point [iblk, V, idx t])
  case piece3 =>
    refine head_value _ _ _ _ _ _ _ _ _ _ _ _ _ ⟨t.val / 8, by omega⟩ ⟨t.val % 8, by omega⟩ 0 x _ ?_ ?_ ?_ ?_ ?_ ?_ ?_ ?_ ?_ ?_
    · blk_simp [idx t] <;> omega
    · blk_simp [idx t] <;> (dsimp only; omega)
    · blk_simp [idx t] <;> omega
    case refine_10 => intro e; pointwise []; exact gain_at m c t _
    all_goals (intros; blk_point [iblk, V, idx t])

/-- The result array after the run. -/
theorem final (c : Dev nD) : (dats m 0 c).arrAt 7 (cfgs 0).N = value m c := by
  refine (dats m 0 c).arrAt_eq_of_covers 7 _ (by decide +kernel) fun t _ y => ?_
  blk_simp
  rw [after0_7]
  exact point m c t y

end Cert.KernelIdeal.Head

end
-- ==== Proof.Gates.lean ====
/- What the preconditions say of the arrays, element by element: the experts' gates are in `[0, ∞)`; the queries and the keys are
   real numbers. -/
module

public import proofs.«01_k».proof.Defs
public import proofs.«01_k».proof.Proof.Math
public import Idealize.ShloMosaic.Lib.Pointwise
public import Idealize.ShloMosaic.Lib.Pointwise.Select

@[expose] public section

set_option maxRecDepth 16384

noncomputable section

namespace Cert.Attn

open Idealize.ShloMosaic Idealize.ShloMosaic.TcCoe Idealize.SL.Sem

theorem and_one {a b : BitVec 1} (h : IntOp.andi a b = 1#1) : a = 1#1 ∧ b = 1#1 := by
  revert a b
  decide

/-- A conjunction over a list that came out true: every entry is true. -/
theorem foldl_and {ι : Type} (f : ι → BitVec 1) : ∀ (l : List ι) (z : BitVec 1),
    l.foldl (fun a i => IntOp.andi a (f i)) z = 1#1 → ∀ i ∈ l, f i = 1#1
  | [], _, _, _, h => absurd h List.not_mem_nil
  | a :: l, z, h, i, hi => by
    have h1 : ∀ (l : List ι) (z : BitVec 1), l.foldl (fun a i => IntOp.andi a (f i)) z = 1#1 → z = 1#1 := by
      intro l
      induction l with
      | nil => exact fun z h => h
      | cons b l ih => exact fun z h => (and_one (ih _ h)).1
    rcases List.mem_cons.mp hi with rfl | hi
    · exact (and_one (h1 l _ h)).2
    · exact foldl_and f l _ h i hi

theorem all_one {s : Shape} {axes : List (Fin s.rank)} (h : s.ReducesTo axes ⟨0, ![]⟩) (hu : 0 < (⟨0, ![]⟩ : Shape).numel)
    (z : IVec ⟨0, ![]⟩ 1) (p : IVec s 1) (e : Host.reduce IntOp.andi p z h hu = fun _ => 1#1) (i : s.Idx) : p i = 1#1 := by
  have e0 := congrFun e (fun a => a.elim0)
  have := foldl_and (fun n => p (s.rowMajor.symm n)) _ _ e0 (s.rowMajor i)
    (List.mem_filter.mpr ⟨List.mem_finRange _, decide_eq_true (funext fun a => a.elim0)⟩)
  rwa [Equiv.symm_apply_apply] at this

/-- Under `gates_real`, every weight of the 64 experts is in `[0, ∞)`. -/
theorem gates_at [Cert.Pre_gates_real.Facts] (x0 : FVec Ideal Cert.Pre_gates_real.S32x2048x1024 .bf16)
    (x1 : FVec Ideal Cert.Pre_gates_real.S32x2048x128 .f32) (x2 : FVec Ideal Cert.Pre_gates_real.S64x1024x512 .bf16)
    (x3 : FVec Ideal Cert.Pre_gates_real.S64x256x1024 .bf16) (x4 : FVec Ideal Cert.Pre_gates_real.S1024x512 .bf16)
    (x5 : FVec Ideal Cert.Pre_gates_real.S256x1024 .bf16) (x6 : FVec Ideal Cert.Pre_gates_real.S32x2048x1024 .f32)
    (x7 : FVec Ideal Cert.Pre_gates_real.S1024 .f32) (x8 : FVec Ideal Cert.Pre_gates_real.S32x1x1024 .f32)
    (h : Cert.Pre_gates_real.fn (F := Ideal) x0 x1 x2 x3 x4 x5 x6 x7 x8 = fun _ => 1#1) (b : Fin 32) (r : Fin 2048) (e : Fin 64) :
    (0 : EReal) ≤ x1 (ix3 b r ⟨e, by omega⟩) ∧ x1 (ix3 b r ⟨e, by omega⟩) ≠ (⊤ : EReal) := by
  obtain ⟨h0, h1⟩ := and_one (all_one _ _ _ _ h (ix3 b r e))
  have key : extractStridedSlice Cert.Pre_gates_real.S32x2048x64 ![0, 0, 0] x1
      Cert.Pre_gates_real.Facts.slices_S32x2048x128_S32x2048x64_0_0_0 (ix3 b r e) = x1 (ix3 b r ⟨e, by omega⟩) := by
    pointwise []
  rw [← key]
  have g0 : (Ideal.ofBits .f32 0x00000000#32 : EReal) ≤ _ := (Ideal.cmp_oge_eq_one _ _).mp h0
  have g1 : _ < (Ideal.ofBits .f32 0x7F800000#32 : EReal) := (Ideal.cmp_olt_eq_one _ _).mp h1
  rw [Ideal.ofBits_zero_f32] at g0
  rw [posInf] at g1
  exact ⟨g0, ne_of_lt g1⟩

/-- An extended real below infinity in absolute value is a real number. -/
theorem real_of_abs_lt {x : EReal} (h : max x (-x) < ⊤) : Real1 x := by
  induction x with
  | bot => simp at h
  | top => simp at h
  | coe r => exact ⟨r, rfl⟩

theorem real_of_lt {s : Shape} (x : s.Idx → EReal) (b : (⟨0, ![]⟩ : Shape).BroadcastsInDim s (![] : Fin 0 → Fin s.rank)) (i : s.Idx)
    (h : cmpf (F := Ideal) (φ := .f32) .olt (Host.absf (F := Ideal) (φ := .f32) x)
      (broadcastInDim s ![] b (constant (F := Ideal) ⟨0, ![]⟩ .f32 0x7F800000#32)) i = 1#1) : Real1 (x i) := by
  have h' : Ideal.cmp .olt (max (x i) (-(x i))) (Ideal.ofBits .f32 0x7F800000#32) = 1 := h
  rw [posInf] at h'
  exact real_of_abs_lt ((Ideal.cmp_olt_eq_one _ _).mp h')

/-- Under `scores_finite`, every query and every key is a real number. -/
theorem scores_real [Cert.Pre_scores_finite.Facts] (x0 : Cert.Pre_scores_finite.S4x64.Idx → EReal)
    (x1 x2 : Cert.Pre_scores_finite.S32x2048x512.Idx → EReal) (x3 : Cert.Pre_scores_finite.S32x2048x1536.Idx → EReal)
    (x4 : Cert.Pre_scores_finite.S32x256x1536.Idx → EReal) (x5 : Cert.Pre_scores_finite.S512.Idx → EReal)
    (h : Cert.Pre_scores_finite.fn (F := Ideal) x0 x1 x2 x3 x4 x5 = fun _ => 1#1) :
    (∀ i, Real1 (x1 i)) ∧ (∀ i, Real1 (x2 i)) ∧ ∀ (b : Fin 32) (j : Fin 256) (e : Fin 512), Real1 (x4 (ix3 b j ⟨e, by omega⟩)) := by
  have e : ∀ {f : IVec ⟨0, ![]⟩ 1}, f (fun a => a.elim0) = 1#1 → f = fun _ => 1#1 := fun hf =>
    funext fun j => by rw [← hf]; exact congrArg _ (funext fun a => a.elim0)
  obtain ⟨h, h2⟩ := and_one (congrFun h (fun a => a.elim0))
  obtain ⟨h0, h1⟩ := and_one h
  refine ⟨fun i => real_of_lt x1 _ i (all_one _ _ _ _ (e h0) i), fun i => real_of_lt x2 _ i (all_one _ _ _ _ (e h1) i), fun b j l => ?_⟩
  have key : extractStridedSlice Cert.Pre_scores_finite.S32x256x512 ![0, 0, 0] x4
      Cert.Pre_scores_finite.Facts.slices_S32x256x1536_S32x256x512_0_0_0 (ix3 b j l) = x4 (ix3 b j ⟨l, by omega⟩) := by
    pointwise []
  have h2' : Ideal.cmp .olt (max (extractStridedSlice Cert.Pre_scores_finite.S32x256x512 ![0, 0, 0] x4
      Cert.Pre_scores_finite.Facts.slices_S32x256x1536_S32x256x512_0_0_0 (ix3 b j l)) (-(extractStridedSlice Cert.Pre_scores_finite.S32x256x512 ![0, 0, 0] x4
      Cert.Pre_scores_finite.Facts.slices_S32x256x1536_S32x256x512_0_0_0 (ix3 b j l)))) (Ideal.ofBits .f32 0x7F800000#32) = 1 :=
    all_one _ _ _ _ (e h2) (ix3 b j l)
  rw [key, posInf] at h2'
  exact real_of_abs_lt ((Ideal.cmp_olt_eq_one _ _).mp h2')

end Cert.Attn

end
-- ==== Proof.Mixer.lean ====
/- The mathematics of the mixers' projections, free of any program: a column of a product convolved along the sequence with three
   taps, rows outside the sequence counting as zero, and the two ways the programs spell it. -/
module

public import Idealize.ShloMosaic.Lib.Pointwise
public import Idealize.ShloMosaic.Lib.Pointwise.Select

@[expose] public section

noncomputable section

namespace Cert.Mixer

open Idealize.ShloMosaic

variable {n : Nat}

/-- The row before `r` of a column of `n` rows, and the row after it; zero outside the sequence. -/
def before (p : Fin n → EReal) (r : Fin n) : EReal := if (r : Nat) = 0 then 0 else p ⟨r - 1, by omega⟩
def after (p : Fin n → EReal) (r : Fin n) : EReal := if h : (r : Nat) + 1 < n then p ⟨r + 1, h⟩ else 0

/-- Three taps and a bias along one column. -/
def conv (p : Fin n → EReal) (w0 w1 w2 b : EReal) (r : Fin n) : EReal :=
  before p r * w0 + p r * w1 + after p r * w2 + b

/-- A row's number equals `k` as a 32-bit integer exactly when it is `k`. -/
theorem row_eq (hn : n ≤ 4096) (k : Nat) (hk : k < 4096) (r : Fin n) :
    IntOp.cmpi CmpIPredicate.eq (BitVec.ofNat 32 r) (BitVec.ofNat 32 k) = if (r : Nat) = k then 1#1 else 0#1 := by
  have e : (BitVec.ofNat 32 r = BitVec.ofNat 32 k) ↔ (r : Nat) = k := by
    rw [← BitVec.toNat_inj, BitVec.toNat_ofNat, BitVec.toNat_ofNat, Nat.mod_eq_of_lt (by omega), Nat.mod_eq_of_lt (by omega)]
  show BitVec.ofBool (BitVec.ofNat 32 r == BitVec.ofNat 32 k) = _
  by_cases h : (r : Nat) = k
  · rw [if_pos h, beq_iff_eq.mpr (e.mpr h)]; rfl
  · rw [if_neg h, beq_eq_false_iff_ne.mpr (fun g => h (e.mp g))]; rfl

/-- The integer zero as a float is zero. -/
theorem zero_float : (FloatOps.sitofp (F := Ideal) .f32 0#32 : EReal) = 0 := by
  show (((0#32).toInt : ℝ) : EReal) = 0
  norm_num

/-- The convolution from rotated columns: the row that wraps around is selected away. `k` is the last row's number. -/
theorem rolled (k : Nat) (hn : n ≤ 4096) (hk : n = k + 1) (p : Fin n → EReal) (w0 w1 w2 b : EReal) (r : Fin n)
    (h0 : ((r : Nat) + n - 1) % n < n) (h2 : ((r : Nat) + n - k) % n < n) :
    Scalar.select (IntOp.cmpi CmpIPredicate.eq (BitVec.ofNat 32 r) (BitVec.ofNat 32 0)) 0 (p ⟨((r : Nat) + n - 1) % n, h0⟩ * w0) + p r * w1
        + Scalar.select (IntOp.cmpi CmpIPredicate.eq (BitVec.ofNat 32 r) (BitVec.ofNat 32 k)) 0 (p ⟨((r : Nat) + n - k) % n, h2⟩ * w2) + b
      = conv p w0 w1 w2 b r := by
  have hr := r.isLt
  unfold conv
  rw [row_eq hn 0 (by omega), row_eq hn k (by omega)]
  have e0 : Scalar.select (if (r : Nat) = 0 then 1#1 else 0#1) 0 (p ⟨((r : Nat) + n - 1) % n, h0⟩ * w0) = before p r * w0 := by
    unfold before
    split
    · exact (zero_mul _).symm
    · rename_i h
      have e : ((r : Nat) + n - 1) % n = r - 1 := by
        rw [show (r : Nat) + n - 1 = (r - 1) + n by omega, Nat.add_mod_right, Nat.mod_eq_of_lt (by omega)]
      exact congrArg (fun z => p z * w0) (Fin.ext e)
  have e2 : Scalar.select (if (r : Nat) = k then 1#1 else 0#1) 0 (p ⟨((r : Nat) + n - k) % n, h2⟩ * w2) = after p r * w2 := by
    unfold after
    split
    · rw [dif_neg (by omega)]
      exact (zero_mul _).symm
    · rename_i h
      rw [dif_pos (by omega)]
      have e : ((r : Nat) + n - k) % n = r + 1 := by
        rw [show (r : Nat) + n - k = r + 1 by omega, Nat.mod_eq_of_lt (by omega)]
      exact congrArg (fun z => p z * w2) (Fin.ext e)
  rw [e0, e2]

/-- The convolution from a column padded with a zero at each end. -/
theorem padded (p : Fin n → EReal) (w0 w1 w2 b : EReal) (r : Fin n) :
    (if h : 1 ≤ (r : Nat) ∧ (r : Nat) - 1 < n then p ⟨(r : Nat) - 1, h.2⟩ else FloatOps.sitofp (F := Ideal) .f32 0#32) * w0 + p r * w1
        + (if h : 1 ≤ 2 + (r : Nat) ∧ 2 + (r : Nat) - 1 < n then p ⟨2 + (r : Nat) - 1, h.2⟩
            else FloatOps.sitofp (F := Ideal) .f32 0#32) * w2 + b
      = conv p w0 w1 w2 b r := by
  unfold conv before after
  rw [zero_float]
  congr 3
  · congr 1
    split <;> rename_i h
    · rw [if_neg (by omega)]
    · rw [if_pos (by omega)]
  · split <;> rename_i h
    · rw [dif_pos (by omega)]
      exact congrArg p (Fin.ext (by dsimp only; omega))
    · rw [dif_neg (by omega)]

end Cert.Mixer

end
-- ==== Proof.HyenaIn.lean ====
/- The Hyena mixer's projection and short convolution: the reference read at an index, the kernel's block, and the kernel's result
   array, all one function of the arguments. -/
module

public import proofs.«01_k».proof.Proof.Gen.HyenaInIdeal.Frame
public import proofs.«01_k».proof.Proof.Gen.HyenaInIdeal.Value
public import proofs.«01_k».proof.Proof.Gen.HyenaInReferenceIdeal.Read
public import proofs.«01_k».proof.Proof.Mixer
public import Idealize.ShloMosaic.Lib.Pointwise
public import Idealize.ShloMosaic.Lib.Pipeline.ValueKit

@[expose] public section

set_option maxRecDepth 16384

noncomputable section

namespace Cert.HyenaInReferenceIdeal.ConvRead

open Cert.HyenaInReferenceIdeal Cert.HyenaInReferenceIdeal.Gen Cert.HyenaInReferenceIdeal.Read Idealize.ShloMosaic Idealize.ShloMosaic.TcCoe Idealize.SL.Sem
open Cert.Mixer

variable (x0 : FVec Ideal S32x2048x1024 .bf16) (x1 : FVec Ideal S1024x3072 .bf16) (x2 : FVec Ideal S3x3072 .f32) (x3 : FVec Ideal S3072 .f32)

/-- One column of one batch's product. -/
def column (b : Fin 32) (l : Fin 3072) (r : Fin 2048) : EReal := ∑ j : Fin 1024, x0 (ix3 b r j) * x1 (ix2 j l)

/-- The call's result at batch `b`, row `r`, column `l`. -/
def valueAt (b : Fin 32) (r : Fin 2048) (l : Fin 3072) : EReal :=
  conv (column x0 x1 b l) (x2 (ix2 0 l)) (x2 (ix2 1 l)) (x2 (ix2 2 l)) (x3 (ix1 l)) r

theorem column_at (b : Fin 32) (r : Fin 2048) (l : Fin 3072) : val_main_v2 (F := Ideal) x0 x1 (ix3 b r l) = column x0 x1 b l r := by
  pointwise [val_main_v2, val_main_v1, val_main_v0]
  rfl

/-- The reference's sum of taps. -/
theorem taps_at (b : Fin 32) (r : Fin 2048) (l : Fin 3072) :
    val_main_v28 (F := Ideal) x0 x1 x2 x3 (ix3 b r l)
      = conv (column x0 x1 b l) (x2 (ix2 0 l)) (x2 (ix2 1 l)) (x2 (ix2 2 l)) (x3 (ix1 l)) r := by
  pointwise [val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst, val_main_call0_v0, val_main_c]
  simp only [column_at]
  exact padded (column x0 x1 b l) _ _ _ _ r

/-- The reference's result is the call's. -/
theorem out_at (b : Fin 32) (r : Fin 2048) (l : Fin 3072) :
    val_main_v29 (F := Ideal) x0 x1 x2 x3 (ix3 b r l) = valueAt x0 x1 x2 x3 b r l := by
  pointwise [val_main_v29]
  exact taps_at x0 x1 x2 x3 b r l

end Cert.HyenaInReferenceIdeal.ConvRead

namespace Cert.HyenaInIdeal.Body

open Cert.HyenaInIdeal Cert.HyenaInIdeal.Gen Idealize.ShloMosaic Idealize.ShloMosaic.TcCoe Idealize.SL.Sem
open Cert.Mixer Cert.HyenaInReferenceIdeal.ConvRead

/-- The body's block at row `r`, column `l`. -/
theorem block_at (h : S1x2048x1024.Idx → EReal) (w : S1024x512.Idx → EReal) (c0 c1 c2 b : S1x512.Idx → EReal) (r : Fin 2048) (l : Fin 512) :
    k0_pay1 (F := Ideal) h w c0 c1 c2 b (ix3 0 r l)
      = conv (fun r => ∑ j : Fin 1024, h (ix3 0 r j) * w (ix2 j l)) (c0 (ix2 0 l)) (c1 (ix2 0 l)) (c2 (ix2 0 l)) (b (ix2 0 l)) r := by
  pointwise [k0_pay1]
  exact rolled 2047 (by decide) rfl (fun r => ∑ j : Fin 1024, h (ix3 0 r j) * w (ix2 j l)) _ _ _ _ r _ _

variable (m : (ℓ : Loc nD τ sig) → Buf (Elt Ideal) ℓ)

theorem idx : ∀ t : Fin cfg0.N, win0_0.index t = ![t.val / 6, 0, 0] ∧ win0_1.index t = ![0, t.val % 6]
    ∧ win0_2.index t = ![0, t.val % 6] ∧ win0_3.index t = ![0, t.val % 6] ∧ win0_4.index t = ![t.val / 6, 0, t.val % 6] :=
  (by decide +kernel : ∀ t : Fin grid0.N, _)

abbrev a0 (c : Dev nD) : S32x2048x1024.Idx → EReal := m ((c : Thread nD τ).loc main_arg0)
abbrev a1 (c : Dev nD) : S1024x3072.Idx → EReal := m ((c : Thread nD τ).loc main_arg1)
abbrev a2 (c : Dev nD) : S3x3072.Idx → EReal := m ((c : Thread nD τ).loc main_arg2)
abbrev a3 (c : Dev nD) : S3072.Idx → EReal := m ((c : Thread nD τ).loc main_arg3)

/-- The batch of a point, and the array's column at column `l` of its block. -/
def bat (n : Nat) : Fin 32 := ⟨n / 6 % 32, by omega⟩
def col (n : Nat) (l : Fin 512) : Fin 3072 := ⟨n % 6 * 512 + l, by omega⟩

theorem h_at (c : Dev nD) (t : Fin cfg0.N) (r : Fin 2048) (j : Fin 1024) : iblk m c 0 t (ix3 0 r j) = a0 m c (ix3 (bat t.val) r j) := by
  have ht : t.val < 192 := lt_of_lt_of_eq t.isLt N_0
  unfold a0 bat
  blk_point [iblk, V, idx t]

theorem w_at (c : Dev nD) (t : Fin cfg0.N) (j : Fin 1024) (l : Fin 512) : iblk m c 1 t (ix2 j l) = a1 m c (ix2 j (col t.val l)) := by
  have ht : t.val < 192 := lt_of_lt_of_eq t.isLt N_0
  unfold a1 col
  blk_point [iblk, V, idx t]

theorem tap_at (c : Dev nD) (t : Fin cfg0.N) (k : Fin 3) (l : Fin 512) : iblk m c 2 t (ix2 k l) = a2 m c (ix2 k (col t.val l)) := by
  have ht : t.val < 192 := lt_of_lt_of_eq t.isLt N_0
  unfold a2 col
  blk_point [iblk, V, idx t]

theorem bias_entry (c : Dev nD) : V m c main_v0 = shapeCast S1x3072 (a3 m c) shapeCasts_S3072_S1x3072 := by
  entry_read
  rfl

theorem bias_at (c : Dev nD) (t : Fin cfg0.N) (l : Fin 512) : iblk m c 3 t (ix2 0 l) = a3 m c (ix1 (col t.val l)) := by
  have ht : t.val < 192 := lt_of_lt_of_eq t.isLt N_0
  have e : iblk m c 3 t (ix2 0 l) = V m c main_v0 (ix2 0 (col t.val l)) := by
    unfold col
    blk_point [iblk, idx t]
  rw [e, bias_entry]
  pointwise []

/-- The call's result over the program's arguments. -/
def value (c : Dev nD) (i : S32x2048x3072.Idx) : EReal := valueAt (a0 m c) (a1 m c) (a2 m c) (a3 m c) (i 0) (i 1) (i 2)

theorem point (c : Dev nD) (t : Fin cfg0.N) (y : S1x2048x512.Idx) :
    out0_4 (iblk m c 0 t) (iblk m c 1 t) (iblk m c 2 t) (iblk m c 3 t) y = value m c (((cfg0.win 4).blk t).view.emb y) := by
  have ht : t.val < 192 := lt_of_lt_of_eq t.isLt N_0
  obtain ⟨r, l, rfl⟩ : ∃ (r : Fin 2048) (l : Fin 512), y = ix3 0 r l :=
    ⟨y 1, y 2, funext fun a => Fin.ext (by
      match a with
      | ⟨0, _⟩ => exact Nat.lt_one_iff.mp (y 0).isLt
      | ⟨1, _⟩ => rfl
      | ⟨2, _⟩ => rfl)⟩
  have e : ((cfg0.win 4).blk t).view.emb (ix3 0 r l) = ix3 (bat t.val) r (col t.val l) := by
    funext a
    apply Fin.ext
    unfold bat col
    match a with
    | ⟨0, _⟩ => blk_simp [idx t] <;> (dsimp only; omega)
    | ⟨1, _⟩ => blk_simp [idx t] <;> omega
    | ⟨2, _⟩ => blk_simp [idx t] <;> omega
  rw [e]
  frame_out
  rw [block_at]
  have k0 : View.ld (iblk m c 2 t) r0_2 (ix2 0 l) = a2 m c (ix2 0 (col t.val l)) := (by pointwise [] : _ = iblk m c 2 t (ix2 0 l)).trans (tap_at m c t 0 l)
  have k1 : View.ld (iblk m c 2 t) r0_3 (ix2 0 l) = a2 m c (ix2 1 (col t.val l)) := (by pointwise [] : _ = iblk m c 2 t (ix2 1 l)).trans (tap_at m c t 1 l)
  have k2 : View.ld (iblk m c 2 t) r0_4 (ix2 0 l) = a2 m c (ix2 2 (col t.val l)) := (by pointwise [] : _ = iblk m c 2 t (ix2 2 l)).trans (tap_at m c t 2 l)
  rw [k0, k1, k2, bias_at]
  simp only [h_at, w_at]
  rfl

/-- The result array after the run. -/
theorem final (c : Dev nD) : (dats m 0 c).arrAt 4 (cfgs 0).N = value m c := by
  refine (dats m 0 c).arrAt_eq_of_covers 4 _ (by decide +kernel) fun t _ y => ?_
  blk_simp
  rw [after0_4]
  exact point m c t y

end Cert.HyenaInIdeal.Body

end
-- ==== Proof.MixerConv.lean ====
/- The mLSTM's projected queries and keys, convolved and through SiLU: the reference read at an index, the kernel's block, and the
   kernel's result array, all one function of the arguments. -/
module

public import proofs.«01_k».proof.Proof.Gen.MixerConvIdeal.Frame
public import proofs.«01_k».proof.Proof.Gen.MixerConvIdeal.Value
public import proofs.«01_k».proof.Proof.Gen.MixerConvReferenceIdeal.Read
public import proofs.«01_k».proof.Proof.Mixer
public import proofs.«01_k».proof.Proof.MoeMath
public import Idealize.ShloMosaic.Lib.Pointwise
public import Idealize.ShloMosaic.Lib.Pipeline.ValueKit

@[expose] public section

set_option maxRecDepth 16384

noncomputable section

namespace Cert.MixerConvReferenceIdeal.ConvRead

open Cert.MixerConvReferenceIdeal Cert.MixerConvReferenceIdeal.Gen Cert.MixerConvReferenceIdeal.Read Idealize.ShloMosaic Idealize.ShloMosaic.TcCoe Idealize.SL.Sem
open Cert.Mixer Cert.Experts

variable (x0 : FVec Ideal S32x2048x1024 .bf16) (x1 : FVec Ideal S1024x1024 .bf16) (x2 : FVec Ideal S3x1024 .f32) (x3 : FVec Ideal S1024 .f32)

/-- The product of a value with its logistic. -/
def silu (v : EReal) : EReal := Ideal.div v (1 + Ideal.exp (-v))

/-- One column of one batch's product. -/
def column (b : Fin 32) (l : Fin 1024) (r : Fin 2048) : EReal := ∑ j : Fin 1024, x0 (ix3 b r j) * x1 (ix2 j l)

/-- The call's result at batch `b`, row `r`, column `l`. -/
def valueAt (b : Fin 32) (r : Fin 2048) (l : Fin 1024) : EReal :=
  silu (conv (column x0 x1 b l) (x2 (ix2 0 l)) (x2 (ix2 1 l)) (x2 (ix2 2 l)) (x3 (ix1 l)) r)

theorem column_at (b : Fin 32) (r : Fin 2048) (l : Fin 1024) : val_main_v2 (F := Ideal) x0 x1 (ix3 b r l) = column x0 x1 b l r := by
  pointwise [val_main_v2, val_main_v1, val_main_v0]
  rfl

/-- The reference's sum of taps. -/
theorem taps_at (b : Fin 32) (r : Fin 2048) (l : Fin 1024) :
    val_main_v28 (F := Ideal) x0 x1 x2 x3 (ix3 b r l)
      = conv (column x0 x1 b l) (x2 (ix2 0 l)) (x2 (ix2 1 l)) (x2 (ix2 2 l)) (x3 (ix1 l)) r := by
  pointwise [val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst, val_main_call0_v0, val_main_c]
  simp only [column_at]
  exact padded (column x0 x1 b l) _ _ _ _ r

/-- The reference's result is the call's. -/
theorem out_at (b : Fin 32) (r : Fin 2048) (l : Fin 1024) :
    val_main_v30 (F := Ideal) x0 x1 x2 x3 (ix3 b r l) = valueAt x0 x1 x2 x3 b r l := by
  pointwise [val_main_v30, val_main_v29, val_main_call1_v5, val_main_call1_v4, val_main_call1_cst_0, val_main_call1_v3, val_main_call1_v2, val_main_call1_cst, val_main_call1_v1, val_main_call1_v0]
  rw [taps_at, gate_eq]
  rfl

end Cert.MixerConvReferenceIdeal.ConvRead

namespace Cert.MixerConvIdeal.Body

open Cert.MixerConvIdeal Cert.MixerConvIdeal.Gen Idealize.ShloMosaic Idealize.ShloMosaic.TcCoe Idealize.SL.Sem
open Cert.Mixer Cert.MixerConvReferenceIdeal.ConvRead

/-- The body's block at row `r`, column `l`. -/
theorem block_at (h : S1x2048x1024.Idx → EReal) (w : S1024x512.Idx → EReal) (c0 c1 c2 b : S1x512.Idx → EReal) (r : Fin 2048) (l : Fin 512) :
    k0_pay1 (F := Ideal) (k0_pay2 (F := Ideal) h w c0 c1 c2 b) (ix3 0 r l)
      = silu (conv (fun r => ∑ j : Fin 1024, h (ix3 0 r j) * w (ix2 j l)) (c0 (ix2 0 l)) (c1 (ix2 0 l)) (c2 (ix2 0 l)) (b (ix2 0 l)) r) := by
  pointwise [k0_pay1, k0_pay2]
  unfold silu
  rw [← rolled 2047 (by decide) rfl (fun r => ∑ j : Fin 1024, h (ix3 0 r j) * w (ix2 j l)) (c0 (ix2 0 l)) (c1 (ix2 0 l)) (c2 (ix2 0 l)) (b (ix2 0 l)) r
    (Nat.mod_lt _ (by decide)) (Nat.mod_lt _ (by decide)), ← zero_sub]

variable (m : (ℓ : Loc nD τ sig) → Buf (Elt Ideal) ℓ)

theorem idx : ∀ t : Fin cfg0.N, win0_0.index t = ![t.val / 2, 0, 0] ∧ win0_1.index t = ![0, t.val % 2]
    ∧ win0_2.index t = ![0, t.val % 2] ∧ win0_3.index t = ![0, t.val % 2] ∧ win0_4.index t = ![t.val / 2, 0, t.val % 2] :=
  (by decide +kernel : ∀ t : Fin grid0.N, _)

abbrev a0 (c : Dev nD) : S32x2048x1024.Idx → EReal := m ((c : Thread nD τ).loc main_arg0)
abbrev a1 (c : Dev nD) : S1024x1024.Idx → EReal := m ((c : Thread nD τ).loc main_arg1)
abbrev a2 (c : Dev nD) : S3x1024.Idx → EReal := m ((c : Thread nD τ).loc main_arg2)
abbrev a3 (c : Dev nD) : S1024.Idx → EReal := m ((c : Thread nD τ).loc main_arg3)

/-- The batch of a point, and the array's column at column `l` of its block. -/
def bat (n : Nat) : Fin 32 := ⟨n / 2 % 32, by omega⟩
def col (n : Nat) (l : Fin 512) : Fin 1024 := ⟨n % 2 * 512 + l, by omega⟩

theorem h_at (c : Dev nD) (t : Fin cfg0.N) (r : Fin 2048) (j : Fin 1024) : iblk m c 0 t (ix3 0 r j) = a0 m c (ix3 (bat t.val) r j) := by
  have ht : t.val < 64 := lt_of_lt_of_eq t.isLt N_0
  unfold a0 bat
  blk_point [iblk, V, idx t]

theorem w_at (c : Dev nD) (t : Fin cfg0.N) (j : Fin 1024) (l : Fin 512) : iblk m c 1 t (ix2 j l) = a1 m c (ix2 j (col t.val l)) := by
  have ht : t.val < 64 := lt_of_lt_of_eq t.isLt N_0
  unfold a1 col
  blk_point [iblk, V, idx t]

theorem tap_at (c : Dev nD) (t : Fin cfg0.N) (k : Fin 3) (l : Fin 512) : iblk m c 2 t (ix2 k l) = a2 m c (ix2 k (col t.val l)) := by
  have ht : t.val < 64 := lt_of_lt_of_eq t.isLt N_0
  unfold a2 col
  blk_point [iblk, V, idx t]

theorem bias_entry (c : Dev nD) : V m c main_v0 = shapeCast S1x1024 (a3 m c) shapeCasts_S1024_S1x1024 := by
  entry_read
  rfl

theorem bias_at (c : Dev nD) (t : Fin cfg0.N) (l : Fin 512) : iblk m c 3 t (ix2 0 l) = a3 m c (ix1 (col t.val l)) := by
  have ht : t.val < 64 := lt_of_lt_of_eq t.isLt N_0
  have e : iblk m c 3 t (ix2 0 l) = V m c main_v0 (ix2 0 (col t.val l)) := by
    unfold col
    blk_point [iblk, idx t]
  rw [e, bias_entry]
  pointwise []

/-- The call's result over the program's arguments. -/
def value (c : Dev nD) (i : S32x2048x1024.Idx) : EReal := valueAt (a0 m c) (a1 m c) (a2 m c) (a3 m c) (i 0) (i 1) (i 2)

theorem point (c : Dev nD) (t : Fin cfg0.N) (y : S1x2048x512.Idx) :
    out0_4 (iblk m c 0 t) (iblk m c 1 t) (iblk m c 2 t) (iblk m c 3 t) y = value m c (((cfg0.win 4).blk t).view.emb y) := by
  have ht : t.val < 64 := lt_of_lt_of_eq t.isLt N_0
  obtain ⟨r, l, rfl⟩ : ∃ (r : Fin 2048) (l : Fin 512), y = ix3 0 r l :=
    ⟨y 1, y 2, funext fun a => Fin.ext (by
      match a with
      | ⟨0, _⟩ => exact Nat.lt_one_iff.mp (y 0).isLt
      | ⟨1, _⟩ => rfl
      | ⟨2, _⟩ => rfl)⟩
  have e : ((cfg0.win 4).blk t).view.emb (ix3 0 r l) = ix3 (bat t.val) r (col t.val l) := by
    funext a
    apply Fin.ext
    unfold bat col
    match a with
    | ⟨0, _⟩ => blk_simp [idx t] <;> (dsimp only; omega)
    | ⟨1, _⟩ => blk_simp [idx t] <;> omega
    | ⟨2, _⟩ => blk_simp [idx t] <;> omega
  rw [e]
  frame_out
  rw [block_at]
  have k0 : View.ld (iblk m c 2 t) r0_2 (ix2 0 l) = a2 m c (ix2 0 (col t.val l)) := (by pointwise [] : _ = iblk m c 2 t (ix2 0 l)).trans (tap_at m c t 0 l)
  have k1 : View.ld (iblk m c 2 t) r0_3 (ix2 0 l) = a2 m c (ix2 1 (col t.val l)) := (by pointwise [] : _ = iblk m c 2 t (ix2 1 l)).trans (tap_at m c t 1 l)
  have k2 : View.ld (iblk m c 2 t) r0_4 (ix2 0 l) = a2 m c (ix2 2 (col t.val l)) := (by pointwise [] : _ = iblk m c 2 t (ix2 2 l)).trans (tap_at m c t 2 l)
  rw [k0, k1, k2, bias_at]
  simp only [h_at, w_at]
  rfl

/-- The result array after the run. -/
theorem final (c : Dev nD) : (dats m 0 c).arrAt 4 (cfgs 0).N = value m c := by
  refine (dats m 0 c).arrAt_eq_of_covers 4 _ (by decide +kernel) fun t _ y => ?_
  blk_simp
  rw [after0_4]
  exact point m c t y

end Cert.MixerConvIdeal.Body

end
-- ==== Proof.MixerIn.lean ====
/- The mixer's in-projection: the reference read at an index, the kernel's block, and the kernel's result array, all one function
   of the arguments. -/
module

public import proofs.«01_k».proof.Proof.Gen.MixerInIdeal.Frame
public import proofs.«01_k».proof.Proof.Gen.MixerInIdeal.Value
public import proofs.«01_k».proof.Proof.Gen.MixerInReferenceIdeal.Read
public import Idealize.ShloMosaic.Lib.Pointwise
public import Idealize.ShloMosaic.Lib.Pipeline.ValueKit

@[expose] public section

set_option maxRecDepth 16384

noncomputable section

namespace Cert.MixerInReferenceIdeal.OutRead

open Cert.MixerInReferenceIdeal Cert.MixerInReferenceIdeal.Gen Cert.MixerInReferenceIdeal.Read Idealize.ShloMosaic Idealize.ShloMosaic.TcCoe Idealize.SL.Sem

variable (x0 : FVec Ideal S32x2048x1024 .bf16) (x1 : FVec Ideal S1024x1536 .bf16)

/-- The call's result at batch `b`, row `r`, column `l`. -/
def valueAt (b : Fin 32) (r : Fin 2048) (l : Fin 1536) : EReal := ∑ j : Fin 1024, x0 (ix3 b r j) * x1 (ix2 j l)

/-- The reference's result is the call's. -/
theorem out_at (b : Fin 32) (r : Fin 2048) (l : Fin 1536) : val_main_v3 (F := Ideal) x0 x1 (ix3 b r l) = valueAt x0 x1 b r l := by
  pointwise [val_main_v3, val_main_v2, val_main_v1, val_main_v0]
  rfl

end Cert.MixerInReferenceIdeal.OutRead

namespace Cert.MixerInIdeal.Body

open Cert.MixerInIdeal Cert.MixerInIdeal.Gen Idealize.ShloMosaic Idealize.ShloMosaic.TcCoe Idealize.SL.Sem
open Cert.MixerInReferenceIdeal.OutRead

/-- The body's block at row `r`, column `l`. -/
theorem block_at (h : S1x512x1024.Idx → EReal) (w : S1024x512.Idx → EReal) (b : S1x512.Idx → EReal) (r l : Fin 512) :
    k0_pay1 (F := Ideal) h w b (ix3 0 r l) = (∑ j : Fin 1024, h (ix3 0 r j) * w (ix2 j l)) + b (ix2 0 l) := by
  pointwise [k0_pay1]

variable (m : (ℓ : Loc nD τ sig) → Buf (Elt Ideal) ℓ)

theorem idx : ∀ t : Fin cfg0.N, win0_0.index t = ![t.val / 12, t.val / 3 % 4, 0] ∧ win0_1.index t = ![0, t.val % 3]
    ∧ win0_2.index t = ![0, t.val % 3] ∧ win0_3.index t = ![t.val / 12, t.val / 3 % 4, t.val % 3] :=
  (by decide +kernel : ∀ t : Fin grid0.N, _)

abbrev a0 (c : Dev nD) : S32x2048x1024.Idx → EReal := m ((c : Thread nD τ).loc main_arg0)
abbrev a1 (c : Dev nD) : S1024x1536.Idx → EReal := m ((c : Thread nD τ).loc main_arg1)

/-- The batch of a point, and the array's row and column at row `r`, column `l` of its block. -/
def bat (n : Nat) : Fin 32 := ⟨n / 12 % 32, by omega⟩
def row (n : Nat) (r : Fin 512) : Fin 2048 := ⟨n / 3 % 4 * 512 + r, by omega⟩
def col (n : Nat) (l : Fin 512) : Fin 1536 := ⟨n % 3 * 512 + l, by omega⟩

theorem h_at (c : Dev nD) (t : Fin cfg0.N) (r : Fin 512) (j : Fin 1024) : iblk m c 0 t (ix3 0 r j) = a0 m c (ix3 (bat t.val) (row t.val r) j) := by
  have ht : t.val < 384 := lt_of_lt_of_eq t.isLt N_0
  unfold a0 bat row
  blk_point [iblk, V, idx t]

theorem w_at (c : Dev nD) (t : Fin cfg0.N) (j : Fin 1024) (l : Fin 512) : iblk m c 1 t (ix2 j l) = a1 m c (ix2 j (col t.val l)) := by
  have ht : t.val < 384 := lt_of_lt_of_eq t.isLt N_0
  unfold a1 col
  blk_point [iblk, V, idx t]

/-- The projection has no bias: the call's bias operand is a row of zeros. -/
theorem bias_entry (c : Dev nD) :
    V m c main_v1 = shapeCast S1x1536 (broadcastInDim S1536 ![] bcast_S_S1536 (constant (F := Ideal) S_ .f32 0x00000000#32))
      shapeCasts_S1536_S1x1536 := by
  entry_read
  rfl

theorem bias_at (c : Dev nD) (t : Fin cfg0.N) (l : Fin 512) : iblk m c 2 t (ix2 0 l) = (0 : EReal) := by
  have ht : t.val < 384 := lt_of_lt_of_eq t.isLt N_0
  have e : iblk m c 2 t (ix2 0 l) = V m c main_v1 (ix2 0 (col t.val l)) := by
    unfold col
    blk_point [iblk, idx t]
  rw [e, bias_entry]
  pointwise []

/-- The call's result over the program's arguments. -/
def value (c : Dev nD) (i : S32x2048x1536.Idx) : EReal := valueAt (a0 m c) (a1 m c) (i 0) (i 1) (i 2)

theorem point (c : Dev nD) (t : Fin cfg0.N) (y : S1x512x512.Idx) :
    out0_3 (iblk m c 0 t) (iblk m c 1 t) (iblk m c 2 t) y = value m c (((cfg0.win 3).blk t).view.emb y) := by
  have ht : t.val < 384 := lt_of_lt_of_eq t.isLt N_0
  obtain ⟨r, l, rfl⟩ : ∃ (r : Fin 512) (l : Fin 512), y = ix3 0 r l :=
    ⟨y 1, y 2, funext fun a => Fin.ext (by
      match a with
      | ⟨0, _⟩ => exact Nat.lt_one_iff.mp (y 0).isLt
      | ⟨1, _⟩ => rfl
      | ⟨2, _⟩ => rfl)⟩
  have e : ((cfg0.win 3).blk t).view.emb (ix3 0 r l) = ix3 (bat t.val) (row t.val r) (col t.val l) := by
    funext a
    apply Fin.ext
    unfold bat row col
    match a with
    | ⟨0, _⟩ => blk_simp [idx t] <;> (dsimp only; omega)
    | ⟨1, _⟩ => blk_simp [idx t] <;> omega
    | ⟨2, _⟩ => blk_simp [idx t] <;> omega
  rw [e]
  frame_out
  rw [block_at, bias_at, add_zero]
  simp only [h_at, w_at]
  rfl

/-- The result array after the run. -/
theorem final (c : Dev nD) : (dats m 0 c).arrAt 3 (cfgs 0).N = value m c := by
  refine (dats m 0 c).arrAt_eq_of_covers 3 _ (by decide +kernel) fun t _ y => ?_
  blk_simp
  rw [after0_3]
  exact point m c t y

end Cert.MixerInIdeal.Body

end
-- ==== Proof.HyenaOut.lean ====
/- The Hyena mixer's out-projection with the closing step: the reference read at an index, the kernel's block, and the kernel's
   result array, all one function of the arguments. -/
module

public import proofs.«01_k».proof.Proof.Gen.HyenaOutIdeal.Frame
public import proofs.«01_k».proof.Proof.Gen.HyenaOutIdeal.Value
public import proofs.«01_k».proof.Proof.Gen.HyenaOutReferenceIdeal.Read
public import proofs.«01_k».proof.Proof.MoeMath
public import Idealize.ShloMosaic.Lib.Pointwise
public import Idealize.ShloMosaic.Lib.Pipeline.ValueKit

@[expose] public section

set_option maxRecDepth 16384

noncomputable section

namespace Cert.HyenaOutReferenceIdeal.OutRead

open Cert.HyenaOutReferenceIdeal Cert.HyenaOutReferenceIdeal.Gen Cert.HyenaOutReferenceIdeal.Read Idealize.ShloMosaic Idealize.ShloMosaic.TcCoe Idealize.SL.Sem
open Cert.Experts

variable (x0 : FVec Ideal S32x2048x1024 .bf16) (x1 : FVec Ideal S1024x1024 .bf16) (x2 : FVec Ideal S32x2048x1024 .f32)
  (x3 : FVec Ideal S1024 .f32) (x4 : FVec Ideal S32x1x1024 .f32)

/-- One projected row. -/
def proj (b : Fin 32) (r : Fin 2048) (l : Fin 1024) : EReal := ∑ j : Fin 1024, x0 (ix3 b r j) * x1 (ix2 j l)

/-- The call's result at batch `b`, row `r`, lane `l`. -/
def valueAt (b : Fin 32) (r : Fin 2048) (l : Fin 1024) : EReal :=
  close (proj x0 x1 b r) (x2 (ix3 b r l)) (x3 (ix1 l)) (x4 (ix3 b 0 l)) l

theorem proj_at (b : Fin 32) (r : Fin 2048) (l : Fin 1024) : val_main_v2 (F := Ideal) x0 x1 (ix3 b r l) = proj x0 x1 b r l := by
  pointwise [val_main_v2, val_main_v1, val_main_v0]
  rfl

/-- The reference's result is the call's. -/
theorem out_at (b : Fin 32) (r : Fin 2048) (l : Fin 1024) :
    val_main_v18 (F := Ideal) x0 x1 x2 x3 x4 (ix3 b r l) = valueAt x0 x1 x2 x3 x4 b r l := by
  pointwise [val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1]
  simp only [proj_at]
  rfl

end Cert.HyenaOutReferenceIdeal.OutRead

namespace Cert.HyenaOutIdeal.Body

open Cert.HyenaOutIdeal Cert.HyenaOutIdeal.Gen Idealize.ShloMosaic Idealize.ShloMosaic.TcCoe Idealize.SL.Sem
open Cert.HyenaOutReferenceIdeal.OutRead Cert.Experts

/-- The body's block at row `r`, lane `l`. -/
theorem block_at (y : S1x512x1024.Idx → EReal) (w : S1024x1024.Idx → EReal) (g : S1x1024.Idx → EReal) (x : S1x512x1024.Idx → EReal)
    (s : S1x1x1024.Idx → EReal) (r : Fin 512) (l : Fin 1024) :
    k0_pay1 (F := Ideal) y w g x s (ix3 0 r l)
      = close (fun l => ∑ j : Fin 1024, y (ix3 0 r j) * w (ix2 j l)) (x (ix3 0 r l)) (g (ix2 0 l)) (s (ix3 0 0 l)) l := by
  pointwise [k0_pay1]
  rfl

variable (m : (ℓ : Loc nD τ sig) → Buf (Elt Ideal) ℓ)

theorem idx : ∀ t : Fin cfg0.N, win0_0.index t = ![t.val / 4, t.val % 4, 0] ∧ win0_1.index t = ![0, 0]
    ∧ win0_2.index t = ![t.val / 4, t.val % 4, 0] ∧ win0_3.index t = ![0, 0] ∧ win0_4.index t = ![t.val / 4, 0, 0]
    ∧ win0_5.index t = ![t.val / 4, t.val % 4, 0] :=
  (by decide +kernel : ∀ t : Fin grid0.N, _)

abbrev a0 (c : Dev nD) : S32x2048x1024.Idx → EReal := m ((c : Thread nD τ).loc main_arg0)
abbrev a1 (c : Dev nD) : S1024x1024.Idx → EReal := m ((c : Thread nD τ).loc main_arg1)
abbrev a2 (c : Dev nD) : S32x2048x1024.Idx → EReal := m ((c : Thread nD τ).loc main_arg2)
abbrev a3 (c : Dev nD) : S1024.Idx → EReal := m ((c : Thread nD τ).loc main_arg3)
abbrev a4 (c : Dev nD) : S32x1x1024.Idx → EReal := m ((c : Thread nD τ).loc main_arg4)

/-- The batch of a point, and the array's row at row `r` of its block. -/
def bat (n : Nat) : Fin 32 := ⟨n / 4 % 32, by omega⟩
def row (n : Nat) (r : Fin 512) : Fin 2048 := ⟨n % 4 * 512 + r, by omega⟩

theorem y_at (c : Dev nD) (t : Fin cfg0.N) (r : Fin 512) (j : Fin 1024) : iblk m c 0 t (ix3 0 r j) = a0 m c (ix3 (bat t.val) (row t.val r) j) := by
  have ht : t.val < 128 := lt_of_lt_of_eq t.isLt N_0
  unfold a0 bat row
  blk_point [iblk, V, idx t]

theorem w_at (c : Dev nD) (t : Fin cfg0.N) (j l : Fin 1024) : iblk m c 1 t (ix2 j l) = a1 m c (ix2 j l) := by
  have ht : t.val < 128 := lt_of_lt_of_eq t.isLt N_0
  unfold a1
  blk_point [iblk, V, idx t]

theorem x_at (c : Dev nD) (t : Fin cfg0.N) (r : Fin 512) (l : Fin 1024) : iblk m c 2 t (ix3 0 r l) = a2 m c (ix3 (bat t.val) (row t.val r) l) := by
  have ht : t.val < 128 := lt_of_lt_of_eq t.isLt N_0
  unfold a2 bat row
  blk_point [iblk, V, idx t]

theorem g_entry (c : Dev nD) : V m c main_v0 = shapeCast S1x1024 (a3 m c) shapeCasts_S1024_S1x1024 := by
  entry_read
  rfl

theorem g_at (c : Dev nD) (t : Fin cfg0.N) (l : Fin 1024) : iblk m c 3 t (ix2 0 l) = a3 m c (ix1 l) := by
  have e : iblk m c 3 t (ix2 0 l) = V m c main_v0 (ix2 0 l) := by
    blk_point [iblk, idx t]
  rw [e, g_entry]
  pointwise []

theorem s_at (c : Dev nD) (t : Fin cfg0.N) (l : Fin 1024) : iblk m c 4 t (ix3 0 0 l) = a4 m c (ix3 (bat t.val) 0 l) := by
  have ht : t.val < 128 := lt_of_lt_of_eq t.isLt N_0
  unfold a4 bat
  blk_point [iblk, V, idx t]

/-- The call's result over the program's arguments. -/
def value (c : Dev nD) (i : S32x2048x1024.Idx) : EReal :=
  valueAt (a0 m c) (a1 m c) (a2 m c) (a3 m c) (a4 m c) (i 0) (i 1) (i 2)

theorem point (c : Dev nD) (t : Fin cfg0.N) (y : S1x512x1024.Idx) :
    out0_5 (iblk m c 0 t) (iblk m c 1 t) (iblk m c 2 t) (iblk m c 3 t) (iblk m c 4 t) y
      = value m c (((cfg0.win 5).blk t).view.emb y) := by
  have ht : t.val < 128 := lt_of_lt_of_eq t.isLt N_0
  obtain ⟨r, l, rfl⟩ : ∃ (r : Fin 512) (l : Fin 1024), y = ix3 0 r l :=
    ⟨y 1, y 2, funext fun a => Fin.ext (by
      match a with
      | ⟨0, _⟩ => exact Nat.lt_one_iff.mp (y 0).isLt
      | ⟨1, _⟩ => rfl
      | ⟨2, _⟩ => rfl)⟩
  have e : ((cfg0.win 5).blk t).view.emb (ix3 0 r l) = ix3 (bat t.val) (row t.val r) l := by
    funext a
    apply Fin.ext
    unfold bat row
    match a with
    | ⟨0, _⟩ => blk_simp [idx t] <;> (dsimp only; omega)
    | ⟨1, _⟩ => blk_simp [idx t] <;> omega
    | ⟨2, _⟩ => blk_simp [idx t] <;> omega
  rw [e]
  frame_out
  rw [block_at, x_at, g_at, s_at]
  simp only [y_at, w_at]
  rfl

/-- The result array after the run. -/
theorem final (c : Dev nD) : (dats m 0 c).arrAt 5 (cfgs 0).N = value m c := by
  refine (dats m 0 c).arrAt_eq_of_covers 5 _ (by decide +kernel) fun t _ y => ?_
  blk_simp
  rw [after0_5]
  exact point m c t y

end Cert.HyenaOutIdeal.Body

end
-- ==== Proof.MixerOut.lean ====
/- The mixer's out-projection with the closing step: the two halves' rows by the two halves of the weight. The reference read at
   an index, the kernel's block, and the kernel's result array, all one function of the arguments. -/
module

public import proofs.«01_k».proof.Proof.Gen.MixerOutIdeal.Frame
public import proofs.«01_k».proof.Proof.Gen.MixerOutIdeal.Value
public import proofs.«01_k».proof.Proof.Gen.MixerOutReferenceIdeal.Read
public import proofs.«01_k».proof.Proof.MoeMath
public import proofs.«01_k».proof.Proof.Math
public import Idealize.ShloMosaic.Lib.Pointwise
public import Idealize.ShloMosaic.Lib.Pipeline.ValueKit

@[expose] public section

set_option maxRecDepth 16384

noncomputable section

namespace Cert.MixerOutReferenceIdeal.OutRead

open Cert.MixerOutReferenceIdeal Cert.MixerOutReferenceIdeal.Gen Cert.MixerOutReferenceIdeal.Read Idealize.ShloMosaic Idealize.ShloMosaic.TcCoe Idealize.SL.Sem
open Cert.Experts Cert.Attn

variable (x0 x1 : FVec Ideal S32x2048x512 .bf16) (x2 : FVec Ideal S1024x1024 .bf16) (x3 : FVec Ideal S32x2048x1024 .f32)
  (x4 : FVec Ideal S1024 .f32) (x5 : FVec Ideal S32x1x1024 .f32)

/-- One projected row: the first half by the weight's first 512 rows, the second half by its last 512. -/
def proj (b : Fin 32) (r : Fin 2048) (l : Fin 1024) : EReal :=
  (∑ j : Fin 512, x0 (ix3 b r j) * x2 (ix2 ⟨j, by omega⟩ l)) + ∑ j : Fin 512, x1 (ix3 b r j) * x2 (ix2 ⟨512 + j, by omega⟩ l)

/-- The call's result at batch `b`, row `r`, lane `l`. -/
def valueAt (b : Fin 32) (r : Fin 2048) (l : Fin 1024) : EReal :=
  close (proj x0 x1 x2 b r) (x3 (ix3 b r l)) (x4 (ix1 l)) (x5 (ix3 b 0 l)) l

/-- The two halves side by side. -/
theorem first_half (b : Fin 32) (r : Fin 2048) (j : Fin 512) : val_main_v3 (F := Ideal) x0 x1 (ix3 b r ⟨j, by omega⟩) = x0 (ix3 b r j) := by
  pointwise [val_main_v3, val_main_v1, val_main_v0]

theorem second_half (b : Fin 32) (r : Fin 2048) (j : Fin 512) :
    val_main_v3 (F := Ideal) x0 x1 (ix3 b r ⟨512 + j, by omega⟩) = x1 (ix3 b r j) := by
  pointwise [val_main_v3, val_main_v1, val_main_v0]

theorem proj_at (b : Fin 32) (r : Fin 2048) (l : Fin 1024) : val_main_v4 (F := Ideal) x0 x1 x2 (ix3 b r l) = proj x0 x1 x2 b r l := by
  have e : val_main_v4 (F := Ideal) x0 x1 x2 (ix3 b r l) = ∑ j : Fin 1024, val_main_v3 (F := Ideal) x0 x1 (ix3 b r j) * x2 (ix2 j l) := by
    pointwise [val_main_v4, val_main_v2]
  rw [e, sum_split 512 512 1024 rfl]
  simp only [first_half, second_half]
  rfl

/-- The reference's result is the call's. -/
theorem out_at (b : Fin 32) (r : Fin 2048) (l : Fin 1024) :
    val_main_v20 (F := Ideal) x0 x1 x2 x3 x4 x5 (ix3 b r l) = valueAt x0 x1 x2 x3 x4 x5 b r l := by
  pointwise [val_main_v20, val_main_v19, val_main_v18, val_main_v17, val_main_v16, val_main_v15, val_main_v14, val_main_v13, val_main_v12, val_main_v11, val_main_v10, val_main_v9, val_main_v8, val_main_v7, val_main_v6, val_main_v5, val_main_cst, val_main_cst_0, val_main_cst_1]
  simp only [proj_at]
  rfl

end Cert.MixerOutReferenceIdeal.OutRead

namespace Cert.MixerOutIdeal.Body

open Cert.MixerOutIdeal Cert.MixerOutIdeal.Gen Idealize.ShloMosaic Idealize.ShloMosaic.TcCoe Idealize.SL.Sem
open Cert.MixerOutReferenceIdeal.OutRead Cert.Experts

/-- The body's block at row `r`, lane `l`. -/
theorem block_at (a : S1x512x512.Idx → EReal) (v : S512x1024.Idx → EReal) (b : S1x512x512.Idx → EReal) (w : S512x1024.Idx → EReal)
    (g : S1x1024.Idx → EReal) (x : S1x512x1024.Idx → EReal) (s : S1x1x1024.Idx → EReal) (r : Fin 512) (l : Fin 1024) :
    k0_pay1 (F := Ideal) (k0_pay2 (F := Ideal) a v b w g x s) (ix3 0 r l)
      = close (fun l => (∑ j : Fin 512, a (ix3 0 r j) * v (ix2 j l)) + ∑ j : Fin 512, b (ix3 0 r j) * w (ix2 j l))
          (x (ix3 0 r l)) (g (ix2 0 l)) (s (ix3 0 0 l)) l := by
  pointwise [k0_pay1, k0_pay2]
  rfl

variable (m : (ℓ : Loc nD τ sig) → Buf (Elt Ideal) ℓ)

theorem idx : ∀ t : Fin cfg0.N, win0_0.index t = ![t.val / 4, t.val % 4, 0] ∧ win0_1.index t = ![t.val / 4, t.val % 4, 0]
    ∧ win0_2.index t = ![0, 0] ∧ win0_3.index t = ![0, 0] ∧ win0_4.index t = ![t.val / 4, t.val % 4, 0] ∧ win0_5.index t = ![0, 0]
    ∧ win0_6.index t = ![t.val / 4, 0, 0] ∧ win0_7.index t = ![t.val / 4, t.val % 4, 0] :=
  (by decide +kernel : ∀ t : Fin grid0.N, _)

abbrev a0 (c : Dev nD) : S32x2048x512.Idx → EReal := m ((c : Thread nD τ).loc main_arg0)
abbrev a1 (c : Dev nD) : S32x2048x512.Idx → EReal := m ((c : Thread nD τ).loc main_arg1)
abbrev a2 (c : Dev nD) : S1024x1024.Idx → EReal := m ((c : Thread nD τ).loc main_arg2)
abbrev a3 (c : Dev nD) : S32x2048x1024.Idx → EReal := m ((c : Thread nD τ).loc main_arg3)
abbrev a4 (c : Dev nD) : S1024.Idx → EReal := m ((c : Thread nD τ).loc main_arg4)
abbrev a5 (c : Dev nD) : S32x1x1024.Idx → EReal := m ((c : Thread nD τ).loc main_arg5)

/-- The batch of a point, and the array's row at row `r` of its block. -/
def bat (n : Nat) : Fin 32 := ⟨n / 4 % 32, by omega⟩
def row (n : Nat) (r : Fin 512) : Fin 2048 := ⟨n % 4 * 512 + r, by omega⟩

theorem a_at (c : Dev nD) (t : Fin cfg0.N) (r j : Fin 512) : iblk m c 0 t (ix3 0 r j) = a0 m c (ix3 (bat t.val) (row t.val r) j) := by
  have ht : t.val < 128 := lt_of_lt_of_eq t.isLt N_0
  unfold a0 bat row
  blk_point [iblk, V, idx t]

theorem b_at (c : Dev nD) (t : Fin cfg0.N) (r j : Fin 512) : iblk m c 1 t (ix3 0 r j) = a1 m c (ix3 (bat t.val) (row t.val r) j) := by
  have ht : t.val < 128 := lt_of_lt_of_eq t.isLt N_0
  unfold a1 bat row
  blk_point [iblk, V, idx t]

/-- The host cuts the weight into its two halves. -/
theorem v_entry (c : Dev nD) : V m c main_v0 = extractStridedSlice S512x1024 ![0, 0] (a2 m c) slices_S1024x1024_S512x1024_0_0 := by
  entry_read
  rfl

theorem w_entry (c : Dev nD) : V m c main_v1 = extractStridedSlice S512x1024 ![512, 0] (a2 m c) slices_S1024x1024_S512x1024_512_0 := by
  entry_read
  rfl

theorem v_at (c : Dev nD) (t : Fin cfg0.N) (j : Fin 512) (l : Fin 1024) : iblk m c 2 t (ix2 j l) = a2 m c (ix2 ⟨j, by omega⟩ l) := by
  have e : iblk m c 2 t (ix2 j l) = V m c main_v0 (ix2 j l) := by
    blk_point [iblk, idx t]
  rw [e, v_entry]
  pointwise []

theorem w_at (c : Dev nD) (t : Fin cfg0.N) (j : Fin 512) (l : Fin 1024) : iblk m c 3 t (ix2 j l) = a2 m c (ix2 ⟨512 + j, by omega⟩ l) := by
  have e : iblk m c 3 t (ix2 j l) = V m c main_v1 (ix2 j l) := by
    blk_point [iblk, idx t]
  rw [e, w_entry]
  pointwise []

theorem x_at (c : Dev nD) (t : Fin cfg0.N) (r : Fin 512) (l : Fin 1024) : iblk m c 4 t (ix3 0 r l) = a3 m c (ix3 (bat t.val) (row t.val r) l) := by
  have ht : t.val < 128 := lt_of_lt_of_eq t.isLt N_0
  unfold a3 bat row
  blk_point [iblk, V, idx t]

theorem g_entry (c : Dev nD) : V m c main_v2 = shapeCast S1x1024 (a4 m c) shapeCasts_S1024_S1x1024 := by
  entry_read
  rfl

theorem g_at (c : Dev nD) (t : Fin cfg0.N) (l : Fin 1024) : iblk m c 5 t (ix2 0 l) = a4 m c (ix1 l) := by
  have e : iblk m c 5 t (ix2 0 l) = V m c main_v2 (ix2 0 l) := by
    blk_point [iblk, idx t]
  rw [e, g_entry]
  pointwise []

theorem s_at (c : Dev nD) (t : Fin cfg0.N) (l : Fin 1024) : iblk m c 6 t (ix3 0 0 l) = a5 m c (ix3 (bat t.val) 0 l) := by
  have ht : t.val < 128 := lt_of_lt_of_eq t.isLt N_0
  unfold a5 bat
  blk_point [iblk, V, idx t]

/-- The call's result over the program's arguments. -/
def value (c : Dev nD) (i : S32x2048x1024.Idx) : EReal :=
  valueAt (a0 m c) (a1 m c) (a2 m c) (a3 m c) (a4 m c) (a5 m c) (i 0) (i 1) (i 2)

theorem point (c : Dev nD) (t : Fin cfg0.N) (y : S1x512x1024.Idx) :
    out0_7 (iblk m c 0 t) (iblk m c 1 t) (iblk m c 2 t) (iblk m c 3 t) (iblk m c 4 t) (iblk m c 5 t) (iblk m c 6 t) y
      = value m c (((cfg0.win 7).blk t).view.emb y) := by
  have ht : t.val < 128 := lt_of_lt_of_eq t.isLt N_0
  obtain ⟨r, l, rfl⟩ : ∃ (r : Fin 512) (l : Fin 1024), y = ix3 0 r l :=
    ⟨y 1, y 2, funext fun a => Fin.ext (by
      match a with
      | ⟨0, _⟩ => exact Nat.lt_one_iff.mp (y 0).isLt
      | ⟨1, _⟩ => rfl
      | ⟨2, _⟩ => rfl)⟩
  have e : ((cfg0.win 7).blk t).view.emb (ix3 0 r l) = ix3 (bat t.val) (row t.val r) l := by
    funext a
    apply Fin.ext
    unfold bat row
    match a with
    | ⟨0, _⟩ => blk_simp [idx t] <;> (dsimp only; omega)
    | ⟨1, _⟩ => blk_simp [idx t] <;> omega
    | ⟨2, _⟩ => blk_simp [idx t] <;> omega
  rw [e]
  frame_out
  rw [block_at, x_at, g_at, s_at]
  simp only [a_at, b_at, v_at, w_at]
  rfl

/-- The result array after the run. -/
theorem final (c : Dev nD) : (dats m 0 c).arrAt 7 (cfgs 0).N = value m c := by
  refine (dats m 0 c).arrAt_eq_of_covers 7 _ (by decide +kernel) fun t _ y => ?_
  blk_simp
  rw [after0_7]
  exact point m c t y

end Cert.MixerOutIdeal.Body

end
-- ==== Proof.Rope.lean ====
/- The mathematics of the projections that rotate their columns, free of any program: each head's 64 columns are turned in pairs
   sixteen apart, the first of a pair taking its partner with the sign changed. Changing the sign of a weight's column changes the
   sign of the product, when the terms are real. And the host's choice of columns by a table of their numbers. -/
module

public import proofs.«01_k».proof.Defs
public import proofs.«01_k».proof.Proof.Math
public import proofs.«01_k».proof.Proof.Gates
public import Idealize.ShloMosaic.Lib.Pointwise
public import Idealize.ShloMosaic.Lib.IdealHost

@[expose] public section

set_option maxRecDepth 16384

noncomputable section

namespace Cert.Rope

open Idealize.ShloMosaic Cert.Attn

/-- Whether a column is the first of its pair, and its partner. -/
abbrev leads (l : Fin 512) : Prop := (l : Nat) % 32 < 16
def partner (l : Fin 512) : Fin 512 := ⟨if (l : Nat) % 32 < 16 then l + 16 else l - 16, by split <;> omega⟩

/-- A row of projected columns, turned: the partner's value, with the sign changed for the first of a pair. -/
def turned (p : Fin 512 → EReal) (l : Fin 512) : EReal := if leads l then -p (partner l) else p (partner l)

/-- The rotation of a row's column `l` by the angle whose cosine and sine are given. -/
def rotate (p : Fin 512 → EReal) (cos sin : EReal) (l : Fin 512) : EReal := p l * cos + turned p l * sin

theorem minus_one : (Ideal.ofBits .f32 0xBF800000#32 : EReal) = ((-1 : ℝ) : EReal) := by
  simp [Ideal.ofBits, Ideal.ieee, -EReal.coe_mul, -EReal.coe_neg]
  norm_num

/-- The product with a column whose sign the host has changed. -/
theorem turned_sum {n : Nat} (h : Fin n → EReal) (w : Fin n → Fin 512 → EReal) (hh : ∀ k, Real1 (h k)) (hw : ∀ k l, Real1 (w k l))
    (l : Fin 512) :
    ∑ k, h k * (w k (partner l) * Ideal.ofBits .f32 (if leads l then 0xBF800000#32 else 0x3F800000#32))
      = turned (fun l => ∑ k, h k * w k l) l := by
  unfold turned
  split
  · choose a ea using hh
    choose b eb using fun k => hw k (partner l)
    rw [minus_one]
    simp only [ea, eb, ← EReal.coe_mul, coe_sum, ← EReal.coe_neg]
    exact congrArg _ (by rw [← Finset.sum_neg_distrib]; exact Finset.sum_congr rfl fun k _ => by ring)
  · rw [Ideal.ofBits_one_f32]
    simp only [mul_one]

/-- The host's choice of columns: column `l` of the result is the operand's column whose number the table holds at `l`. -/
abbrev columns (wf : GatherDims.WF ⟨2, ![1024, 512]⟩ ⟨2, ![512, 1]⟩ ⟨2, ![1024, 512]⟩ [0] [1] [] [1] [] 1 ![1024, 1]) :
    GatherDims ⟨2, ![1024, 512]⟩ ⟨2, ![512, 1]⟩ ⟨2, ![1024, 512]⟩ where
  offsetDims := [0]
  collapsedSliceDims := [1]
  operandBatchingDims := []
  startIndicesBatchingDims := []
  startIndexMap := [1]
  indexVectorDim := 1
  sliceSizes := ![1024, 1]
  wf := wf

theorem columns_at {α : Type} (wf) (x : (⟨2, ![1024, 512]⟩ : Shape).Idx → α) (t : IVec ⟨2, ![512, 1]⟩ 32) (k : Fin 1024) (l j : Fin 512)
    (e : t (ix2 l 0) = BitVec.ofNat 32 j) : Host.gather (columns wf) x t (ix2 k l) = x (ix2 k j) := by
  unfold Host.gather
  refine congrArg x (funext fun a => Fin.ext ?_)
  show (columns wf).start (ix2 k l) t a + (columns wf).batchCoord (ix2 k l) a + (columns wf).offCoord (ix2 k l) a = _
  rw [GatherDims.batchCoord_eq_zero _ _ _ List.not_mem_nil, Nat.add_zero]
  match a with
  | ⟨0, _⟩ =>
    have hs : (columns wf).start (ix2 k l) t 0 = 0 := dif_neg fun h => absurd (List.mem_singleton.mp h) (by decide)
    exact (congrArg (· + _) hs).trans ((Nat.zero_add _).trans rfl)
  | ⟨1, _⟩ =>
    have ho : (columns wf).offCoord (ix2 k l) 1 = 0 :=
      GatherDims.offCoord_eq_zero _ _ _ fun h => ((GatherDims.mem_sKept _ _).mp h).1 (List.mem_singleton.mpr rfl)
    have hm : (1 : Fin 2) ∈ (columns wf).startIndexMap := List.mem_singleton.mpr rfl
    have hi : (columns wf).siIdx (ix2 k l) ⟨List.idxOf (1 : Fin 2) (columns wf).startIndexMap, List.idxOf_lt_length_iff.2 hm⟩
        = ix2 l 0 := by
      funext b
      refine Fin.ext ?_
      match b with
      | ⟨0, _⟩ => rfl
      | ⟨1, _⟩ => rfl
    have hs : (columns wf).start (ix2 k l) t 1 = j := by
      unfold GatherDims.start
      rw [dif_pos hm, hi, e]
      have hj : (BitVec.ofNat 32 (j : Nat)).toInt.toNat = j := by
        have := j.isLt
        rw [BitVec.toInt_eq_toNat_of_lt (by rw [BitVec.toNat_ofNat]; omega), BitVec.toNat_ofNat]
        omega
      rw [hj]
      exact Nat.min_eq_left (by have := j.isLt; show (j : Nat) ≤ 512 - 1; omega)
    exact (congrArg (_ + ·) ho).trans hs

/-- Under `projected_finite`, every activation and every weight is a real number. -/
theorem projected_real [Cert.Pre_projected_finite.Facts] (x0 : Cert.Pre_projected_finite.S32x2048x1024.Idx → EReal)
    (x1 : Cert.Pre_projected_finite.S1024x512.Idx → EReal) (x2 x3 : Cert.Pre_projected_finite.S2048x64.Idx → EReal)
    (h : Cert.Pre_projected_finite.fn (F := Ideal) x0 x1 x2 x3 = fun _ => 1#1) : (∀ i, Real1 (x0 i)) ∧ ∀ i, Real1 (x1 i) := by
  have e : ∀ {f : IVec ⟨0, ![]⟩ 1}, f (fun a => a.elim0) = 1#1 → f = fun _ => 1#1 := fun hf =>
    funext fun j => by rw [← hf]; exact congrArg _ (funext fun a => a.elim0)
  obtain ⟨h0, h1⟩ := and_one (congrFun h (fun a => a.elim0))
  refine ⟨fun i => ?_, fun i => real_of_lt x1 _ i (all_one _ _ _ _ (e h1) i)⟩
  have h' : Ideal.cmp .olt (max (x0 i) (-(x0 i))) (Ideal.ofBits .f32 0x7F800000#32) = 1 := all_one _ _ _ _ (e h0) i
  rw [posInf] at h'
  exact real_of_abs_lt ((Ideal.cmp_olt_eq_one _ _).mp h')

end Cert.Rope

end
-- ==== Proof.RopeQ.lean ====
/- The queries' projection with its rotation: the reference read at an index, the kernel's block, and the kernel's result array, all
   one function of the arguments. -/
module

public import proofs.«01_k».proof.Proof.Gen.RopeQIdeal.Frame
public import proofs.«01_k».proof.Proof.Gen.RopeQIdeal.Value
public import proofs.«01_k».proof.Proof.Gen.RopeQReferenceIdeal.Read
public import proofs.«01_k».proof.Proof.Rope
public import Idealize.ShloMosaic.Lib.Pointwise
public import Idealize.ShloMosaic.Lib.Pointwise.Select
public import Idealize.ShloMosaic.Lib.Pipeline.ValueKit

@[expose] public section

set_option maxRecDepth 16384

noncomputable section

namespace Cert.RopeQReferenceIdeal.OutRead

open Cert.RopeQReferenceIdeal Cert.RopeQReferenceIdeal.Gen Cert.RopeQReferenceIdeal.Read Idealize.ShloMosaic Idealize.ShloMosaic.TcCoe Idealize.SL.Sem
open Cert.Rope Cert.Attn

variable (x0 : FVec Ideal S32x2048x1024 .bf16) (x1 : FVec Ideal S1024x512 .f32) (x2 x3 : FVec Ideal S2048x64 .f32)

/-- One projected row. -/
def proj (b : Fin 32) (r : Fin 2048) (l : Fin 512) : EReal := ∑ j : Fin 1024, x0 (ix3 b r j) * x1 (ix2 j l)

/-- A column's place among its head's 64. -/
def lane (l : Fin 512) : Fin 64 := ⟨l % 64, by omega⟩

/-- The call's result at batch `b`, row `r`, column `l`. -/
def valueAt (b : Fin 32) (r : Fin 2048) (l : Fin 512) : EReal :=
  rotate (proj x0 x1 b r) (x2 (ix2 r (lane l))) (x3 (ix2 r (lane l))) l * Ideal.ofBits .f32 0x3E000000#32

theorem proj_at (b : Fin 32) (r : Fin 2048) (l : Fin 512) : val_main_v1 (F := Ideal) x0 x1 (ix3 b r l) = proj x0 x1 b r l := by
  pointwise [val_main_v1, val_main_v0]
  rfl

/-- The columns by head, half of a head, axis, half of an axis and place: the reference's view of a row. -/
theorem split_at (b : Fin 32) (r : Fin 2048) (g : Fin 4) (t a s : Fin 2) (d : Fin 16) :
    val_main_v3 (F := Ideal) x0 x1 (ix7 b r g t a s d)
      = proj x0 x1 b r ⟨g * 128 + t * 64 + (a * 32 + s * 16 + d), by omega⟩ := by
  pointwise [val_main_v3, val_main_v2]
  rw [proj_at]

/-- The turned columns: the second half of an axis with its sign changed, then the first half. -/
theorem turned_first (b : Fin 32) (r : Fin 2048) (g : Fin 4) (t a : Fin 2) (d : Fin 16) :
    val_main_v7 (F := Ideal) x0 x1 (ix7 b r g t a 0 d) = -val_main_v3 (F := Ideal) x0 x1 (ix7 b r g t a 1 d) := by
  pointwise [val_main_v7, val_main_v6, val_main_v5, val_main_v4]

theorem turned_second (b : Fin 32) (r : Fin 2048) (g : Fin 4) (t a : Fin 2) (d : Fin 16) :
    val_main_v7 (F := Ideal) x0 x1 (ix7 b r g t a 1 d) = val_main_v3 (F := Ideal) x0 x1 (ix7 b r g t a 0 d) := by
  pointwise [val_main_v7, val_main_v6, val_main_v5, val_main_v4]

theorem turned_at (b : Fin 32) (r : Fin 2048) (g : Fin 4) (t a s : Fin 2) (d : Fin 16) :
    val_main_v7 (F := Ideal) x0 x1 (ix7 b r g t a s d)
      = turned (proj x0 x1 b r) ⟨g * 128 + t * 64 + (a * 32 + s * 16 + d), by omega⟩ := by
  unfold turned partner
  match s with
  | ⟨0, _⟩ =>
    rw [if_pos (by dsimp only [leads]; omega)]
    refine (turned_first x0 x1 b r g t a d).trans ?_
    rw [split_at]
    refine congrArg (fun l => -proj x0 x1 b r l) (Fin.ext ?_)
    dsimp only
    rw [if_pos (by omega)]
    simp only [Fin.val_one]
    omega
  | ⟨1, _⟩ =>
    rw [if_neg (by dsimp only [leads]; omega)]
    refine (turned_second x0 x1 b r g t a d).trans ?_
    rw [split_at]
    refine congrArg (proj x0 x1 b r) (Fin.ext ?_)
    dsimp only
    rw [if_neg (by omega)]
    simp only [Fin.val_zero]
    omega

/-- The reference's result is the call's. -/
theorem out_at (b : Fin 32) (r : Fin 2048) (l : Fin 512) :
    val_main_v19 (F := Ideal) x0 x1 x2 x3 (ix3 b r l) = valueAt x0 x1 x2 x3 b r l := by
  pointwise [val_main_v19, val_main_v18, val_main_v17, val_main_v16, val_main_v15, val_main_v14, val_main_v13, val_main_v12, val_main_v11, val_main_v10, val_main_v9, val_main_v8, val_main_v2, val_main_cst]
  rw [turned_at, proj_at]
  unfold valueAt rotate lane
  refine congrArg (fun z => (_ + turned _ z * _) * _) (Fin.ext ?_)
  dsimp only
  omega

end Cert.RopeQReferenceIdeal.OutRead

namespace Cert.RopeQIdeal.Body

open Cert.RopeQIdeal Cert.RopeQIdeal.Gen Idealize.ShloMosaic Idealize.ShloMosaic.TcCoe Idealize.SL.Sem
open Cert.RopeQReferenceIdeal.OutRead Cert.Rope Cert.Attn

/-- The body's block at row `r`, column `l`: the product with the weight's first half of columns by the cosine, the product with its
    second half by the sine. -/
theorem block_at (h : S1x512x1024.Idx → EReal) (w : S1024x1024.Idx → EReal) (cos sin : S512x512.Idx → EReal) (r l : Fin 512) :
    k0_pay1 (F := Ideal) h w cos sin (ix3 0 r l)
      = ((∑ j : Fin 1024, h (ix3 0 r j) * w (ix2 j ⟨l, by omega⟩)) * cos (ix2 r l)
          + (∑ j : Fin 1024, h (ix3 0 r j) * w (ix2 j ⟨512 + l, by omega⟩)) * sin (ix2 r l)) * Ideal.ofBits .f32 0x3E000000#32 := by
  pointwise [k0_pay1]

/-- The host's table of column numbers holds each column's partner, its table of signs minus one for the first of a pair. -/
theorem table_at : ∀ l : Fin 512, lit0 l = BitVec.ofNat 32 (partner l) := by
  decide +kernel

theorem sign_at : ∀ l : Fin 512, lit1 l = if leads l then 0xBF800000#32 else 0x3F800000#32 := by
  decide +kernel

variable (m : (ℓ : Loc nD τ sig) → Buf (Elt Ideal) ℓ)

theorem idx : ∀ t : Fin cfg0.N, win0_0.index t = ![t.val / 4, t.val % 4, 0] ∧ win0_1.index t = ![0, 0]
    ∧ win0_2.index t = ![t.val % 4, 0] ∧ win0_3.index t = ![t.val % 4, 0] ∧ win0_4.index t = ![t.val / 4, t.val % 4, 0] :=
  (by decide +kernel : ∀ t : Fin grid0.N, _)

abbrev a0 (c : Dev nD) : S32x2048x1024.Idx → EReal := m ((c : Thread nD τ).loc main_arg0)
abbrev a1 (c : Dev nD) : S1024x512.Idx → EReal := m ((c : Thread nD τ).loc main_arg1)
abbrev a2 (c : Dev nD) : S2048x64.Idx → EReal := m ((c : Thread nD τ).loc main_arg2)
abbrev a3 (c : Dev nD) : S2048x64.Idx → EReal := m ((c : Thread nD τ).loc main_arg3)

/-- The batch of a point, and the array's row at row `r` of its block. -/
def bat (n : Nat) : Fin 32 := ⟨n / 4 % 32, by omega⟩
def row (n : Nat) (r : Fin 512) : Fin 2048 := ⟨n % 4 * 512 + r, by omega⟩

theorem h_at (c : Dev nD) (t : Fin cfg0.N) (r : Fin 512) (j : Fin 1024) :
    iblk m c 0 t (ix3 0 r j) = a0 m c (ix3 (bat t.val) (row t.val r) j) := by
  have ht : t.val < 128 := lt_of_lt_of_eq t.isLt N_0
  unfold a0 bat row
  blk_point [iblk, V, idx t]

/-- The weight's columns moved to their partners' places, with their signs. -/
def swapped (w : S1024x512.Idx → EReal) : S1024x512.Idx → EReal :=
  mulf (F := Ideal) (φ := .f32)
    (Host.gather gather_S1024x512_S512x1_S1024x512_0_1_n_n_1_1_10241 w
      (broadcastInDim S512x1 ![0] bcast_S512_S512x1_0 (select (constantI S512 1 0#1) (addi (fun i => lit0 (S512.rowMajor i))
        (broadcastInDim S512 ![] bcast_S_S512 (constantI S_ 32 512#32))) (fun i => lit0 (S512.rowMajor i)))))
    (broadcastInDim S1024x512 ![0, 1] bcast_S1x512_S1024x512_0_1 (broadcastInDim S1x512 ![1] bcast_S512_S1x512_1
      (fun i => FloatOps.ofBits (F := Ideal) .f32 (lit1 (S512.rowMajor i)))))

/-- The host joins the weight's columns and the moved ones. -/
theorem w_entry (c : Dev nD) : V m c main_v9 = concatenate S1024x1024 1 [⟨S1024x512, a1 m c⟩, ⟨S1024x512, swapped (a1 m c)⟩]
    concatenates_S1024x512_S1024x512_S1024x1024_d1 := by
  entry_read
  rfl

theorem number_at (i : S512.Idx) (l : Fin 512) (e : i = ix1 l) : S512.rowMajor i = l := by
  subst e
  exact Fin.ext (Shape.rowMajor_val_one _)

theorem swapped_at (w : S1024x512.Idx → EReal) (k : Fin 1024) (l : Fin 512) :
    swapped w (ix2 k l) = w (ix2 k (partner l)) * Ideal.ofBits .f32 (if leads l then 0xBF800000#32 else 0x3F800000#32) := by
  unfold swapped
  pointwise []
  rw [number_at _ l rfl, sign_at]
  refine congrArg (· * _) (columns_at _ w _ k l (partner l) ?_)
  pointwise []
  rw [number_at _ l rfl, table_at]

theorem first_at (c : Dev nD) (t : Fin cfg0.N) (j : Fin 1024) (l : Fin 512) :
    iblk m c 1 t (ix2 j ⟨l, by omega⟩) = a1 m c (ix2 j l) := by
  have e : iblk m c 1 t (ix2 j ⟨l, by omega⟩) = V m c main_v9 (ix2 j ⟨l, by omega⟩) := by
    blk_point [iblk, idx t]
  rw [e, w_entry]
  pointwise []

theorem second_at (c : Dev nD) (t : Fin cfg0.N) (j : Fin 1024) (l : Fin 512) :
    iblk m c 1 t (ix2 j ⟨512 + l, by omega⟩)
      = a1 m c (ix2 j (partner l)) * Ideal.ofBits .f32 (if leads l then 0xBF800000#32 else 0x3F800000#32) := by
  have e : iblk m c 1 t (ix2 j ⟨512 + l, by omega⟩) = V m c main_v9 (ix2 j ⟨512 + l, by omega⟩) := by
    blk_point [iblk, idx t]
  rw [e, w_entry, ← swapped_at]
  pointwise []

/-- The host lays eight copies of a table of angles side by side, one for each half of a head. -/
theorem cos_entry (c : Dev nD) : V m c main_v12 = shapeCast S2048x512 (broadcastInDim S1x2048x8x64 ![0, 1, 2, 3] bcast_S1x2048x1x64_S1x2048x8x64_0_1_2_3
    (shapeCast S1x2048x1x64 (a2 m c) shapeCasts_S2048x64_S1x2048x1x64)) shapeCasts_S1x2048x8x64_S2048x512 := by
  entry_read
  rfl

theorem sin_entry (c : Dev nD) : V m c main_v15 = shapeCast S2048x512 (broadcastInDim S1x2048x8x64 ![0, 1, 2, 3] bcast_S1x2048x1x64_S1x2048x8x64_0_1_2_3
    (shapeCast S1x2048x1x64 (a3 m c) shapeCasts_S2048x64_S1x2048x1x64)) shapeCasts_S1x2048x8x64_S2048x512 := by
  entry_read
  rfl

theorem cos_at (c : Dev nD) (t : Fin cfg0.N) (r l : Fin 512) : iblk m c 2 t (ix2 r l) = a2 m c (ix2 (row t.val r) (lane l)) := by
  have ht : t.val < 128 := lt_of_lt_of_eq t.isLt N_0
  have e : iblk m c 2 t (ix2 r l) = V m c main_v12 (ix2 (row t.val r) l) := by
    unfold row
    blk_point [iblk, idx t]
  rw [e, cos_entry]
  unfold lane
  pointwise []

theorem sin_at (c : Dev nD) (t : Fin cfg0.N) (r l : Fin 512) : iblk m c 3 t (ix2 r l) = a3 m c (ix2 (row t.val r) (lane l)) := by
  have ht : t.val < 128 := lt_of_lt_of_eq t.isLt N_0
  have e : iblk m c 3 t (ix2 r l) = V m c main_v15 (ix2 (row t.val r) l) := by
    unfold row
    blk_point [iblk, idx t]
  rw [e, sin_entry]
  unfold lane
  pointwise []

/-- The call's result over the program's arguments. -/
def value (c : Dev nD) (i : S32x2048x512.Idx) : EReal := valueAt (a0 m c) (a1 m c) (a2 m c) (a3 m c) (i 0) (i 1) (i 2)

theorem point (c : Dev nD) (hh : ∀ i, Real1 (a0 m c i)) (hw : ∀ i, Real1 (a1 m c i)) (t : Fin cfg0.N) (y : S1x512x512.Idx) :
    out0_4 (iblk m c 0 t) (iblk m c 1 t) (iblk m c 2 t) (iblk m c 3 t) y = value m c (((cfg0.win 4).blk t).view.emb y) := by
  have ht : t.val < 128 := lt_of_lt_of_eq t.isLt N_0
  obtain ⟨r, l, rfl⟩ : ∃ (r : Fin 512) (l : Fin 512), y = ix3 0 r l :=
    ⟨y 1, y 2, funext fun a => Fin.ext (by
      match a with
      | ⟨0, _⟩ => exact Nat.lt_one_iff.mp (y 0).isLt
      | ⟨1, _⟩ => rfl
      | ⟨2, _⟩ => rfl)⟩
  have e : ((cfg0.win 4).blk t).view.emb (ix3 0 r l) = ix3 (bat t.val) (row t.val r) l := by
    funext a
    apply Fin.ext
    unfold bat row
    match a with
    | ⟨0, _⟩ => blk_simp [idx t] <;> (dsimp only; omega)
    | ⟨1, _⟩ => blk_simp [idx t] <;> omega
    | ⟨2, _⟩ => blk_simp [idx t] <;> omega
  rw [e]
  frame_out
  rw [block_at, cos_at, sin_at]
  simp only [h_at, first_at, second_at]
  rw [turned_sum (fun j => a0 m c (ix3 (bat t.val) (row t.val r) j)) (fun j l => a1 m c (ix2 j l)) (fun _ => hh _) (fun _ _ => hw _) l]
  rfl

/-- The result array after the run. -/
theorem final (c : Dev nD) (hh : ∀ i, Real1 (a0 m c i)) (hw : ∀ i, Real1 (a1 m c i)) : (dats m 0 c).arrAt 4 (cfgs 0).N = value m c := by
  refine (dats m 0 c).arrAt_eq_of_covers 4 _ (by decide +kernel) fun t _ y => ?_
  blk_simp
  rw [after0_4]
  exact point m c hh hw t y

end Cert.RopeQIdeal.Body

end
-- ==== Proof.RopeK.lean ====
/- The keys' projection with its rotation: the reference read at an index, the kernel's block, and the kernel's result array, all
   one function of the arguments. -/
module

public import proofs.«01_k».proof.Proof.Gen.RopeKIdeal.Frame
public import proofs.«01_k».proof.Proof.Gen.RopeKIdeal.Value
public import proofs.«01_k».proof.Proof.Gen.RopeKReferenceIdeal.Read
public import proofs.«01_k».proof.Proof.Rope
public import Idealize.ShloMosaic.Lib.Pointwise
public import Idealize.ShloMosaic.Lib.Pointwise.Select
public import Idealize.ShloMosaic.Lib.Pipeline.ValueKit

@[expose] public section

set_option maxRecDepth 16384

noncomputable section

namespace Cert.RopeKReferenceIdeal.OutRead

open Cert.RopeKReferenceIdeal Cert.RopeKReferenceIdeal.Gen Cert.RopeKReferenceIdeal.Read Idealize.ShloMosaic Idealize.ShloMosaic.TcCoe Idealize.SL.Sem
open Cert.Rope Cert.Attn

variable (x0 : FVec Ideal S32x2048x1024 .bf16) (x1 : FVec Ideal S1024x512 .f32) (x2 x3 : FVec Ideal S2048x64 .f32)

/-- One projected row. -/
def proj (b : Fin 32) (r : Fin 2048) (l : Fin 512) : EReal := ∑ j : Fin 1024, x0 (ix3 b r j) * x1 (ix2 j l)

/-- A column's place among its head's 64. -/
def lane (l : Fin 512) : Fin 64 := ⟨l % 64, by omega⟩

/-- The call's result at batch `b`, row `r`, column `l`. -/
def valueAt (b : Fin 32) (r : Fin 2048) (l : Fin 512) : EReal :=
  rotate (proj x0 x1 b r) (x2 (ix2 r (lane l))) (x3 (ix2 r (lane l))) l

theorem proj_at (b : Fin 32) (r : Fin 2048) (l : Fin 512) : val_main_v1 (F := Ideal) x0 x1 (ix3 b r l) = proj x0 x1 b r l := by
  pointwise [val_main_v1, val_main_v0]
  rfl

/-- The columns by head, half of a head, axis, half of an axis and place: the reference's view of a row. -/
theorem split_at (b : Fin 32) (r : Fin 2048) (g : Fin 4) (t a s : Fin 2) (d : Fin 16) :
    val_main_v3 (F := Ideal) x0 x1 (ix7 b r g t a s d)
      = proj x0 x1 b r ⟨g * 128 + t * 64 + (a * 32 + s * 16 + d), by omega⟩ := by
  pointwise [val_main_v3, val_main_v2]
  rw [proj_at]

/-- The turned columns: the second half of an axis with its sign changed, then the first half. -/
theorem turned_first (b : Fin 32) (r : Fin 2048) (g : Fin 4) (t a : Fin 2) (d : Fin 16) :
    val_main_v7 (F := Ideal) x0 x1 (ix7 b r g t a 0 d) = -val_main_v3 (F := Ideal) x0 x1 (ix7 b r g t a 1 d) := by
  pointwise [val_main_v7, val_main_v6, val_main_v5, val_main_v4]

theorem turned_second (b : Fin 32) (r : Fin 2048) (g : Fin 4) (t a : Fin 2) (d : Fin 16) :
    val_main_v7 (F := Ideal) x0 x1 (ix7 b r g t a 1 d) = val_main_v3 (F := Ideal) x0 x1 (ix7 b r g t a 0 d) := by
  pointwise [val_main_v7, val_main_v6, val_main_v5, val_main_v4]

theorem turned_at (b : Fin 32) (r : Fin 2048) (g : Fin 4) (t a s : Fin 2) (d : Fin 16) :
    val_main_v7 (F := Ideal) x0 x1 (ix7 b r g t a s d)
      = turned (proj x0 x1 b r) ⟨g * 128 + t * 64 + (a * 32 + s * 16 + d), by omega⟩ := by
  unfold turned partner
  match s with
  | ⟨0, _⟩ =>
    rw [if_pos (by dsimp only [leads]; omega)]
    refine (turned_first x0 x1 b r g t a d).trans ?_
    rw [split_at]
    refine congrArg (fun l => -proj x0 x1 b r l) (Fin.ext ?_)
    dsimp only
    rw [if_pos (by omega)]
    simp only [Fin.val_one]
    omega
  | ⟨1, _⟩ =>
    rw [if_neg (by dsimp only [leads]; omega)]
    refine (turned_second x0 x1 b r g t a d).trans ?_
    rw [split_at]
    refine congrArg (proj x0 x1 b r) (Fin.ext ?_)
    dsimp only
    rw [if_neg (by omega)]
    simp only [Fin.val_zero]
    omega

/-- The reference's result is the call's. -/
theorem out_at (b : Fin 32) (r : Fin 2048) (l : Fin 512) :
    val_main_v17 (F := Ideal) x0 x1 x2 x3 (ix3 b r l) = valueAt x0 x1 x2 x3 b r l := by
  pointwise [val_main_v17, val_main_v16, val_main_v15, val_main_v14, val_main_v13, val_main_v12, val_main_v11, val_main_v10, val_main_v9, val_main_v8, val_main_v2]
  rw [turned_at, proj_at]
  unfold valueAt rotate lane
  refine congrArg (fun z => _ + turned _ z * _) (Fin.ext ?_)
  dsimp only
  omega

end Cert.RopeKReferenceIdeal.OutRead

namespace Cert.RopeKIdeal.Body

open Cert.RopeKIdeal Cert.RopeKIdeal.Gen Idealize.ShloMosaic Idealize.ShloMosaic.TcCoe Idealize.SL.Sem
open Cert.RopeKReferenceIdeal.OutRead Cert.Rope Cert.Attn

/-- The body's block at row `r`, column `l`: the product with the weight's first half of columns by the cosine, the product with its
    second half by the sine. -/
theorem block_at (h : S1x512x1024.Idx → EReal) (w : S1024x1024.Idx → EReal) (cos sin : S512x512.Idx → EReal) (r l : Fin 512) :
    k0_pay1 (F := Ideal) h w cos sin (ix3 0 r l)
      = (∑ j : Fin 1024, h (ix3 0 r j) * w (ix2 j ⟨l, by omega⟩)) * cos (ix2 r l)
          + (∑ j : Fin 1024, h (ix3 0 r j) * w (ix2 j ⟨512 + l, by omega⟩)) * sin (ix2 r l) := by
  pointwise [k0_pay1]

/-- The host's table of column numbers holds each column's partner, its table of signs minus one for the first of a pair. -/
theorem table_at : ∀ l : Fin 512, lit0 l = BitVec.ofNat 32 (partner l) := by
  decide +kernel

theorem sign_at : ∀ l : Fin 512, lit1 l = if leads l then 0xBF800000#32 else 0x3F800000#32 := by
  decide +kernel

variable (m : (ℓ : Loc nD τ sig) → Buf (Elt Ideal) ℓ)

theorem idx : ∀ t : Fin cfg0.N, win0_0.index t = ![t.val / 4, t.val % 4, 0] ∧ win0_1.index t = ![0, 0]
    ∧ win0_2.index t = ![t.val % 4, 0] ∧ win0_3.index t = ![t.val % 4, 0] ∧ win0_4.index t = ![t.val / 4, t.val % 4, 0] :=
  (by decide +kernel : ∀ t : Fin grid0.N, _)

abbrev a0 (c : Dev nD) : S32x2048x1024.Idx → EReal := m ((c : Thread nD τ).loc main_arg0)
abbrev a1 (c : Dev nD) : S1024x512.Idx → EReal := m ((c : Thread nD τ).loc main_arg1)
abbrev a2 (c : Dev nD) : S2048x64.Idx → EReal := m ((c : Thread nD τ).loc main_arg2)
abbrev a3 (c : Dev nD) : S2048x64.Idx → EReal := m ((c : Thread nD τ).loc main_arg3)

/-- The batch of a point, and the array's row at row `r` of its block. -/
def bat (n : Nat) : Fin 32 := ⟨n / 4 % 32, by omega⟩
def row (n : Nat) (r : Fin 512) : Fin 2048 := ⟨n % 4 * 512 + r, by omega⟩

theorem h_at (c : Dev nD) (t : Fin cfg0.N) (r : Fin 512) (j : Fin 1024) :
    iblk m c 0 t (ix3 0 r j) = a0 m c (ix3 (bat t.val) (row t.val r) j) := by
  have ht : t.val < 128 := lt_of_lt_of_eq t.isLt N_0
  unfold a0 bat row
  blk_point [iblk, V, idx t]

/-- The weight's columns moved to their partners' places, with their signs. -/
def swapped (w : S1024x512.Idx → EReal) : S1024x512.Idx → EReal :=
  mulf (F := Ideal) (φ := .f32)
    (Host.gather gather_S1024x512_S512x1_S1024x512_0_1_n_n_1_1_10241 w
      (broadcastInDim S512x1 ![0] bcast_S512_S512x1_0 (select (constantI S512 1 0#1) (addi (fun i => lit0 (S512.rowMajor i))
        (broadcastInDim S512 ![] bcast_S_S512 (constantI S_ 32 512#32))) (fun i => lit0 (S512.rowMajor i)))))
    (broadcastInDim S1024x512 ![0, 1] bcast_S1x512_S1024x512_0_1 (broadcastInDim S1x512 ![1] bcast_S512_S1x512_1
      (fun i => FloatOps.ofBits (F := Ideal) .f32 (lit1 (S512.rowMajor i)))))

/-- The host joins the weight's columns and the moved ones. -/
theorem w_entry (c : Dev nD) : V m c main_v9 = concatenate S1024x1024 1 [⟨S1024x512, a1 m c⟩, ⟨S1024x512, swapped (a1 m c)⟩]
    concatenates_S1024x512_S1024x512_S1024x1024_d1 := by
  entry_read
  rfl

theorem number_at (i : S512.Idx) (l : Fin 512) (e : i = ix1 l) : S512.rowMajor i = l := by
  subst e
  exact Fin.ext (Shape.rowMajor_val_one _)

theorem swapped_at (w : S1024x512.Idx → EReal) (k : Fin 1024) (l : Fin 512) :
    swapped w (ix2 k l) = w (ix2 k (partner l)) * Ideal.ofBits .f32 (if leads l then 0xBF800000#32 else 0x3F800000#32) := by
  unfold swapped
  pointwise []
  rw [number_at _ l rfl, sign_at]
  refine congrArg (· * _) (columns_at _ w _ k l (partner l) ?_)
  pointwise []
  rw [number_at _ l rfl, table_at]

theorem first_at (c : Dev nD) (t : Fin cfg0.N) (j : Fin 1024) (l : Fin 512) :
    iblk m c 1 t (ix2 j ⟨l, by omega⟩) = a1 m c (ix2 j l) := by
  have e : iblk m c 1 t (ix2 j ⟨l, by omega⟩) = V m c main_v9 (ix2 j ⟨l, by omega⟩) := by
    blk_point [iblk, idx t]
  rw [e, w_entry]
  pointwise []

theorem second_at (c : Dev nD) (t : Fin cfg0.N) (j : Fin 1024) (l : Fin 512) :
    iblk m c 1 t (ix2 j ⟨512 + l, by omega⟩)
      = a1 m c (ix2 j (partner l)) * Ideal.ofBits .f32 (if leads l then 0xBF800000#32 else 0x3F800000#32) := by
  have e : iblk m c 1 t (ix2 j ⟨512 + l, by omega⟩) = V m c main_v9 (ix2 j ⟨512 + l, by omega⟩) := by
    blk_point [iblk, idx t]
  rw [e, w_entry, ← swapped_at]
  pointwise []

/-- The host lays eight copies of a table of angles side by side, one for each half of a head. -/
theorem cos_entry (c : Dev nD) : V m c main_v12 = shapeCast S2048x512 (broadcastInDim S1x2048x8x64 ![0, 1, 2, 3] bcast_S1x2048x1x64_S1x2048x8x64_0_1_2_3
    (shapeCast S1x2048x1x64 (a2 m c) shapeCasts_S2048x64_S1x2048x1x64)) shapeCasts_S1x2048x8x64_S2048x512 := by
  entry_read
  rfl

theorem sin_entry (c : Dev nD) : V m c main_v15 = shapeCast S2048x512 (broadcastInDim S1x2048x8x64 ![0, 1, 2, 3] bcast_S1x2048x1x64_S1x2048x8x64_0_1_2_3
    (shapeCast S1x2048x1x64 (a3 m c) shapeCasts_S2048x64_S1x2048x1x64)) shapeCasts_S1x2048x8x64_S2048x512 := by
  entry_read
  rfl

theorem cos_at (c : Dev nD) (t : Fin cfg0.N) (r l : Fin 512) : iblk m c 2 t (ix2 r l) = a2 m c (ix2 (row t.val r) (lane l)) := by
  have ht : t.val < 128 := lt_of_lt_of_eq t.isLt N_0
  have e : iblk m c 2 t (ix2 r l) = V m c main_v12 (ix2 (row t.val r) l) := by
    unfold row
    blk_point [iblk, idx t]
  rw [e, cos_entry]
  unfold lane
  pointwise []

theorem sin_at (c : Dev nD) (t : Fin cfg0.N) (r l : Fin 512) : iblk m c 3 t (ix2 r l) = a3 m c (ix2 (row t.val r) (lane l)) := by
  have ht : t.val < 128 := lt_of_lt_of_eq t.isLt N_0
  have e : iblk m c 3 t (ix2 r l) = V m c main_v15 (ix2 (row t.val r) l) := by
    unfold row
    blk_point [iblk, idx t]
  rw [e, sin_entry]
  unfold lane
  pointwise []

/-- The call's result over the program's arguments. -/
def value (c : Dev nD) (i : S32x2048x512.Idx) : EReal := valueAt (a0 m c) (a1 m c) (a2 m c) (a3 m c) (i 0) (i 1) (i 2)

theorem point (c : Dev nD) (hh : ∀ i, Real1 (a0 m c i)) (hw : ∀ i, Real1 (a1 m c i)) (t : Fin cfg0.N) (y : S1x512x512.Idx) :
    out0_4 (iblk m c 0 t) (iblk m c 1 t) (iblk m c 2 t) (iblk m c 3 t) y = value m c (((cfg0.win 4).blk t).view.emb y) := by
  have ht : t.val < 128 := lt_of_lt_of_eq t.isLt N_0
  obtain ⟨r, l, rfl⟩ : ∃ (r : Fin 512) (l : Fin 512), y = ix3 0 r l :=
    ⟨y 1, y 2, funext fun a => Fin.ext (by
      match a with
      | ⟨0, _⟩ => exact Nat.lt_one_iff.mp (y 0).isLt
      | ⟨1, _⟩ => rfl
      | ⟨2, _⟩ => rfl)⟩
  have e : ((cfg0.win 4).blk t).view.emb (ix3 0 r l) = ix3 (bat t.val) (row t.val r) l := by
    funext a
    apply Fin.ext
    unfold bat row
    match a with
    | ⟨0, _⟩ => blk_simp [idx t] <;> (dsimp only; omega)
    | ⟨1, _⟩ => blk_simp [idx t] <;> omega
    | ⟨2, _⟩ => blk_simp [idx t] <;> omega
  rw [e]
  frame_out
  rw [block_at, cos_at, sin_at]
  simp only [h_at, first_at, second_at]
  rw [turned_sum (fun j => a0 m c (ix3 (bat t.val) (row t.val r) j)) (fun j l => a1 m c (ix2 j l)) (fun _ => hh _) (fun _ _ => hw _) l]
  rfl

/-- The result array after the run. -/
theorem final (c : Dev nD) (hh : ∀ i, Real1 (a0 m c i)) (hw : ∀ i, Real1 (a1 m c i)) : (dats m 0 c).arrAt 4 (cfgs 0).N = value m c := by
  refine (dats m 0 c).arrAt_eq_of_covers 4 _ (by decide +kernel) fun t _ y => ?_
  blk_simp
  rw [after0_4]
  exact point m c hh hw t y

end Cert.RopeKIdeal.Body

end
-- ==== Proof.ContextIn.lean ====
/- The context's projection, keys and values for the attention and values for the mLSTM side by side: the reference read at an
   index, the kernel's block, and the kernel's result array, all one function of the arguments. -/
module

public import proofs.«01_k».proof.Proof.Gen.ContextInIdeal.Frame
public import proofs.«01_k».proof.Proof.Gen.ContextInIdeal.Value
public import proofs.«01_k».proof.Proof.Gen.ContextInReferenceIdeal.Read
public import Idealize.ShloMosaic.Lib.Pointwise
public import Idealize.ShloMosaic.Lib.Pipeline.ValueKit

@[expose] public section

set_option maxRecDepth 16384

noncomputable section

namespace Cert.ContextInReferenceIdeal.OutRead

open Cert.ContextInReferenceIdeal Cert.ContextInReferenceIdeal.Gen Cert.ContextInReferenceIdeal.Read Idealize.ShloMosaic Idealize.ShloMosaic.TcCoe Idealize.SL.Sem

variable (x0 : FVec Ideal S32x256x1024 .bf16) (x1 : FVec Ideal S1024x1536 .bf16)

/-- The call's result at batch `b`, row `r`, column `l`. -/
def valueAt (b : Fin 32) (r : Fin 256) (l : Fin 1536) : EReal := ∑ j : Fin 1024, x0 (ix3 b r j) * x1 (ix2 j l)

/-- The reference's result is the call's. -/
theorem out_at (b : Fin 32) (r : Fin 256) (l : Fin 1536) : val_main_v3 (F := Ideal) x0 x1 (ix3 b r l) = valueAt x0 x1 b r l := by
  pointwise [val_main_v3, val_main_v2, val_main_v1, val_main_v0]
  rfl

end Cert.ContextInReferenceIdeal.OutRead

namespace Cert.ContextInIdeal.Body

open Cert.ContextInIdeal Cert.ContextInIdeal.Gen Idealize.ShloMosaic Idealize.ShloMosaic.TcCoe Idealize.SL.Sem
open Cert.ContextInReferenceIdeal.OutRead

/-- The body's block at row `r`, column `l`. -/
theorem block_at (h : S1x256x1024.Idx → EReal) (w : S1024x512.Idx → EReal) (b : S1x512.Idx → EReal) (r : Fin 256) (l : Fin 512) :
    k0_pay1 (F := Ideal) h w b (ix3 0 r l) = (∑ j : Fin 1024, h (ix3 0 r j) * w (ix2 j l)) + b (ix2 0 l) := by
  pointwise [k0_pay1]

variable (m : (ℓ : Loc nD τ sig) → Buf (Elt Ideal) ℓ)

theorem idx : ∀ t : Fin cfg0.N, win0_0.index t = ![t.val / 3, 0, 0] ∧ win0_1.index t = ![0, t.val % 3]
    ∧ win0_2.index t = ![0, t.val % 3] ∧ win0_3.index t = ![t.val / 3, 0, t.val % 3] :=
  (by decide +kernel : ∀ t : Fin grid0.N, _)

abbrev a0 (c : Dev nD) : S32x256x1024.Idx → EReal := m ((c : Thread nD τ).loc main_arg0)
abbrev a1 (c : Dev nD) : S1024x1536.Idx → EReal := m ((c : Thread nD τ).loc main_arg1)

/-- The batch of a point, and the array's column at column `l` of its block. -/
def bat (n : Nat) : Fin 32 := ⟨n / 3 % 32, by omega⟩
def col (n : Nat) (l : Fin 512) : Fin 1536 := ⟨n % 3 * 512 + l, by omega⟩

theorem h_at (c : Dev nD) (t : Fin cfg0.N) (r : Fin 256) (j : Fin 1024) : iblk m c 0 t (ix3 0 r j) = a0 m c (ix3 (bat t.val) r j) := by
  have ht : t.val < 96 := lt_of_lt_of_eq t.isLt N_0
  unfold a0 bat
  blk_point [iblk, V, idx t]

theorem w_at (c : Dev nD) (t : Fin cfg0.N) (j : Fin 1024) (l : Fin 512) : iblk m c 1 t (ix2 j l) = a1 m c (ix2 j (col t.val l)) := by
  have ht : t.val < 96 := lt_of_lt_of_eq t.isLt N_0
  unfold a1 col
  blk_point [iblk, V, idx t]

/-- The projection has no bias: the call's bias operand is a row of zeros. -/
theorem bias_entry (c : Dev nD) :
    V m c main_v1 = shapeCast S1x1536 (broadcastInDim S1536 ![] bcast_S_S1536 (constant (F := Ideal) S_ .f32 0x00000000#32))
      shapeCasts_S1536_S1x1536 := by
  entry_read
  rfl

theorem bias_at (c : Dev nD) (t : Fin cfg0.N) (l : Fin 512) : iblk m c 2 t (ix2 0 l) = (0 : EReal) := by
  have ht : t.val < 96 := lt_of_lt_of_eq t.isLt N_0
  have e : iblk m c 2 t (ix2 0 l) = V m c main_v1 (ix2 0 (col t.val l)) := by
    unfold col
    blk_point [iblk, idx t]
  rw [e, bias_entry]
  pointwise []

/-- The call's result over the program's arguments. -/
def value (c : Dev nD) (i : S32x256x1536.Idx) : EReal := valueAt (a0 m c) (a1 m c) (i 0) (i 1) (i 2)

theorem point (c : Dev nD) (t : Fin cfg0.N) (y : S1x256x512.Idx) :
    out0_3 (iblk m c 0 t) (iblk m c 1 t) (iblk m c 2 t) y = value m c (((cfg0.win 3).blk t).view.emb y) := by
  have ht : t.val < 96 := lt_of_lt_of_eq t.isLt N_0
  obtain ⟨r, l, rfl⟩ : ∃ (r : Fin 256) (l : Fin 512), y = ix3 0 r l :=
    ⟨y 1, y 2, funext fun a => Fin.ext (by
      match a with
      | ⟨0, _⟩ => exact Nat.lt_one_iff.mp (y 0).isLt
      | ⟨1, _⟩ => rfl
      | ⟨2, _⟩ => rfl)⟩
  have e : ((cfg0.win 3).blk t).view.emb (ix3 0 r l) = ix3 (bat t.val) r (col t.val l) := by
    funext a
    apply Fin.ext
    unfold bat col
    match a with
    | ⟨0, _⟩ => blk_simp [idx t] <;> (dsimp only; omega)
    | ⟨1, _⟩ => blk_simp [idx t] <;> omega
    | ⟨2, _⟩ => blk_simp [idx t] <;> omega
  rw [e]
  frame_out
  rw [block_at, bias_at, add_zero]
  simp only [h_at, w_at]
  rfl

/-- The result array after the run. -/
theorem final (c : Dev nD) : (dats m 0 c).arrAt 3 (cfgs 0).N = value m c := by
  refine (dats m 0 c).arrAt_eq_of_covers 3 _ (by decide +kernel) fun t _ y => ?_
  blk_simp
  rw [after0_3]
  exact point m c t y

end Cert.ContextInIdeal.Body

end
-- ==== Proof.ContextConv.lean ====
/- The context's projected keys, convolved and through SiLU: the reference read at an index, the kernel's block, and the
   kernel's result array, all one function of the arguments. -/
module

public import proofs.«01_k».proof.Proof.Gen.ContextConvIdeal.Frame
public import proofs.«01_k».proof.Proof.Gen.ContextConvIdeal.Value
public import proofs.«01_k».proof.Proof.Gen.ContextConvReferenceIdeal.Read
public import proofs.«01_k».proof.Proof.Mixer
public import proofs.«01_k».proof.Proof.MoeMath
public import Idealize.ShloMosaic.Lib.Pointwise
public import Idealize.ShloMosaic.Lib.Pipeline.ValueKit

@[expose] public section

set_option maxRecDepth 16384

noncomputable section

namespace Cert.ContextConvReferenceIdeal.ConvRead

open Cert.ContextConvReferenceIdeal Cert.ContextConvReferenceIdeal.Gen Cert.ContextConvReferenceIdeal.Read Idealize.ShloMosaic Idealize.ShloMosaic.TcCoe Idealize.SL.Sem
open Cert.Mixer Cert.Experts

variable (x0 : FVec Ideal S32x256x1024 .bf16) (x1 : FVec Ideal S1024x512 .bf16) (x2 : FVec Ideal S3x512 .f32) (x3 : FVec Ideal S512 .f32)

/-- The product of a value with its logistic. -/
def silu (v : EReal) : EReal := Ideal.div v (1 + Ideal.exp (-v))

/-- One column of one batch's product. -/
def column (b : Fin 32) (l : Fin 512) (r : Fin 256) : EReal := ∑ j : Fin 1024, x0 (ix3 b r j) * x1 (ix2 j l)

/-- The call's result at batch `b`, row `r`, column `l`. -/
def valueAt (b : Fin 32) (r : Fin 256) (l : Fin 512) : EReal :=
  silu (conv (column x0 x1 b l) (x2 (ix2 0 l)) (x2 (ix2 1 l)) (x2 (ix2 2 l)) (x3 (ix1 l)) r)

theorem column_at (b : Fin 32) (r : Fin 256) (l : Fin 512) : val_main_v2 (F := Ideal) x0 x1 (ix3 b r l) = column x0 x1 b l r := by
  pointwise [val_main_v2, val_main_v1, val_main_v0]
  rfl

/-- The reference's sum of taps. -/
theorem taps_at (b : Fin 32) (r : Fin 256) (l : Fin 512) :
    val_main_v28 (F := Ideal) x0 x1 x2 x3 (ix3 b r l)
      = conv (column x0 x1 b l) (x2 (ix2 0 l)) (x2 (ix2 1 l)) (x2 (ix2 2 l)) (x3 (ix1 l)) r := by
  pointwise [val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst, val_main_call0_v0, val_main_c]
  simp only [column_at]
  exact padded (column x0 x1 b l) _ _ _ _ r

/-- The reference's result is the call's. -/
theorem out_at (b : Fin 32) (r : Fin 256) (l : Fin 512) :
    val_main_v30 (F := Ideal) x0 x1 x2 x3 (ix3 b r l) = valueAt x0 x1 x2 x3 b r l := by
  pointwise [val_main_v30, val_main_v29, val_main_call1_v5, val_main_call1_v4, val_main_call1_cst_0, val_main_call1_v3, val_main_call1_v2, val_main_call1_cst, val_main_call1_v1, val_main_call1_v0]
  rw [taps_at, gate_eq]
  rfl

end Cert.ContextConvReferenceIdeal.ConvRead

namespace Cert.ContextConvIdeal.Body

open Cert.ContextConvIdeal Cert.ContextConvIdeal.Gen Idealize.ShloMosaic Idealize.ShloMosaic.TcCoe Idealize.SL.Sem
open Cert.Mixer Cert.ContextConvReferenceIdeal.ConvRead

/-- The body's block at row `r`, column `l`. -/
theorem block_at (h : S1x256x1024.Idx → EReal) (w : S1024x512.Idx → EReal) (c0 c1 c2 b : S1x512.Idx → EReal) (r : Fin 256) (l : Fin 512) :
    k0_pay1 (F := Ideal) (k0_pay2 (F := Ideal) h w c0 c1 c2 b) (ix3 0 r l)
      = silu (conv (fun r => ∑ j : Fin 1024, h (ix3 0 r j) * w (ix2 j l)) (c0 (ix2 0 l)) (c1 (ix2 0 l)) (c2 (ix2 0 l)) (b (ix2 0 l)) r) := by
  pointwise [k0_pay1, k0_pay2]
  unfold silu
  rw [← rolled 255 (by decide) rfl (fun r => ∑ j : Fin 1024, h (ix3 0 r j) * w (ix2 j l)) (c0 (ix2 0 l)) (c1 (ix2 0 l)) (c2 (ix2 0 l)) (b (ix2 0 l)) r
    (Nat.mod_lt _ (by decide)) (Nat.mod_lt _ (by decide)), ← zero_sub]

variable (m : (ℓ : Loc nD τ sig) → Buf (Elt Ideal) ℓ)

theorem idx : ∀ t : Fin cfg0.N, win0_0.index t = ![t.val, 0, 0] ∧ win0_1.index t = ![0, 0]
    ∧ win0_2.index t = ![0, 0] ∧ win0_3.index t = ![0, 0] ∧ win0_4.index t = ![t.val, 0, 0] :=
  (by decide +kernel : ∀ t : Fin grid0.N, _)

abbrev a0 (c : Dev nD) : S32x256x1024.Idx → EReal := m ((c : Thread nD τ).loc main_arg0)
abbrev a1 (c : Dev nD) : S1024x512.Idx → EReal := m ((c : Thread nD τ).loc main_arg1)
abbrev a2 (c : Dev nD) : S3x512.Idx → EReal := m ((c : Thread nD τ).loc main_arg2)
abbrev a3 (c : Dev nD) : S512.Idx → EReal := m ((c : Thread nD τ).loc main_arg3)

/-- The batch of a point. -/
def bat (n : Nat) : Fin 32 := ⟨n % 32, by omega⟩

theorem h_at (c : Dev nD) (t : Fin cfg0.N) (r : Fin 256) (j : Fin 1024) : iblk m c 0 t (ix3 0 r j) = a0 m c (ix3 (bat t.val) r j) := by
  have ht : t.val < 32 := lt_of_lt_of_eq t.isLt N_0
  unfold a0 bat
  blk_point [iblk, V, idx t]

theorem w_at (c : Dev nD) (t : Fin cfg0.N) (j : Fin 1024) (l : Fin 512) : iblk m c 1 t (ix2 j l) = a1 m c (ix2 j l) := by
  have ht : t.val < 32 := lt_of_lt_of_eq t.isLt N_0
  unfold a1
  blk_point [iblk, V, idx t]

theorem tap_at (c : Dev nD) (t : Fin cfg0.N) (k : Fin 3) (l : Fin 512) : iblk m c 2 t (ix2 k l) = a2 m c (ix2 k l) := by
  have ht : t.val < 32 := lt_of_lt_of_eq t.isLt N_0
  unfold a2
  blk_point [iblk, V, idx t]

theorem bias_entry (c : Dev nD) : V m c main_v0 = shapeCast S1x512 (a3 m c) shapeCasts_S512_S1x512 := by
  entry_read
  rfl

theorem bias_at (c : Dev nD) (t : Fin cfg0.N) (l : Fin 512) : iblk m c 3 t (ix2 0 l) = a3 m c (ix1 l) := by
  have ht : t.val < 32 := lt_of_lt_of_eq t.isLt N_0
  have e : iblk m c 3 t (ix2 0 l) = V m c main_v0 (ix2 0 l) := by
    blk_point [iblk, idx t]
  rw [e, bias_entry]
  pointwise []

/-- The call's result over the program's arguments. -/
def value (c : Dev nD) (i : S32x256x512.Idx) : EReal := valueAt (a0 m c) (a1 m c) (a2 m c) (a3 m c) (i 0) (i 1) (i 2)

theorem point (c : Dev nD) (t : Fin cfg0.N) (y : S1x256x512.Idx) :
    out0_4 (iblk m c 0 t) (iblk m c 1 t) (iblk m c 2 t) (iblk m c 3 t) y = value m c (((cfg0.win 4).blk t).view.emb y) := by
  have ht : t.val < 32 := lt_of_lt_of_eq t.isLt N_0
  obtain ⟨r, l, rfl⟩ : ∃ (r : Fin 256) (l : Fin 512), y = ix3 0 r l :=
    ⟨y 1, y 2, funext fun a => Fin.ext (by
      match a with
      | ⟨0, _⟩ => exact Nat.lt_one_iff.mp (y 0).isLt
      | ⟨1, _⟩ => rfl
      | ⟨2, _⟩ => rfl)⟩
  have e : ((cfg0.win 4).blk t).view.emb (ix3 0 r l) = ix3 (bat t.val) r l := by
    funext a
    apply Fin.ext
    unfold bat
    match a with
    | ⟨0, _⟩ => blk_simp [idx t] <;> (dsimp only; omega)
    | ⟨1, _⟩ => blk_simp [idx t] <;> omega
    | ⟨2, _⟩ => blk_simp [idx t] <;> omega
  rw [e]
  frame_out
  rw [block_at]
  have k0 : View.ld (iblk m c 2 t) r0_2 (ix2 0 l) = a2 m c (ix2 0 l) := (by pointwise [] : _ = iblk m c 2 t (ix2 0 l)).trans (tap_at m c t 0 l)
  have k1 : View.ld (iblk m c 2 t) r0_3 (ix2 0 l) = a2 m c (ix2 1 l) := (by pointwise [] : _ = iblk m c 2 t (ix2 1 l)).trans (tap_at m c t 1 l)
  have k2 : View.ld (iblk m c 2 t) r0_4 (ix2 0 l) = a2 m c (ix2 2 l) := (by pointwise [] : _ = iblk m c 2 t (ix2 2 l)).trans (tap_at m c t 2 l)
  rw [k0, k1, k2, bias_at]
  simp only [h_at, w_at]
  rfl

/-- The result array after the run. -/
theorem final (c : Dev nD) : (dats m 0 c).arrAt 4 (cfgs 0).N = value m c := by
  refine (dats m 0 c).arrAt_eq_of_covers 4 _ (by decide +kernel) fun t _ y => ?_
  blk_simp
  rw [after0_4]
  exact point m c t y

end Cert.ContextConvIdeal.Body

end
-- ==== Proof.lean ====
/- The certificate of the mixture of experts, of the differential attention and of nine projections: the frames from the
   generated runs; each value claim from two readings — the kernel's array (`final` in the call's `Body` or `Head`) and the
   reference's term (`out_at` in the call's reading) — of one function of the arguments. For the experts and the attention the two
   readings differ and are joined under the claim's precondition by `Cert.Experts.mixture_eq` and by `Cert.Attn.mixedRef_eq`; for the
   two rotated projections `final` itself takes what the precondition says of the arguments. -/
module

public import proofs.«01_k».proof.Defs
public import proofs.«01_k».proof.Proof.Gen.Moe
public import proofs.«01_k».proof.Proof.Gen.Moe.Skeleton
public import proofs.«01_k».proof.Proof.Gen.Moe.Launch
public import proofs.«01_k».proof.Proof.Gen.Moe.Points
public import proofs.«01_k».proof.Proof.Gen.Moe.Frame
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeReferenceIdeal
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_gates_real
public import proofs.«01_k».proof.Proof.Gen.Pre_scores_finite
public import proofs.«01_k».proof.Proof.Gen.MoeIdeal.Value
public import proofs.«01_k».proof.Proof.Gen.MoeReferenceIdeal.Run
public import proofs.«01_k».proof.Proof.Gen.MoeReferenceIdeal.Read
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.HyenaIn
public import proofs.«01_k».proof.Proof.Gen.HyenaIn.Skeleton
public import proofs.«01_k».proof.Proof.Gen.HyenaIn.Launch
public import proofs.«01_k».proof.Proof.Gen.HyenaIn.Points
public import proofs.«01_k».proof.Proof.Gen.HyenaIn.Frame
public import proofs.«01_k».proof.Proof.Gen.HyenaInIdeal
public import proofs.«01_k».proof.Proof.Gen.HyenaInIdeal.Skeleton
public import proofs.«01_k».proof.Proof.Gen.HyenaInIdeal.Launch
public import proofs.«01_k».proof.Proof.Gen.HyenaInIdeal.Points
public import proofs.«01_k».proof.Proof.Gen.HyenaInIdeal.Frame
public import proofs.«01_k».proof.Proof.Gen.HyenaInReferenceIdeal
public import proofs.«01_k».proof.Proof.Gen.HyenaInIdeal.Value
public import proofs.«01_k».proof.Proof.Gen.HyenaInReferenceIdeal.Run
public import proofs.«01_k».proof.Proof.Gen.HyenaInReferenceIdeal.Read
public import proofs.«01_k».proof.Proof.Gen.MixerConv
public import proofs.«01_k».proof.Proof.Gen.MixerConv.Skeleton
public import proofs.«01_k».proof.Proof.Gen.MixerConv.Launch
public import proofs.«01_k».proof.Proof.Gen.MixerConv.Points
public import proofs.«01_k».proof.Proof.Gen.MixerConv.Frame
public import proofs.«01_k».proof.Proof.Gen.MixerConvIdeal
public import proofs.«01_k».proof.Proof.Gen.MixerConvIdeal.Skeleton
public import proofs.«01_k».proof.Proof.Gen.MixerConvIdeal.Launch
public import proofs.«01_k».proof.Proof.Gen.MixerConvIdeal.Points
public import proofs.«01_k».proof.Proof.Gen.MixerConvIdeal.Frame
public import proofs.«01_k».proof.Proof.Gen.MixerConvReferenceIdeal
public import proofs.«01_k».proof.Proof.Gen.MixerConvIdeal.Value
public import proofs.«01_k».proof.Proof.Gen.MixerConvReferenceIdeal.Run
public import proofs.«01_k».proof.Proof.Gen.MixerConvReferenceIdeal.Read
public import proofs.«01_k».proof.Proof.Gen.MixerIn
public import proofs.«01_k».proof.Proof.Gen.MixerIn.Skeleton
public import proofs.«01_k».proof.Proof.Gen.MixerIn.Launch
public import proofs.«01_k».proof.Proof.Gen.MixerIn.Points
public import proofs.«01_k».proof.Proof.Gen.MixerIn.Frame
public import proofs.«01_k».proof.Proof.Gen.MixerInIdeal
public import proofs.«01_k».proof.Proof.Gen.MixerInIdeal.Skeleton
public import proofs.«01_k».proof.Proof.Gen.MixerInIdeal.Launch
public import proofs.«01_k».proof.Proof.Gen.MixerInIdeal.Points
public import proofs.«01_k».proof.Proof.Gen.MixerInIdeal.Frame
public import proofs.«01_k».proof.Proof.Gen.MixerInReferenceIdeal
public import proofs.«01_k».proof.Proof.Gen.MixerInIdeal.Value
public import proofs.«01_k».proof.Proof.Gen.MixerInReferenceIdeal.Run
public import proofs.«01_k».proof.Proof.Gen.MixerInReferenceIdeal.Read
public import proofs.«01_k».proof.Proof.Gen.HyenaOut
public import proofs.«01_k».proof.Proof.Gen.HyenaOut.Skeleton
public import proofs.«01_k».proof.Proof.Gen.HyenaOut.Launch
public import proofs.«01_k».proof.Proof.Gen.HyenaOut.Points
public import proofs.«01_k».proof.Proof.Gen.HyenaOut.Frame
public import proofs.«01_k».proof.Proof.Gen.HyenaOutIdeal
public import proofs.«01_k».proof.Proof.Gen.HyenaOutIdeal.Skeleton
public import proofs.«01_k».proof.Proof.Gen.HyenaOutIdeal.Launch
public import proofs.«01_k».proof.Proof.Gen.HyenaOutIdeal.Points
public import proofs.«01_k».proof.Proof.Gen.HyenaOutIdeal.Frame
public import proofs.«01_k».proof.Proof.Gen.HyenaOutReferenceIdeal
public import proofs.«01_k».proof.Proof.Gen.HyenaOutIdeal.Value
public import proofs.«01_k».proof.Proof.Gen.HyenaOutReferenceIdeal.Run
public import proofs.«01_k».proof.Proof.Gen.HyenaOutReferenceIdeal.Read
public import proofs.«01_k».proof.Proof.Gen.MixerOut
public import proofs.«01_k».proof.Proof.Gen.MixerOut.Skeleton
public import proofs.«01_k».proof.Proof.Gen.MixerOut.Launch
public import proofs.«01_k».proof.Proof.Gen.MixerOut.Points
public import proofs.«01_k».proof.Proof.Gen.MixerOut.Frame
public import proofs.«01_k».proof.Proof.Gen.MixerOutIdeal
public import proofs.«01_k».proof.Proof.Gen.MixerOutIdeal.Skeleton
public import proofs.«01_k».proof.Proof.Gen.MixerOutIdeal.Launch
public import proofs.«01_k».proof.Proof.Gen.MixerOutIdeal.Points
public import proofs.«01_k».proof.Proof.Gen.MixerOutIdeal.Frame
public import proofs.«01_k».proof.Proof.Gen.MixerOutReferenceIdeal
public import proofs.«01_k».proof.Proof.Gen.MixerOutIdeal.Value
public import proofs.«01_k».proof.Proof.Gen.MixerOutReferenceIdeal.Run
public import proofs.«01_k».proof.Proof.Gen.MixerOutReferenceIdeal.Read
public import proofs.«01_k».proof.Proof.Gen.RopeQ
public import proofs.«01_k».proof.Proof.Gen.RopeQ.Skeleton
public import proofs.«01_k».proof.Proof.Gen.RopeQ.Launch
public import proofs.«01_k».proof.Proof.Gen.RopeQ.Points
public import proofs.«01_k».proof.Proof.Gen.RopeQ.Frame
public import proofs.«01_k».proof.Proof.Gen.RopeQIdeal
public import proofs.«01_k».proof.Proof.Gen.RopeQIdeal.Skeleton
public import proofs.«01_k».proof.Proof.Gen.RopeQIdeal.Launch
public import proofs.«01_k».proof.Proof.Gen.RopeQIdeal.Points
public import proofs.«01_k».proof.Proof.Gen.RopeQIdeal.Frame
public import proofs.«01_k».proof.Proof.Gen.RopeQReferenceIdeal
public import proofs.«01_k».proof.Proof.Gen.RopeQIdeal.Value
public import proofs.«01_k».proof.Proof.Gen.RopeQReferenceIdeal.Run
public import proofs.«01_k».proof.Proof.Gen.RopeQReferenceIdeal.Read
public import proofs.«01_k».proof.Proof.Gen.RopeK
public import proofs.«01_k».proof.Proof.Gen.RopeK.Skeleton
public import proofs.«01_k».proof.Proof.Gen.RopeK.Launch
public import proofs.«01_k».proof.Proof.Gen.RopeK.Points
public import proofs.«01_k».proof.Proof.Gen.RopeK.Frame
public import proofs.«01_k».proof.Proof.Gen.RopeKIdeal
public import proofs.«01_k».proof.Proof.Gen.RopeKIdeal.Skeleton
public import proofs.«01_k».proof.Proof.Gen.RopeKIdeal.Launch
public import proofs.«01_k».proof.Proof.Gen.RopeKIdeal.Points
public import proofs.«01_k».proof.Proof.Gen.RopeKIdeal.Frame
public import proofs.«01_k».proof.Proof.Gen.RopeKReferenceIdeal
public import proofs.«01_k».proof.Proof.Gen.RopeKIdeal.Value
public import proofs.«01_k».proof.Proof.Gen.RopeKReferenceIdeal.Run
public import proofs.«01_k».proof.Proof.Gen.RopeKReferenceIdeal.Read
public import proofs.«01_k».proof.Proof.Gen.ContextIn
public import proofs.«01_k».proof.Proof.Gen.ContextIn.Skeleton
public import proofs.«01_k».proof.Proof.Gen.ContextIn.Launch
public import proofs.«01_k».proof.Proof.Gen.ContextIn.Points
public import proofs.«01_k».proof.Proof.Gen.ContextIn.Frame
public import proofs.«01_k».proof.Proof.Gen.ContextInIdeal
public import proofs.«01_k».proof.Proof.Gen.ContextInIdeal.Skeleton
public import proofs.«01_k».proof.Proof.Gen.ContextInIdeal.Launch
public import proofs.«01_k».proof.Proof.Gen.ContextInIdeal.Points
public import proofs.«01_k».proof.Proof.Gen.ContextInIdeal.Frame
public import proofs.«01_k».proof.Proof.Gen.ContextInReferenceIdeal
public import proofs.«01_k».proof.Proof.Gen.ContextInIdeal.Value
public import proofs.«01_k».proof.Proof.Gen.ContextInReferenceIdeal.Run
public import proofs.«01_k».proof.Proof.Gen.ContextInReferenceIdeal.Read
public import proofs.«01_k».proof.Proof.Gen.ContextConv
public import proofs.«01_k».proof.Proof.Gen.ContextConv.Skeleton
public import proofs.«01_k».proof.Proof.Gen.ContextConv.Launch
public import proofs.«01_k».proof.Proof.Gen.ContextConv.Points
public import proofs.«01_k».proof.Proof.Gen.ContextConv.Frame
public import proofs.«01_k».proof.Proof.Gen.ContextConvIdeal
public import proofs.«01_k».proof.Proof.Gen.ContextConvIdeal.Skeleton
public import proofs.«01_k».proof.Proof.Gen.ContextConvIdeal.Launch
public import proofs.«01_k».proof.Proof.Gen.ContextConvIdeal.Points
public import proofs.«01_k».proof.Proof.Gen.ContextConvIdeal.Frame
public import proofs.«01_k».proof.Proof.Gen.ContextConvReferenceIdeal
public import proofs.«01_k».proof.Proof.Gen.ContextConvIdeal.Value
public import proofs.«01_k».proof.Proof.Gen.ContextConvReferenceIdeal.Run
public import proofs.«01_k».proof.Proof.Gen.ContextConvReferenceIdeal.Read
public import proofs.«01_k».proof.Proof.Gen.Pre_projected_finite
public import proofs.«01_k».proof.Proof.MoeArray
public import proofs.«01_k».proof.Proof.Array
public import proofs.«01_k».proof.Proof.AttnRef
public import proofs.«01_k».proof.Proof.Gates
public import proofs.«01_k».proof.Proof.HyenaIn
public import proofs.«01_k».proof.Proof.MixerConv
public import proofs.«01_k».proof.Proof.MixerIn
public import proofs.«01_k».proof.Proof.HyenaOut
public import proofs.«01_k».proof.Proof.MixerOut
public import proofs.«01_k».proof.Proof.Rope
public import proofs.«01_k».proof.Proof.RopeQ
public import proofs.«01_k».proof.Proof.RopeK
public import proofs.«01_k».proof.Proof.ContextIn
public import proofs.«01_k».proof.Proof.ContextConv
public import Idealize.ShloMosaic.Lib.Claim
public import Idealize.ShloMosaic.Adequacy
public import Idealize.ShloMosaic.Init

@[expose] public section

noncomputable section

namespace Cert.Proof

open Idealize.ShloMosaic Idealize.SL.Sem

/-- Where the routed experts' weights are real and not negative, the reference's layer is the kernel's, index by index. -/
theorem experts_value (x0 : Cert.MoeReferenceIdeal.S32x2048x1024.Idx → EReal) (x1 : Cert.MoeReferenceIdeal.S32x2048x128.Idx → EReal)
    (x2 : Cert.MoeReferenceIdeal.S64x1024x512.Idx → EReal) (x3 : Cert.MoeReferenceIdeal.S64x256x1024.Idx → EReal)
    (x4 : Cert.MoeReferenceIdeal.S1024x512.Idx → EReal) (x5 : Cert.MoeReferenceIdeal.S256x1024.Idx → EReal)
    (x6 : Cert.MoeReferenceIdeal.S32x2048x1024.Idx → EReal) (x7 : Cert.MoeReferenceIdeal.S1024.Idx → EReal)
    (x8 : Cert.MoeReferenceIdeal.S32x1x1024.Idx → EReal)
    (h : Cert.Pre_gates_real.fn (F := Ideal) x0 x1 x2 x3 x4 x5 x6 x7 x8 = fun _ => 1#1) (i : Cert.MoeReferenceIdeal.S32x2048x1024.Idx) :
    Cert.MoeReferenceIdeal.Read.val_main_v40 (F := Ideal) x0 x1 x2 x3 x4 x5 x6 x7 x8 i
      = Cert.MoeIdeal.Body.valueAt x0 x1 x2 x3 x4 x5 x6 x7 x8 (i 0) (i 1) (i 2) := by
  obtain ⟨b, r, l, rfl⟩ : ∃ (b : Fin 32) (r : Fin 2048) (l : Fin 1024), i = ix3 b r l := ⟨i 0, i 1, i 2, funext fun a => by
    match a with
    | ⟨0, _⟩ => rfl
    | ⟨1, _⟩ => rfl
    | ⟨2, _⟩ => rfl⟩
  refine (Cert.MoeReferenceIdeal.MoeRead.out_at x0 x1 x2 x3 x4 x5 x6 x7 x8 b r l).trans ?_
  exact congrArg (fun o => Cert.Experts.close o (x6 (ix3 b r l)) (x7 (ix1 l)) (x8 (ix3 b 0 l)) l)
    (Cert.Experts.mixture_eq _ _ (fun e => (Cert.Attn.gates_at x0 x1 x2 x3 x4 x5 x6 x7 x8 h b r e).1)
      (fun e => (Cert.Attn.gates_at x0 x1 x2 x3 x4 x5 x6 x7 x8 h b r e).2) _ _ _ _).symm

theorem experts : Cert.algebraic_MoeIdeal_MoeReferenceIdeal_pre_gates_real := by
  pair_intro
  · run_from Cert.MoeIdeal.Gen.run_main m g
  · run_from Cert.MoeReferenceIdeal.Value.run m' g'
    obtain ⟨a0, a1, a2, a3, a4, a5, a6, a7, a8⟩ := hagree c
    rw [Cert.MoeIdeal.Body.final m c, Cert.MoeReferenceIdeal.Read.val_main_v40_eq, a0, a1, a2, a3, a4, a5, a6, a7, a8]
    exact funext fun i => experts_value _ _ _ _ _ _ _ _ _ (hpre c) i

/-- Where the queries and the keys are real, the reference's attention is the kernel's, index by index. -/
theorem attention_value (x0 : Cert.ReferenceIdeal.S4x64.Idx → EReal) (x1 x2 : Cert.ReferenceIdeal.S32x2048x512.Idx → EReal)
    (x3 : Cert.ReferenceIdeal.S32x2048x1536.Idx → EReal) (x4 : Cert.ReferenceIdeal.S32x256x1536.Idx → EReal)
    (x5 : Cert.ReferenceIdeal.S512.Idx → EReal)
    (h : Cert.Pre_scores_finite.fn (F := Ideal) x0 x1 x2 x3 x4 x5 = fun _ => 1#1) (i : Cert.ReferenceIdeal.S32x2048x512.Idx) :
    Cert.ReferenceIdeal.Read.val_main_v67 (F := Ideal) x0 x1 x2 x3 x4 x5 i
      = Cert.KernelIdeal.Head.valueAt x0 x1 x2 x3 x4 x5 (i 0) (i 1) (i 2) := by
  obtain ⟨h1, h2, h4⟩ := Cert.Attn.scores_real x0 x1 x2 x3 x4 x5 h
  obtain ⟨b, r, l, rfl⟩ : ∃ (b : Fin 32) (r : Fin 2048) (l : Fin 512), i = ix3 b r l := ⟨i 0, i 1, i 2, funext fun a => by
    match a with
    | ⟨0, _⟩ => rfl
    | ⟨1, _⟩ => rfl
    | ⟨2, _⟩ => rfl⟩
  refine (Cert.ReferenceIdeal.AttnRead.out_at x0 x1 x2 x3 x4 x5 b r l).trans ?_
  exact congrArg (fun o => Cert.Attn.finish o (x5 (ix1 l)) ⟨l % 128, by omega⟩)
    (Cert.Attn.mixedRef_eq (fun e => h1 _)
      (fun j e => by
        unfold Cert.ReferenceIdeal.AttnRead.keys
        split
        · exact h4 b ⟨j, by omega⟩ ⟨_, by omega⟩
        · exact h2 _))

theorem attention : Cert.algebraic_KernelIdeal_ReferenceIdeal_pre_scores_finite := by
  pair_intro
  · run_from Cert.KernelIdeal.Gen.run_main m g
  · run_from Cert.ReferenceIdeal.Value.run m' g'
    obtain ⟨a0, a1, a2, a3, a4, a5⟩ := hagree c
    rw [Cert.KernelIdeal.Head.final m c, Cert.ReferenceIdeal.Read.val_main_v67_eq, a0, a1, a2, a3, a4, a5]
    exact funext fun i => attention_value _ _ _ _ _ _ (hpre c) i

/-- The projections: the reference's element at an index is the kernel's. -/
theorem hyena_in : Cert.algebraic_HyenaInIdeal_HyenaInReferenceIdeal := by
  pair_intro
  · run_from Cert.HyenaInIdeal.Gen.run_main m g
  · run_from Cert.HyenaInReferenceIdeal.Value.run m' g'
    rw [Cert.HyenaInIdeal.Body.final m c, Cert.HyenaInReferenceIdeal.Read.val_main_v29_eq]
    refine funext fun i => ?_
    obtain ⟨b, r, l, rfl⟩ : ∃ (b : Fin 32) (r : Fin 2048) (l : Fin 3072), i = ix3 b r l := ⟨i 0, i 1, i 2, funext fun a => by
      match a with
      | ⟨0, _⟩ => rfl
      | ⟨1, _⟩ => rfl
      | ⟨2, _⟩ => rfl⟩
    exact Cert.HyenaInReferenceIdeal.ConvRead.out_at _ _ _ _ b r l

theorem mixer_conv : Cert.algebraic_MixerConvIdeal_MixerConvReferenceIdeal := by
  pair_intro
  · run_from Cert.MixerConvIdeal.Gen.run_main m g
  · run_from Cert.MixerConvReferenceIdeal.Value.run m' g'
    obtain ⟨a0, a1, a2, a3⟩ := hagree c
    rw [Cert.MixerConvIdeal.Body.final m c, Cert.MixerConvReferenceIdeal.Read.val_main_v30_eq, a0, a1, a2, a3]
    refine funext fun i => ?_
    obtain ⟨b, r, l, rfl⟩ : ∃ (b : Fin 32) (r : Fin 2048) (l : Fin 1024), i = ix3 b r l := ⟨i 0, i 1, i 2, funext fun a => by
      match a with
      | ⟨0, _⟩ => rfl
      | ⟨1, _⟩ => rfl
      | ⟨2, _⟩ => rfl⟩
    exact Cert.MixerConvReferenceIdeal.ConvRead.out_at _ _ _ _ b r l

theorem mixer_in : Cert.algebraic_MixerInIdeal_MixerInReferenceIdeal := by
  pair_intro
  · run_from Cert.MixerInIdeal.Gen.run_main m g
  · run_from Cert.MixerInReferenceIdeal.Value.run m' g'
    rw [Cert.MixerInIdeal.Body.final m c, Cert.MixerInReferenceIdeal.Read.val_main_v3_eq]
    refine funext fun i => ?_
    obtain ⟨b, r, l, rfl⟩ : ∃ (b : Fin 32) (r : Fin 2048) (l : Fin 1536), i = ix3 b r l := ⟨i 0, i 1, i 2, funext fun a => by
      match a with
      | ⟨0, _⟩ => rfl
      | ⟨1, _⟩ => rfl
      | ⟨2, _⟩ => rfl⟩
    exact Cert.MixerInReferenceIdeal.OutRead.out_at _ _ b r l

theorem hyena_out : Cert.algebraic_HyenaOutIdeal_HyenaOutReferenceIdeal := by
  pair_intro
  · run_from Cert.HyenaOutIdeal.Gen.run_main m g
  · run_from Cert.HyenaOutReferenceIdeal.Value.run m' g'
    rw [Cert.HyenaOutIdeal.Body.final m c, Cert.HyenaOutReferenceIdeal.Read.val_main_v18_eq]
    refine funext fun i => ?_
    obtain ⟨b, r, l, rfl⟩ : ∃ (b : Fin 32) (r : Fin 2048) (l : Fin 1024), i = ix3 b r l := ⟨i 0, i 1, i 2, funext fun a => by
      match a with
      | ⟨0, _⟩ => rfl
      | ⟨1, _⟩ => rfl
      | ⟨2, _⟩ => rfl⟩
    exact Cert.HyenaOutReferenceIdeal.OutRead.out_at _ _ _ _ _ b r l

theorem mixer_out : Cert.algebraic_MixerOutIdeal_MixerOutReferenceIdeal := by
  pair_intro
  · run_from Cert.MixerOutIdeal.Gen.run_main m g
  · run_from Cert.MixerOutReferenceIdeal.Value.run m' g'
    rw [Cert.MixerOutIdeal.Body.final m c, Cert.MixerOutReferenceIdeal.Read.val_main_v20_eq]
    refine funext fun i => ?_
    obtain ⟨b, r, l, rfl⟩ : ∃ (b : Fin 32) (r : Fin 2048) (l : Fin 1024), i = ix3 b r l := ⟨i 0, i 1, i 2, funext fun a => by
      match a with
      | ⟨0, _⟩ => rfl
      | ⟨1, _⟩ => rfl
      | ⟨2, _⟩ => rfl⟩
    exact Cert.MixerOutReferenceIdeal.OutRead.out_at _ _ _ _ _ _ b r l

/-- Where the activations and the weights are real, the rotated projections agree. -/
theorem rope_q : Cert.algebraic_RopeQIdeal_RopeQReferenceIdeal_pre_projected_finite := by
  pair_intro
  · run_from Cert.RopeQIdeal.Gen.run_main m g
  · run_from Cert.RopeQReferenceIdeal.Value.run m' g'
    obtain ⟨hh, hw⟩ := Cert.Rope.projected_real _ _ _ _ (hpre c)
    rw [Cert.RopeQIdeal.Body.final m c hh hw, Cert.RopeQReferenceIdeal.Read.val_main_v19_eq]
    refine funext fun i => ?_
    obtain ⟨b, r, l, rfl⟩ : ∃ (b : Fin 32) (r : Fin 2048) (l : Fin 512), i = ix3 b r l := ⟨i 0, i 1, i 2, funext fun a => by
      match a with
      | ⟨0, _⟩ => rfl
      | ⟨1, _⟩ => rfl
      | ⟨2, _⟩ => rfl⟩
    exact Cert.RopeQReferenceIdeal.OutRead.out_at _ _ _ _ b r l

theorem rope_k : Cert.algebraic_RopeKIdeal_RopeKReferenceIdeal_pre_projected_finite := by
  pair_intro
  · run_from Cert.RopeKIdeal.Gen.run_main m g
  · run_from Cert.RopeKReferenceIdeal.Value.run m' g'
    obtain ⟨hh, hw⟩ := Cert.Rope.projected_real _ _ _ _ (hpre c)
    rw [Cert.RopeKIdeal.Body.final m c hh hw, Cert.RopeKReferenceIdeal.Read.val_main_v17_eq]
    refine funext fun i => ?_
    obtain ⟨b, r, l, rfl⟩ : ∃ (b : Fin 32) (r : Fin 2048) (l : Fin 512), i = ix3 b r l := ⟨i 0, i 1, i 2, funext fun a => by
      match a with
      | ⟨0, _⟩ => rfl
      | ⟨1, _⟩ => rfl
      | ⟨2, _⟩ => rfl⟩
    exact Cert.RopeKReferenceIdeal.OutRead.out_at _ _ _ _ b r l

theorem context_in : Cert.algebraic_ContextInIdeal_ContextInReferenceIdeal := by
  pair_intro
  · run_from Cert.ContextInIdeal.Gen.run_main m g
  · run_from Cert.ContextInReferenceIdeal.Value.run m' g'
    rw [Cert.ContextInIdeal.Body.final m c, Cert.ContextInReferenceIdeal.Read.val_main_v3_eq]
    refine funext fun i => ?_
    obtain ⟨b, r, l, rfl⟩ : ∃ (b : Fin 32) (r : Fin 256) (l : Fin 1536), i = ix3 b r l := ⟨i 0, i 1, i 2, funext fun a => by
      match a with
      | ⟨0, _⟩ => rfl
      | ⟨1, _⟩ => rfl
      | ⟨2, _⟩ => rfl⟩
    exact Cert.ContextInReferenceIdeal.OutRead.out_at _ _ b r l

theorem context_conv : Cert.algebraic_ContextConvIdeal_ContextConvReferenceIdeal := by
  pair_intro
  · run_from Cert.ContextConvIdeal.Gen.run_main m g
  · run_from Cert.ContextConvReferenceIdeal.Value.run m' g'
    obtain ⟨a0, a1, a2, a3⟩ := hagree c
    rw [Cert.ContextConvIdeal.Body.final m c, Cert.ContextConvReferenceIdeal.Read.val_main_v30_eq, a0, a1, a2, a3]
    refine funext fun i => ?_
    obtain ⟨b, r, l, rfl⟩ : ∃ (b : Fin 32) (r : Fin 256) (l : Fin 512), i = ix3 b r l := ⟨i 0, i 1, i 2, funext fun a => by
      match a with
      | ⟨0, _⟩ => rfl
      | ⟨1, _⟩ => rfl
      | ⟨2, _⟩ => rfl⟩
    exact Cert.ContextConvReferenceIdeal.ConvRead.out_at _ _ _ _ b r l

/-- A reference's frame: its run at the arguments; it declares no semaphore. -/
theorem frame_experts : Cert.quiescent_MoeReferenceIdeal := fun m g _ =>
  (θ_run Cert.MoeReferenceIdeal.defs _ _).mono (fun r h => ⟨fun c => (h c).2, sem_eq_zero_of_no_sems (by decide) r.2⟩)
    (Cert.MoeReferenceIdeal.Value.run (F := Ideal) m g)

theorem frame_attention : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_hyena_in : Cert.quiescent_HyenaInReferenceIdeal := fun m g _ =>
  (θ_run Cert.HyenaInReferenceIdeal.defs _ _).mono (fun r h => ⟨fun c => (h c).2, sem_eq_zero_of_no_sems (by decide) r.2⟩)
    (Cert.HyenaInReferenceIdeal.Value.run (F := Ideal) m g)

theorem frame_mixer_conv : Cert.quiescent_MixerConvReferenceIdeal := fun m g _ =>
  (θ_run Cert.MixerConvReferenceIdeal.defs _ _).mono (fun r h => ⟨fun c => (h c).2, sem_eq_zero_of_no_sems (by decide) r.2⟩)
    (Cert.MixerConvReferenceIdeal.Value.run (F := Ideal) m g)

theorem frame_mixer_in : Cert.quiescent_MixerInReferenceIdeal := fun m g _ =>
  (θ_run Cert.MixerInReferenceIdeal.defs _ _).mono (fun r h => ⟨fun c => (h c).2, sem_eq_zero_of_no_sems (by decide) r.2⟩)
    (Cert.MixerInReferenceIdeal.Value.run (F := Ideal) m g)

theorem frame_hyena_out : Cert.quiescent_HyenaOutReferenceIdeal := fun m g _ =>
  (θ_run Cert.HyenaOutReferenceIdeal.defs _ _).mono (fun r h => ⟨fun c => (h c).2, sem_eq_zero_of_no_sems (by decide) r.2⟩)
    (Cert.HyenaOutReferenceIdeal.Value.run (F := Ideal) m g)

theorem frame_mixer_out : Cert.quiescent_MixerOutReferenceIdeal := fun m g _ =>
  (θ_run Cert.MixerOutReferenceIdeal.defs _ _).mono (fun r h => ⟨fun c => (h c).2, sem_eq_zero_of_no_sems (by decide) r.2⟩)
    (Cert.MixerOutReferenceIdeal.Value.run (F := Ideal) m g)

theorem frame_rope_q : Cert.quiescent_RopeQReferenceIdeal := fun m g _ =>
  (θ_run Cert.RopeQReferenceIdeal.defs _ _).mono (fun r h => ⟨fun c => (h c).2, sem_eq_zero_of_no_sems (by decide) r.2⟩)
    (Cert.RopeQReferenceIdeal.Value.run (F := Ideal) m g)

theorem frame_rope_k : Cert.quiescent_RopeKReferenceIdeal := fun m g _ =>
  (θ_run Cert.RopeKReferenceIdeal.defs _ _).mono (fun r h => ⟨fun c => (h c).2, sem_eq_zero_of_no_sems (by decide) r.2⟩)
    (Cert.RopeKReferenceIdeal.Value.run (F := Ideal) m g)

theorem frame_context_in : Cert.quiescent_ContextInReferenceIdeal := fun m g _ =>
  (θ_run Cert.ContextInReferenceIdeal.defs _ _).mono (fun r h => ⟨fun c => (h c).2, sem_eq_zero_of_no_sems (by decide) r.2⟩)
    (Cert.ContextInReferenceIdeal.Value.run (F := Ideal) m g)

theorem frame_context_conv : Cert.quiescent_ContextConvReferenceIdeal := fun m g _ =>
  (θ_run Cert.ContextConvReferenceIdeal.defs _ _).mono (fun r h => ⟨fun c => (h c).2, sem_eq_zero_of_no_sems (by decide) r.2⟩)
    (Cert.ContextConvReferenceIdeal.Value.run (F := Ideal) m g)

theorem claim : Cert.Claim := ⟨Cert.Moe.Gen.facts, Cert.MoeIdeal.Gen.facts, Cert.MoeReferenceIdeal.Gen.facts,
  Cert.Kernel.Gen.facts, Cert.KernelIdeal.Gen.facts, Cert.ReferenceIdeal.Gen.facts,
  Cert.HyenaIn.Gen.facts, Cert.HyenaInIdeal.Gen.facts, Cert.HyenaInReferenceIdeal.Gen.facts,
  Cert.MixerConv.Gen.facts, Cert.MixerConvIdeal.Gen.facts, Cert.MixerConvReferenceIdeal.Gen.facts,
  Cert.MixerIn.Gen.facts, Cert.MixerInIdeal.Gen.facts, Cert.MixerInReferenceIdeal.Gen.facts,
  Cert.HyenaOut.Gen.facts, Cert.HyenaOutIdeal.Gen.facts, Cert.HyenaOutReferenceIdeal.Gen.facts,
  Cert.MixerOut.Gen.facts, Cert.MixerOutIdeal.Gen.facts, Cert.MixerOutReferenceIdeal.Gen.facts,
  Cert.RopeQ.Gen.facts, Cert.RopeQIdeal.Gen.facts, Cert.RopeQReferenceIdeal.Gen.facts,
  Cert.RopeK.Gen.facts, Cert.RopeKIdeal.Gen.facts, Cert.RopeKReferenceIdeal.Gen.facts,
  Cert.ContextIn.Gen.facts, Cert.ContextInIdeal.Gen.facts, Cert.ContextInReferenceIdeal.Gen.facts,
  Cert.ContextConv.Gen.facts, Cert.ContextConvIdeal.Gen.facts, Cert.ContextConvReferenceIdeal.Gen.facts,
  Cert.Pre_gates_real.Gen.facts, Cert.Pre_scores_finite.Gen.facts, Cert.Pre_projected_finite.Gen.facts,
  fun m g _ => Cert.Moe.Gen.frame m g,
  fun m g _ => Cert.MoeIdeal.Gen.frame m g,
  fun m g _ => Cert.MoeIdeal.Gen.frame m g,
  frame_experts,
  fun m g _ => frame_experts m g trivial,
  fun m g _ => Cert.Kernel.Gen.frame m g,
  fun m g _ => Cert.KernelIdeal.Gen.frame m g,
  fun m g _ => Cert.KernelIdeal.Gen.frame m g,
  frame_attention,
  fun m g _ => frame_attention m g trivial,
  fun m g _ => Cert.HyenaIn.Gen.frame m g,
  fun m g _ => Cert.HyenaInIdeal.Gen.frame m g,
  frame_hyena_in,
  fun m g _ => Cert.MixerConv.Gen.frame m g,
  fun m g _ => Cert.MixerConvIdeal.Gen.frame m g,
  frame_mixer_conv,
  fun m g _ => Cert.MixerIn.Gen.frame m g,
  fun m g _ => Cert.MixerInIdeal.Gen.frame m g,
  frame_mixer_in,
  fun m g _ => Cert.HyenaOut.Gen.frame m g,
  fun m g _ => Cert.HyenaOutIdeal.Gen.frame m g,
  frame_hyena_out,
  fun m g _ => Cert.MixerOut.Gen.frame m g,
  fun m g _ => Cert.MixerOutIdeal.Gen.frame m g,
  frame_mixer_out,
  fun m g _ => Cert.RopeQ.Gen.frame m g,
  fun m g _ => Cert.RopeQIdeal.Gen.frame m g,
  fun m g _ => Cert.RopeQIdeal.Gen.frame m g,
  frame_rope_q,
  fun m g _ => frame_rope_q m g trivial,
  fun m g _ => Cert.RopeK.Gen.frame m g,
  fun m g _ => Cert.RopeKIdeal.Gen.frame m g,
  fun m g _ => Cert.RopeKIdeal.Gen.frame m g,
  frame_rope_k,
  fun m g _ => frame_rope_k m g trivial,
  fun m g _ => Cert.ContextIn.Gen.frame m g,
  fun m g _ => Cert.ContextInIdeal.Gen.frame m g,
  frame_context_in,
  fun m g _ => Cert.ContextConv.Gen.frame m g,
  fun m g _ => Cert.ContextConvIdeal.Gen.frame m g,
  frame_context_conv,
  trivial,
  experts,
  trivial,
  attention,
  trivial,
  hyena_in,
  trivial,
  mixer_conv,
  trivial,
  mixer_in,
  trivial,
  hyena_out,
  trivial,
  mixer_out,
  trivial,
  rope_q,
  trivial,
  rope_k,
  trivial,
  context_in,
  trivial,
  context_conv⟩

end Cert.Proof

end
